-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v61_0)) (v1 : (c : Dev Cert.Kernel5Ideal.nD) → Buf (Elt Ideal) ((c.tc : Thread Cert.Kernel5Ideal.nD Cert.Kernel5Ideal.τ).loc Cert.Kernel5Ideal.main_v61_1)) (v2 : (c : Dev Cert.Kernel5Ideal.nD) → Buf (Elt Ideal) ((c.tc : Thread Cert.Kernel5Ideal.nD Cert.Kernel5Ideal.τ).loc Cert.Kernel5Ideal.main_v61_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v61_0) = v0 c
          ∧ r.2.mem ((c.tc : Thread Cert.Kernel5Ideal.nD Cert.Kernel5Ideal.τ).loc Cert.Kernel5Ideal.main_v61_1) = v1 c
          ∧ r.2.mem ((c.tc : Thread Cert.Kernel5Ideal.nD Cert.Kernel5Ideal.τ).loc Cert.Kernel5Ideal.main_v61_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v68) = v0 c
          ∧ r.2.mem ((c.tc : Thread Cert.Reference5Ideal.nD Cert.Reference5Ideal.τ).loc Cert.Reference5Ideal.main_v70) = v1 c
          ∧ r.2.mem ((c.tc : Thread Cert.Reference5Ideal.nD Cert.Reference5Ideal.τ).loc Cert.Reference5Ideal.main_v73) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v19_0)) (v1 : (c : Dev Cert.Kernel6Ideal.nD) → Buf (Elt Ideal) ((c.tc : Thread Cert.Kernel6Ideal.nD Cert.Kernel6Ideal.τ).loc Cert.Kernel6Ideal.main_v19_1)) (v2 : (c : Dev Cert.Kernel6Ideal.nD) → Buf (Elt Ideal) ((c.tc : Thread Cert.Kernel6Ideal.nD Cert.Kernel6Ideal.τ).loc Cert.Kernel6Ideal.main_v19_2)) (v3 : (c : Dev Cert.Kernel6Ideal.nD) → Buf (Elt Ideal) ((c.tc : Thread Cert.Kernel6Ideal.nD Cert.Kernel6Ideal.τ).loc Cert.Kernel6Ideal.main_v19_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v19_0) = v0 c
          ∧ r.2.mem ((c.tc : Thread Cert.Kernel6Ideal.nD Cert.Kernel6Ideal.τ).loc Cert.Kernel6Ideal.main_v19_1) = v1 c
          ∧ r.2.mem ((c.tc : Thread Cert.Kernel6Ideal.nD Cert.Kernel6Ideal.τ).loc Cert.Kernel6Ideal.main_v19_2) = v2 c
          ∧ r.2.mem ((c.tc : Thread Cert.Kernel6Ideal.nD Cert.Kernel6Ideal.τ).loc Cert.Kernel6Ideal.main_v19_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_v36) = v1 c
          ∧ r.2.mem ((c.tc : Thread Cert.Reference6Ideal.nD Cert.Reference6Ideal.τ).loc Cert.Reference6Ideal.main_v42) = v2 c
          ∧ r.2.mem ((c.tc : Thread Cert.Reference6Ideal.nD Cert.Reference6Ideal.τ).loc Cert.Reference6Ideal.main_v50) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S1x16384x8x128 : Shape := ⟨4, ![1, 16384, 8, 128]⟩
abbrev S1x16384x8x64 : Shape := ⟨4, ![1, 16384, 8, 64]⟩
abbrev S1x16384x64 : Shape := ⟨3, ![1, 16384, 64]⟩
abbrev S_ : Shape := ⟨0, ![]⟩

class Facts : Prop where
  bcast_S_S1x16384x8x128 : S_.BroadcastsInDim S1x16384x8x128 (![] : Fin 0 → Fin S1x16384x8x128.rank)
  bcast_S_S1x16384x8x64 : S_.BroadcastsInDim S1x16384x8x64 (![] : Fin 0 → Fin S1x16384x8x64.rank)
  bcast_S_S1x16384x64 : S_.BroadcastsInDim S1x16384x64 (![] : Fin 0 → Fin S1x16384x64.rank)

variable [Facts]

def fn {F : FTy → Type} [FloatOps F] (main_arg0 : FVec F S1x16384x8x128 .f32) (main_arg1 : FVec F S1x16384x8x64 .f32) (main_arg2 : FVec F S1x16384x8x128 .f32) (main_arg3 : FVec F S1x16384x64 .f32) (main_arg4 : FVec F S1x16384x8x128 .f32) : IVec S1x16384x8x128 1 × IVec S1x16384x8x64 1 × IVec S1x16384x8x128 1 × IVec S1x16384x64 1 :=
  let main_v0 : FVec F S1x16384x8x128 .f32 := Host.absf main_arg0
  let main_cst : FVec F S_ .f32 := constant S_ .f32 0x7F800000#32
  let main_v1 : FVec F S1x16384x8x128 .f32 := broadcastInDim S1x16384x8x128 ![] bcast_S_S1x16384x8x128 main_cst
  let main_v2 : IVec S1x16384x8x128 1 := cmpf .olt main_v0 main_v1
  let main_v3 : FVec F S1x16384x8x64 .f32 := Host.absf main_arg1
  let main_cst_0 : FVec F S_ .f32 := constant S_ .f32 0x7F800000#32
  let main_v4 : FVec F S1x16384x8x64 .f32 := broadcastInDim S1x16384x8x64 ![] bcast_S_S1x16384x8x64 main_cst_0
  let main_v5 : IVec S1x16384x8x64 1 := cmpf .olt main_v3 main_v4
  let main_v6 : FVec F S1x16384x8x128 .f32 := Host.absf main_arg2
  let main_cst_1 : FVec F S_ .f32 := constant S_ .f32 0x7F800000#32
  let main_v7 : FVec F S1x16384x8x128 .f32 := broadcastInDim S1x16384x8x128 ![] bcast_S_S1x16384x8x128 main_cst_1
  let main_v8 : IVec S1x16384x8x128 1 := cmpf .olt main_v6 main_v7
  let main_v9 : FVec F S1x16384x64 .f32 := Host.absf main_arg3
  let main_cst_2 : FVec F S_ .f32 := constant S_ .f32 0x7F800000#32
  let main_v10 : FVec F S1x16384x64 .f32 := broadcastInDim S1x16384x64 ![] bcast_S_S1x16384x64 main_cst_2
  let main_v11 : IVec S1x16384x64 1 := cmpf .olt main_v9 main_v10
  (main_v2, main_v5, main_v8, main_v11)
-- ==== Kernel.lean ====
abbrev S1x16384x8x128 : Shape := ⟨4, ![1, 16384, 8, 128]⟩
abbrev S1x16384x8x64 : Shape := ⟨4, ![1, 16384, 8, 64]⟩
abbrev S1x16384x64 : Shape := ⟨3, ![1, 16384, 64]⟩
abbrev S16384x8x128 : Shape := ⟨3, ![16384, 8, 128]⟩
abbrev S16384x8x64 : Shape := ⟨3, ![16384, 8, 64]⟩
abbrev S16384x8x192 : Shape := ⟨3, ![16384, 8, 192]⟩
abbrev S_ : Shape := ⟨0, ![]⟩
abbrev S16384x8x256 : Shape := ⟨3, ![16384, 8, 256]⟩
abbrev S16384x2048 : Shape := ⟨2, ![16384, 2048]⟩
abbrev S2048x16384 : Shape := ⟨2, ![2048, 16384]⟩
abbrev S16384x64 : Shape := ⟨2, ![16384, 64]⟩
abbrev S16384x128 : Shape := ⟨2, ![16384, 128]⟩
abbrev S16384x1x128 : Shape := ⟨3, ![16384, 1, 128]⟩
abbrev S16384x1024 : Shape := ⟨2, ![16384, 1024]⟩
abbrev S1024x16384 : Shape := ⟨2, ![1024, 16384]⟩
abbrev S256x2048 : Shape := ⟨2, ![256, 2048]⟩
abbrev S16384x256 : Shape := ⟨2, ![16384, 256]⟩
abbrev S128x16384 : Shape := ⟨2, ![128, 16384]⟩
abbrev S2048x128 : Shape := ⟨2, ![2048, 128]⟩
abbrev S2x512x512 : Shape := ⟨3, ![2, 512, 512]⟩
abbrev S2x1x512 : Shape := ⟨3, ![2, 1, 512]⟩
abbrev S4x1x512 : Shape := ⟨3, ![4, 1, 512]⟩
abbrev S4x128x512 : Shape := ⟨3, ![4, 128, 512]⟩
abbrev S512x256 : Shape := ⟨2, ![512, 256]⟩
abbrev S256x512 : Shape := ⟨2, ![256, 512]⟩
abbrev S512x512 : Shape := ⟨2, ![512, 512]⟩
abbrev S1x512x512 : Shape := ⟨3, ![1, 512, 512]⟩
abbrev S512 : Shape := ⟨1, ![512]⟩
abbrev S1x512 : Shape := ⟨2, ![1, 512]⟩
abbrev S1x1x512 : Shape := ⟨3, ![1, 1, 512]⟩
abbrev S128x512 : Shape := ⟨2, ![128, 512]⟩
abbrev S16x512 : Shape := ⟨2, ![16, 512]⟩
abbrev S144x512 : Shape := ⟨2, ![144, 512]⟩
abbrev S1x128x512 : Shape := ⟨3, ![1, 128, 512]⟩
abbrev S512x128 : Shape := ⟨2, ![512, 128]⟩

abbrev nBuf : Space → Nat
  | .hbm => 36
  | .vmem => 13
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x8x64, .f32⟩
  | .hbm, ⟨2, _⟩ => ⟨S1x16384x8x128, .f32⟩
  | .hbm, ⟨3, _⟩ => ⟨S1x16384x64, .f32⟩
  | .hbm, ⟨4, _⟩ => ⟨S1x16384x8x128, .f32⟩
  | .hbm, ⟨5, _⟩ => ⟨S16384x8x128, .f32⟩
  | .hbm, ⟨6, _⟩ => ⟨S16384x8x64, .f32⟩
  | .hbm, ⟨7, _⟩ => ⟨S16384x8x192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384x8x192, .f32⟩
  | .hbm, ⟨14, _⟩ => ⟨S16384x8x192, .f32⟩
  | .hbm, ⟨15, _⟩ => ⟨S_, .i32⟩
  | .hbm, ⟨16, _⟩ => ⟨S_, .f32⟩
  | .hbm, ⟨17, _⟩ => ⟨S16384x8x256, .f32⟩
  | .hbm, ⟨18, _⟩ => ⟨S16384x2048, .f32⟩
  | .hbm, ⟨19, _⟩ => ⟨S2048x16384, .f32⟩
  | .hbm, ⟨20, _⟩ => ⟨S2048x16384, .bf16⟩
  | .hbm, ⟨21, _⟩ => ⟨S16384x64, .f32⟩
  | .hbm, ⟨22, _⟩ => ⟨S_, .i32⟩
  | .hbm, ⟨23, _⟩ => ⟨S_, .f32⟩
  | .hbm, ⟨24, _⟩ => ⟨S16384x128, .f32⟩
  | .hbm, ⟨25, _⟩ => ⟨S16384x1x128, .f32⟩
  | .hbm, ⟨26, _⟩ => ⟨S16384x8x128, .f32⟩
  | .hbm, ⟨27, _⟩ => ⟨S16384x8x128, .f32⟩
  | .hbm, ⟨28, _⟩ => ⟨S16384x8x256, .f32⟩
  | .hbm, ⟨29, _⟩ => ⟨S16384x2048, .f32⟩
  | .hbm, ⟨30, _⟩ => ⟨S16384x2048, .bf16⟩
  | .hbm, ⟨31, _⟩ => ⟨S16384x8x128, .f32⟩
  | .hbm, ⟨32, _⟩ => ⟨S16384x1024, .f32⟩
  | .hbm, ⟨33, _⟩ => ⟨S1024x16384, .f32⟩
  | .hbm, ⟨34, _⟩ => ⟨S1024x16384, .bf16⟩
  | .hbm, ⟨35, _⟩ => ⟨S16384x1024, .bf16⟩
  | .local _ .vmem, ⟨0, _⟩ => ⟨S256x2048, .bf16⟩
  | .local _ .vmem, ⟨1, _⟩ => ⟨S256x2048, .bf16⟩
  | .local _ .vmem, ⟨2, _⟩ => ⟨S16384x256, .bf16⟩
  | .local _ .vmem, ⟨3, _⟩ => ⟨S16384x256, .bf16⟩
  | .local _ .vmem, ⟨4, _⟩ => ⟨S128x16384, .bf16⟩
  | .local _ .vmem, ⟨5, _⟩ => ⟨S128x16384, .bf16⟩
  | .local _ .vmem, ⟨6, _⟩ => ⟨S2048x128, .bf16⟩
  | .local _ .vmem, ⟨7, _⟩ => ⟨S2048x128, .bf16⟩
  | .local _ .vmem, ⟨8, _⟩ => ⟨S2x512x512, .f32⟩
  | .local _ .vmem, ⟨9, _⟩ => ⟨S2x1x512, .f32⟩
  | .local _ .vmem, ⟨10, _⟩ => ⟨S4x1x512, .f32⟩
  | .local _ .vmem, ⟨11, _⟩ => ⟨S4x1x512, .f32⟩
  | .local _ .vmem, ⟨12, _⟩ => ⟨S4x128x512, .f32⟩
  | _, _ => ⟨S1x16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_mult1 : BitVec 32 :=
  let c0_i32 : BitVec 32 := 0#32
  c0_i32
@[reducible] def k0_t1_loop (i : grid0.Coords) : Scf.Loop 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_30 : BitVec 32 := 1#32
  ⟨c0_i32_28, v49, c1_i32_30⟩
def k0_mult2 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_450 : BitVec 32 := 4#32
  let v672 : BitVec 32 := Scalar.muli arg11 c4_i32_450
  let c0_i32_451 : BitVec 32 := 0#32
  let v673 : BitVec 32 := Scalar.addi v672 c0_i32_451
  let c512_i32_452 : BitVec 32 := 512#32
  let v674 : BitVec 32 := Scalar.muli v673 c512_i32_452
  v674
def k0_off1 (i : grid0.Coords) (k0_t1 : Fin (k0_t1_loop i).trips) (c0_i32_451 : BitVec 32) : Fin 2 → Nat :=
  let c0_i32_28 : BitVec 32 := 0#32
  let c1_i32_30 : BitVec 32 := 1#32
  let arg11 : BitVec 32 := Scf.iv c0_i32_28 c1_i32_30 k0_t1
  let c4_i32_450 : BitVec 32 := 4#32
  let v672 : BitVec 32 := Scalar.muli arg11 c4_i32_450
  let v673 : BitVec 32 := Scalar.addi v672 c0_i32_451
  let c512_i32_452 : BitVec 32 := 512#32
  let v674 : BitVec 32 := Scalar.muli v673 c512_i32_452
  let v675 : BitVec 32 := v674
  let v676 : Index := Scalar.indexCast v675
  let c0_453 : Index := 0#32
  ![v676.toNat, 0]
def k0_mult3 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_450 : BitVec 32 := 4#32
  let v672 : BitVec 32 := Scalar.muli arg11 c4_i32_450
  let c0_i32_451 : BitVec 32 := 0#32
  let v673 : BitVec 32 := Scalar.addi v672 c0_i32_451
  let c512_i32_473 : BitVec 32 := 512#32
  let v703 : BitVec 32 := Scalar.muli v673 c512_i32_473
  v703
def k0_off2 (i : grid0.Coords) (k0_t1 : Fin (k0_t1_loop i).trips) (c0_i32_451 : BitVec 32) : Fin 2 → Nat :=
  let c0_474 : Index := 0#32
  let c0_i32_28 : BitVec 32 := 0#32
  let c1_i32_30 : BitVec 32 := 1#32
  let arg11 : BitVec 32 := Scf.iv c0_i32_28 c1_i32_30 k0_t1
  let c4_i32_450 : BitVec 32 := 4#32
  let v672 : BitVec 32 := Scalar.muli arg11 c4_i32_450
  let v673 : BitVec 32 := Scalar.addi v672 c0_i32_451
  let c512_i32_473 : BitVec 32 := 512#32
  let v703 : BitVec 32 := Scalar.muli v673 c512_i32_473
  let v704 : BitVec 32 := v703
  let v705 : Index := Scalar.indexCast v704
  ![0, v705.toNat]
def k0_mult4 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_450 : BitVec 32 := 4#32
  let v672 : BitVec 32 := Scalar.muli arg11 c4_i32_450
  let c0_i32_451 : BitVec 32 := 0#32
  let v673 : BitVec 32 := Scalar.addi v672 c0_i32_451
  let c512_i32_492 : BitVec 32 := 512#32
  let v731 : BitVec 32 := Scalar.muli v673 c512_i32_492
  v731
def k0_mult5 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_450 : BitVec 32 := 4#32
  let v672 : BitVec 32 := Scalar.muli arg11 c4_i32_450
  let c0_i32_451 : BitVec 32 := 0#32
  let v673 : BitVec 32 := Scalar.addi v672 c0_i32_451
  let c512_i32_513 : BitVec 32 := 512#32
  let v760 : BitVec 32 := Scalar.muli v673 c512_i32_513
  v760
def k0_mult6 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_450 : BitVec 32 := 4#32
  let v672 : BitVec 32 := Scalar.muli arg11 c4_i32_450
  let c0_i32_451 : BitVec 32 := 0#32
  let v673 : BitVec 32 := Scalar.addi v672 c0_i32_451
  let c512_i32_532 : BitVec 32 := 512#32
  let v788 : BitVec 32 := Scalar.muli v673 c512_i32_532
  v788
def k0_mult7 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_450 : BitVec 32 := 4#32
  let v672 : BitVec 32 := Scalar.muli arg11 c4_i32_450
  let c0_i32_451 : BitVec 32 := 0#32
  let v673 : BitVec 32 := Scalar.addi v672 c0_i32_451
  let c512_i32_553 : BitVec 32 := 512#32
  let v817 : BitVec 32 := Scalar.muli v673 c512_i32_553
  v817
def k0_mult8 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_450 : BitVec 32 := 4#32
  let v672 : BitVec 32 := Scalar.muli arg11 c4_i32_450
  let c0_i32_451 : BitVec 32 := 0#32
  let v673 : BitVec 32 := Scalar.addi v672 c0_i32_451
  let c1_i32_572 : BitVec 32 := 1#32
  let v845 : BitVec 32 := Scalar.addi v673 c1_i32_572
  let c512_i32_573 : BitVec 32 := 512#32
  let v846 : BitVec 32 := Scalar.muli v845 c512_i32_573
  v846
def k0_off3 (i : grid0.Coords) (k0_t1 : Fin (k0_t1_loop i).trips) (c0_i32_451 : BitVec 32) : Fin 2 → Nat :=
  let c0_i32_28 : BitVec 32 := 0#32
  let c1_i32_30 : BitVec 32 := 1#32
  let arg11 : BitVec 32 := Scf.iv c0_i32_28 c1_i32_30 k0_t1
  let c4_i32_450 : BitVec 32 := 4#32
  let v672 : BitVec 32 := Scalar.muli arg11 c4_i32_450
  let v673 : BitVec 32 := Scalar.addi v672 c0_i32_451
  let c1_i32_572 : BitVec 32 := 1#32
  let v845 : BitVec 32 := Scalar.addi v673 c1_i32_572
  let c512_i32_573 : BitVec 32 := 512#32
  let v846 : BitVec 32 := Scalar.muli v845 c512_i32_573
  let v847 : BitVec 32 := v846
  let v848 : Index := Scalar.indexCast v847
  let c0_574 : Index := 0#32
  ![v848.toNat, 0]
def k0_mult9 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_450 : BitVec 32 := 4#32
  let v672 : BitVec 32 := Scalar.muli arg11 c4_i32_450
  let c0_i32_451 : BitVec 32 := 0#32
  let v673 : BitVec 32 := Scalar.addi v672 c0_i32_451
  let c512_i32_594 : BitVec 32 := 512#32
  let v875 : BitVec 32 := Scalar.muli v673 c512_i32_594
  v875
def k0_mult10 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_613 : BitVec 32 := 4#32
  let v903 : BitVec 32 := Scalar.muli arg11 c4_i32_613
  let c1_i32_614 : BitVec 32 := 1#32
  let v904 : BitVec 32 := Scalar.addi v903 c1_i32_614
  let c512_i32_615 : BitVec 32 := 512#32
  let v905 : BitVec 32 := Scalar.muli v904 c512_i32_615
  v905
def k0_mult11 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_613 : BitVec 32 := 4#32
  let v903 : BitVec 32 := Scalar.muli arg11 c4_i32_613
  let c1_i32_614 : BitVec 32 := 1#32
  let v904 : BitVec 32 := Scalar.addi v903 c1_i32_614
  let c512_i32_636 : BitVec 32 := 512#32
  let v934 : BitVec 32 := Scalar.muli v904 c512_i32_636
  v934
def k0_mult12 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_613 : BitVec 32 := 4#32
  let v903 : BitVec 32 := Scalar.muli arg11 c4_i32_613
  let c1_i32_614 : BitVec 32 := 1#32
  let v904 : BitVec 32 := Scalar.addi v903 c1_i32_614
  let c512_i32_655 : BitVec 32 := 512#32
  let v962 : BitVec 32 := Scalar.muli v904 c512_i32_655
  v962
def k0_mult13 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_613 : BitVec 32 := 4#32
  let v903 : BitVec 32 := Scalar.muli arg11 c4_i32_613
  let c1_i32_614 : BitVec 32 := 1#32
  let v904 : BitVec 32 := Scalar.addi v903 c1_i32_614
  let c512_i32_676 : BitVec 32 := 512#32
  let v991 : BitVec 32 := Scalar.muli v904 c512_i32_676
  v991
def k0_mult14 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_613 : BitVec 32 := 4#32
  let v903 : BitVec 32 := Scalar.muli arg11 c4_i32_613
  let c1_i32_614 : BitVec 32 := 1#32
  let v904 : BitVec 32 := Scalar.addi v903 c1_i32_614
  let c512_i32_695 : BitVec 32 := 512#32
  let v1019 : BitVec 32 := Scalar.muli v904 c512_i32_695
  v1019
def k0_mult15 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_613 : BitVec 32 := 4#32
  let v903 : BitVec 32 := Scalar.muli arg11 c4_i32_613
  let c1_i32_614 : BitVec 32 := 1#32
  let v904 : BitVec 32 := Scalar.addi v903 c1_i32_614
  let c512_i32_716 : BitVec 32 := 512#32
  let v1048 : BitVec 32 := Scalar.muli v904 c512_i32_716
  v1048
def k0_mult16 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_613 : BitVec 32 := 4#32
  let v903 : BitVec 32 := Scalar.muli arg11 c4_i32_613
  let c1_i32_614 : BitVec 32 := 1#32
  let v904 : BitVec 32 := Scalar.addi v903 c1_i32_614
  let c1_i32_735 : BitVec 32 := 1#32
  let v1076 : BitVec 32 := Scalar.addi v904 c1_i32_735
  let c512_i32_736 : BitVec 32 := 512#32
  let v1077 : BitVec 32 := Scalar.muli v1076 c512_i32_736
  v1077
def k0_mult17 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_613 : BitVec 32 := 4#32
  let v903 : BitVec 32 := Scalar.muli arg11 c4_i32_613
  let c1_i32_614 : BitVec 32 := 1#32
  let v904 : BitVec 32 := Scalar.addi v903 c1_i32_614
  let c512_i32_757 : BitVec 32 := 512#32
  let v1106 : BitVec 32 := Scalar.muli v904 c512_i32_757
  v1106
def k0_mult18 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_776 : BitVec 32 := 4#32
  let v1134 : BitVec 32 := Scalar.muli arg11 c4_i32_776
  let c2_i32_777 : BitVec 32 := 2#32
  let v1135 : BitVec 32 := Scalar.addi v1134 c2_i32_777
  let c512_i32_778 : BitVec 32 := 512#32
  let v1136 : BitVec 32 := Scalar.muli v1135 c512_i32_778
  v1136
def k0_mult19 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_776 : BitVec 32 := 4#32
  let v1134 : BitVec 32 := Scalar.muli arg11 c4_i32_776
  let c2_i32_777 : BitVec 32 := 2#32
  let v1135 : BitVec 32 := Scalar.addi v1134 c2_i32_777
  let c512_i32_799 : BitVec 32 := 512#32
  let v1165 : BitVec 32 := Scalar.muli v1135 c512_i32_799
  v1165
def k0_mult20 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_776 : BitVec 32 := 4#32
  let v1134 : BitVec 32 := Scalar.muli arg11 c4_i32_776
  let c2_i32_777 : BitVec 32 := 2#32
  let v1135 : BitVec 32 := Scalar.addi v1134 c2_i32_777
  let c512_i32_818 : BitVec 32 := 512#32
  let v1193 : BitVec 32 := Scalar.muli v1135 c512_i32_818
  v1193
def k0_mult21 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_776 : BitVec 32 := 4#32
  let v1134 : BitVec 32 := Scalar.muli arg11 c4_i32_776
  let c2_i32_777 : BitVec 32 := 2#32
  let v1135 : BitVec 32 := Scalar.addi v1134 c2_i32_777
  let c512_i32_839 : BitVec 32 := 512#32
  let v1222 : BitVec 32 := Scalar.muli v1135 c512_i32_839
  v1222
def k0_mult22 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_776 : BitVec 32 := 4#32
  let v1134 : BitVec 32 := Scalar.muli arg11 c4_i32_776
  let c2_i32_777 : BitVec 32 := 2#32
  let v1135 : BitVec 32 := Scalar.addi v1134 c2_i32_777
  let c512_i32_858 : BitVec 32 := 512#32
  let v1250 : BitVec 32 := Scalar.muli v1135 c512_i32_858
  v1250
def k0_mult23 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_776 : BitVec 32 := 4#32
  let v1134 : BitVec 32 := Scalar.muli arg11 c4_i32_776
  let c2_i32_777 : BitVec 32 := 2#32
  let v1135 : BitVec 32 := Scalar.addi v1134 c2_i32_777
  let c512_i32_879 : BitVec 32 := 512#32
  let v1279 : BitVec 32 := Scalar.muli v1135 c512_i32_879
  v1279
def k0_mult24 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_776 : BitVec 32 := 4#32
  let v1134 : BitVec 32 := Scalar.muli arg11 c4_i32_776
  let c2_i32_777 : BitVec 32 := 2#32
  let v1135 : BitVec 32 := Scalar.addi v1134 c2_i32_777
  let c1_i32_898 : BitVec 32 := 1#32
  let v1307 : BitVec 32 := Scalar.addi v1135 c1_i32_898
  let c512_i32_899 : BitVec 32 := 512#32
  let v1308 : BitVec 32 := Scalar.muli v1307 c512_i32_899
  v1308
def k0_mult25 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_776 : BitVec 32 := 4#32
  let v1134 : BitVec 32 := Scalar.muli arg11 c4_i32_776
  let c2_i32_777 : BitVec 32 := 2#32
  let v1135 : BitVec 32 := Scalar.addi v1134 c2_i32_777
  let c512_i32_920 : BitVec 32 := 512#32
  let v1337 : BitVec 32 := Scalar.muli v1135 c512_i32_920
  v1337
def k0_mult26 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_939 : BitVec 32 := 4#32
  let v1365 : BitVec 32 := Scalar.muli arg11 c4_i32_939
  let c3_i32_940 : BitVec 32 := 3#32
  let v1366 : BitVec 32 := Scalar.addi v1365 c3_i32_940
  let c512_i32_941 : BitVec 32 := 512#32
  let v1367 : BitVec 32 := Scalar.muli v1366 c512_i32_941
  v1367
def k0_mult27 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_939 : BitVec 32 := 4#32
  let v1365 : BitVec 32 := Scalar.muli arg11 c4_i32_939
  let c3_i32_940 : BitVec 32 := 3#32
  let v1366 : BitVec 32 := Scalar.addi v1365 c3_i32_940
  let c512_i32_962 : BitVec 32 := 512#32
  let v1396 : BitVec 32 := Scalar.muli v1366 c512_i32_962
  v1396
def k0_mult28 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_939 : BitVec 32 := 4#32
  let v1365 : BitVec 32 := Scalar.muli arg11 c4_i32_939
  let c3_i32_940 : BitVec 32 := 3#32
  let v1366 : BitVec 32 := Scalar.addi v1365 c3_i32_940
  let c512_i32_981 : BitVec 32 := 512#32
  let v1424 : BitVec 32 := Scalar.muli v1366 c512_i32_981
  v1424
def k0_mult29 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_939 : BitVec 32 := 4#32
  let v1365 : BitVec 32 := Scalar.muli arg11 c4_i32_939
  let c3_i32_940 : BitVec 32 := 3#32
  let v1366 : BitVec 32 := Scalar.addi v1365 c3_i32_940
  let c512_i32_1002 : BitVec 32 := 512#32
  let v1453 : BitVec 32 := Scalar.muli v1366 c512_i32_1002
  v1453
def k0_mult30 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_939 : BitVec 32 := 4#32
  let v1365 : BitVec 32 := Scalar.muli arg11 c4_i32_939
  let c3_i32_940 : BitVec 32 := 3#32
  let v1366 : BitVec 32 := Scalar.addi v1365 c3_i32_940
  let c512_i32_1021 : BitVec 32 := 512#32
  let v1481 : BitVec 32 := Scalar.muli v1366 c512_i32_1021
  v1481
def k0_mult31 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_939 : BitVec 32 := 4#32
  let v1365 : BitVec 32 := Scalar.muli arg11 c4_i32_939
  let c3_i32_940 : BitVec 32 := 3#32
  let v1366 : BitVec 32 := Scalar.addi v1365 c3_i32_940
  let c512_i32_1042 : BitVec 32 := 512#32
  let v1510 : BitVec 32 := Scalar.muli v1366 c512_i32_1042
  v1510
def k0_mult32 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_939 : BitVec 32 := 4#32
  let v1365 : BitVec 32 := Scalar.muli arg11 c4_i32_939
  let c3_i32_940 : BitVec 32 := 3#32
  let v1366 : BitVec 32 := Scalar.addi v1365 c3_i32_940
  let c1_i32_1061 : BitVec 32 := 1#32
  let v1538 : BitVec 32 := Scalar.addi v1366 c1_i32_1061
  let c512_i32_1062 : BitVec 32 := 512#32
  let v1539 : BitVec 32 := Scalar.muli v1538 c512_i32_1062
  v1539
def k0_mult33 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c4_i32_939 : BitVec 32 := 4#32
  let v1365 : BitVec 32 := Scalar.muli arg11 c4_i32_939
  let c3_i32_940 : BitVec 32 := 3#32
  let v1366 : BitVec 32 := Scalar.addi v1365 c3_i32_940
  let c512_i32_1083 : BitVec 32 := 512#32
  let v1568 : BitVec 32 := Scalar.muli v1366 c512_i32_1083
  v1568
@[reducible] def k0_t2_loop (i : grid0.Coords) : Scf.Loop 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let v46 : BitVec 32 := Scalar.addi c0_i32_28 v45
  let c1_i32_31 : BitVec 32 := 1#32
  ⟨v49, v46, c1_i32_31⟩
def k0_mult34 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_450 : BitVec 32 := 4#32
  let v672 : BitVec 32 := Scalar.muli arg11 c4_i32_450
  let c0_i32_451 : BitVec 32 := 0#32
  let v673 : BitVec 32 := Scalar.addi v672 c0_i32_451
  let c512_i32_452 : BitVec 32 := 512#32
  let v674 : BitVec 32 := Scalar.muli v673 c512_i32_452
  v674
def k0_off4 (i : grid0.Coords) (k0_t2 : Fin (k0_t2_loop i).trips) (c0_i32_451 : BitVec 32) : Fin 2 → Nat :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_450 : BitVec 32 := 4#32
  let v672 : BitVec 32 := Scalar.muli arg11 c4_i32_450
  let v673 : BitVec 32 := Scalar.addi v672 c0_i32_451
  let c512_i32_452 : BitVec 32 := 512#32
  let v674 : BitVec 32 := Scalar.muli v673 c512_i32_452
  let v675 : BitVec 32 := v674
  let v676 : Index := Scalar.indexCast v675
  let c0_453 : Index := 0#32
  ![v676.toNat, 0]
def k0_mult35 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_450 : BitVec 32 := 4#32
  let v672 : BitVec 32 := Scalar.muli arg11 c4_i32_450
  let c0_i32_451 : BitVec 32 := 0#32
  let v673 : BitVec 32 := Scalar.addi v672 c0_i32_451
  let c512_i32_473 : BitVec 32 := 512#32
  let v703 : BitVec 32 := Scalar.muli v673 c512_i32_473
  v703
def k0_off5 (i : grid0.Coords) (k0_t2 : Fin (k0_t2_loop i).trips) (c0_i32_451 : BitVec 32) : Fin 2 → Nat :=
  let c0_474 : Index := 0#32
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_450 : BitVec 32 := 4#32
  let v672 : BitVec 32 := Scalar.muli arg11 c4_i32_450
  let v673 : BitVec 32 := Scalar.addi v672 c0_i32_451
  let c512_i32_473 : BitVec 32 := 512#32
  let v703 : BitVec 32 := Scalar.muli v673 c512_i32_473
  let v704 : BitVec 32 := v703
  let v705 : Index := Scalar.indexCast v704
  ![0, v705.toNat]
def k0_mult36 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_450 : BitVec 32 := 4#32
  let v672 : BitVec 32 := Scalar.muli arg11 c4_i32_450
  let c0_i32_451 : BitVec 32 := 0#32
  let v673 : BitVec 32 := Scalar.addi v672 c0_i32_451
  let c512_i32_492 : BitVec 32 := 512#32
  let v731 : BitVec 32 := Scalar.muli v673 c512_i32_492
  v731
def k0_mult37 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_450 : BitVec 32 := 4#32
  let v672 : BitVec 32 := Scalar.muli arg11 c4_i32_450
  let c0_i32_451 : BitVec 32 := 0#32
  let v673 : BitVec 32 := Scalar.addi v672 c0_i32_451
  let c512_i32_513 : BitVec 32 := 512#32
  let v760 : BitVec 32 := Scalar.muli v673 c512_i32_513
  v760
def k0_mult38 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_450 : BitVec 32 := 4#32
  let v672 : BitVec 32 := Scalar.muli arg11 c4_i32_450
  let c0_i32_451 : BitVec 32 := 0#32
  let v673 : BitVec 32 := Scalar.addi v672 c0_i32_451
  let c512_i32_532 : BitVec 32 := 512#32
  let v788 : BitVec 32 := Scalar.muli v673 c512_i32_532
  v788
def k0_mult39 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_450 : BitVec 32 := 4#32
  let v672 : BitVec 32 := Scalar.muli arg11 c4_i32_450
  let c0_i32_451 : BitVec 32 := 0#32
  let v673 : BitVec 32 := Scalar.addi v672 c0_i32_451
  let c512_i32_553 : BitVec 32 := 512#32
  let v817 : BitVec 32 := Scalar.muli v673 c512_i32_553
  v817
def k0_mult40 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_450 : BitVec 32 := 4#32
  let v672 : BitVec 32 := Scalar.muli arg11 c4_i32_450
  let c0_i32_451 : BitVec 32 := 0#32
  let v673 : BitVec 32 := Scalar.addi v672 c0_i32_451
  let c1_i32_572 : BitVec 32 := 1#32
  let v845 : BitVec 32 := Scalar.addi v673 c1_i32_572
  let c512_i32_573 : BitVec 32 := 512#32
  let v846 : BitVec 32 := Scalar.muli v845 c512_i32_573
  v846
def k0_off6 (i : grid0.Coords) (k0_t2 : Fin (k0_t2_loop i).trips) (c0_i32_451 : BitVec 32) : Fin 2 → Nat :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_450 : BitVec 32 := 4#32
  let v672 : BitVec 32 := Scalar.muli arg11 c4_i32_450
  let v673 : BitVec 32 := Scalar.addi v672 c0_i32_451
  let c1_i32_572 : BitVec 32 := 1#32
  let v845 : BitVec 32 := Scalar.addi v673 c1_i32_572
  let c512_i32_573 : BitVec 32 := 512#32
  let v846 : BitVec 32 := Scalar.muli v845 c512_i32_573
  let v847 : BitVec 32 := v846
  let v848 : Index := Scalar.indexCast v847
  let c0_574 : Index := 0#32
  ![v848.toNat, 0]
def k0_mult41 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_450 : BitVec 32 := 4#32
  let v672 : BitVec 32 := Scalar.muli arg11 c4_i32_450
  let c0_i32_451 : BitVec 32 := 0#32
  let v673 : BitVec 32 := Scalar.addi v672 c0_i32_451
  let c512_i32_594 : BitVec 32 := 512#32
  let v875 : BitVec 32 := Scalar.muli v673 c512_i32_594
  v875
def k0_mult42 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_613 : BitVec 32 := 4#32
  let v903 : BitVec 32 := Scalar.muli arg11 c4_i32_613
  let c1_i32_614 : BitVec 32 := 1#32
  let v904 : BitVec 32 := Scalar.addi v903 c1_i32_614
  let c512_i32_615 : BitVec 32 := 512#32
  let v905 : BitVec 32 := Scalar.muli v904 c512_i32_615
  v905
def k0_mult43 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_613 : BitVec 32 := 4#32
  let v903 : BitVec 32 := Scalar.muli arg11 c4_i32_613
  let c1_i32_614 : BitVec 32 := 1#32
  let v904 : BitVec 32 := Scalar.addi v903 c1_i32_614
  let c512_i32_636 : BitVec 32 := 512#32
  let v934 : BitVec 32 := Scalar.muli v904 c512_i32_636
  v934
def k0_mult44 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_613 : BitVec 32 := 4#32
  let v903 : BitVec 32 := Scalar.muli arg11 c4_i32_613
  let c1_i32_614 : BitVec 32 := 1#32
  let v904 : BitVec 32 := Scalar.addi v903 c1_i32_614
  let c512_i32_655 : BitVec 32 := 512#32
  let v962 : BitVec 32 := Scalar.muli v904 c512_i32_655
  v962
def k0_mult45 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_613 : BitVec 32 := 4#32
  let v903 : BitVec 32 := Scalar.muli arg11 c4_i32_613
  let c1_i32_614 : BitVec 32 := 1#32
  let v904 : BitVec 32 := Scalar.addi v903 c1_i32_614
  let c512_i32_676 : BitVec 32 := 512#32
  let v991 : BitVec 32 := Scalar.muli v904 c512_i32_676
  v991
def k0_mult46 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_613 : BitVec 32 := 4#32
  let v903 : BitVec 32 := Scalar.muli arg11 c4_i32_613
  let c1_i32_614 : BitVec 32 := 1#32
  let v904 : BitVec 32 := Scalar.addi v903 c1_i32_614
  let c512_i32_695 : BitVec 32 := 512#32
  let v1019 : BitVec 32 := Scalar.muli v904 c512_i32_695
  v1019
def k0_mult47 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_613 : BitVec 32 := 4#32
  let v903 : BitVec 32 := Scalar.muli arg11 c4_i32_613
  let c1_i32_614 : BitVec 32 := 1#32
  let v904 : BitVec 32 := Scalar.addi v903 c1_i32_614
  let c512_i32_716 : BitVec 32 := 512#32
  let v1048 : BitVec 32 := Scalar.muli v904 c512_i32_716
  v1048
def k0_mult48 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_613 : BitVec 32 := 4#32
  let v903 : BitVec 32 := Scalar.muli arg11 c4_i32_613
  let c1_i32_614 : BitVec 32 := 1#32
  let v904 : BitVec 32 := Scalar.addi v903 c1_i32_614
  let c1_i32_735 : BitVec 32 := 1#32
  let v1076 : BitVec 32 := Scalar.addi v904 c1_i32_735
  let c512_i32_736 : BitVec 32 := 512#32
  let v1077 : BitVec 32 := Scalar.muli v1076 c512_i32_736
  v1077
def k0_mult49 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_613 : BitVec 32 := 4#32
  let v903 : BitVec 32 := Scalar.muli arg11 c4_i32_613
  let c1_i32_614 : BitVec 32 := 1#32
  let v904 : BitVec 32 := Scalar.addi v903 c1_i32_614
  let c512_i32_757 : BitVec 32 := 512#32
  let v1106 : BitVec 32 := Scalar.muli v904 c512_i32_757
  v1106
def k0_mult50 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_776 : BitVec 32 := 4#32
  let v1134 : BitVec 32 := Scalar.muli arg11 c4_i32_776
  let c2_i32_777 : BitVec 32 := 2#32
  let v1135 : BitVec 32 := Scalar.addi v1134 c2_i32_777
  let c512_i32_778 : BitVec 32 := 512#32
  let v1136 : BitVec 32 := Scalar.muli v1135 c512_i32_778
  v1136
def k0_mult51 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_776 : BitVec 32 := 4#32
  let v1134 : BitVec 32 := Scalar.muli arg11 c4_i32_776
  let c2_i32_777 : BitVec 32 := 2#32
  let v1135 : BitVec 32 := Scalar.addi v1134 c2_i32_777
  let c512_i32_799 : BitVec 32 := 512#32
  let v1165 : BitVec 32 := Scalar.muli v1135 c512_i32_799
  v1165
def k0_mult52 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_776 : BitVec 32 := 4#32
  let v1134 : BitVec 32 := Scalar.muli arg11 c4_i32_776
  let c2_i32_777 : BitVec 32 := 2#32
  let v1135 : BitVec 32 := Scalar.addi v1134 c2_i32_777
  let c512_i32_818 : BitVec 32 := 512#32
  let v1193 : BitVec 32 := Scalar.muli v1135 c512_i32_818
  v1193
def k0_mult53 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_776 : BitVec 32 := 4#32
  let v1134 : BitVec 32 := Scalar.muli arg11 c4_i32_776
  let c2_i32_777 : BitVec 32 := 2#32
  let v1135 : BitVec 32 := Scalar.addi v1134 c2_i32_777
  let c512_i32_839 : BitVec 32 := 512#32
  let v1222 : BitVec 32 := Scalar.muli v1135 c512_i32_839
  v1222
def k0_mult54 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_776 : BitVec 32 := 4#32
  let v1134 : BitVec 32 := Scalar.muli arg11 c4_i32_776
  let c2_i32_777 : BitVec 32 := 2#32
  let v1135 : BitVec 32 := Scalar.addi v1134 c2_i32_777
  let c512_i32_858 : BitVec 32 := 512#32
  let v1250 : BitVec 32 := Scalar.muli v1135 c512_i32_858
  v1250
def k0_mult55 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_776 : BitVec 32 := 4#32
  let v1134 : BitVec 32 := Scalar.muli arg11 c4_i32_776
  let c2_i32_777 : BitVec 32 := 2#32
  let v1135 : BitVec 32 := Scalar.addi v1134 c2_i32_777
  let c512_i32_879 : BitVec 32 := 512#32
  let v1279 : BitVec 32 := Scalar.muli v1135 c512_i32_879
  v1279
def k0_mult56 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_776 : BitVec 32 := 4#32
  let v1134 : BitVec 32 := Scalar.muli arg11 c4_i32_776
  let c2_i32_777 : BitVec 32 := 2#32
  let v1135 : BitVec 32 := Scalar.addi v1134 c2_i32_777
  let c1_i32_898 : BitVec 32 := 1#32
  let v1307 : BitVec 32 := Scalar.addi v1135 c1_i32_898
  let c512_i32_899 : BitVec 32 := 512#32
  let v1308 : BitVec 32 := Scalar.muli v1307 c512_i32_899
  v1308
def k0_mult57 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_776 : BitVec 32 := 4#32
  let v1134 : BitVec 32 := Scalar.muli arg11 c4_i32_776
  let c2_i32_777 : BitVec 32 := 2#32
  let v1135 : BitVec 32 := Scalar.addi v1134 c2_i32_777
  let c512_i32_920 : BitVec 32 := 512#32
  let v1337 : BitVec 32 := Scalar.muli v1135 c512_i32_920
  v1337
def k0_mult58 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_939 : BitVec 32 := 4#32
  let v1365 : BitVec 32 := Scalar.muli arg11 c4_i32_939
  let c3_i32_940 : BitVec 32 := 3#32
  let v1366 : BitVec 32 := Scalar.addi v1365 c3_i32_940
  let c512_i32_941 : BitVec 32 := 512#32
  let v1367 : BitVec 32 := Scalar.muli v1366 c512_i32_941
  v1367
def k0_mult59 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_939 : BitVec 32 := 4#32
  let v1365 : BitVec 32 := Scalar.muli arg11 c4_i32_939
  let c3_i32_940 : BitVec 32 := 3#32
  let v1366 : BitVec 32 := Scalar.addi v1365 c3_i32_940
  let c512_i32_962 : BitVec 32 := 512#32
  let v1396 : BitVec 32 := Scalar.muli v1366 c512_i32_962
  v1396
def k0_mult60 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_939 : BitVec 32 := 4#32
  let v1365 : BitVec 32 := Scalar.muli arg11 c4_i32_939
  let c3_i32_940 : BitVec 32 := 3#32
  let v1366 : BitVec 32 := Scalar.addi v1365 c3_i32_940
  let c512_i32_981 : BitVec 32 := 512#32
  let v1424 : BitVec 32 := Scalar.muli v1366 c512_i32_981
  v1424
def k0_mult61 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_939 : BitVec 32 := 4#32
  let v1365 : BitVec 32 := Scalar.muli arg11 c4_i32_939
  let c3_i32_940 : BitVec 32 := 3#32
  let v1366 : BitVec 32 := Scalar.addi v1365 c3_i32_940
  let c512_i32_1002 : BitVec 32 := 512#32
  let v1453 : BitVec 32 := Scalar.muli v1366 c512_i32_1002
  v1453
def k0_mult62 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_939 : BitVec 32 := 4#32
  let v1365 : BitVec 32 := Scalar.muli arg11 c4_i32_939
  let c3_i32_940 : BitVec 32 := 3#32
  let v1366 : BitVec 32 := Scalar.addi v1365 c3_i32_940
  let c512_i32_1021 : BitVec 32 := 512#32
  let v1481 : BitVec 32 := Scalar.muli v1366 c512_i32_1021
  v1481
def k0_mult63 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_939 : BitVec 32 := 4#32
  let v1365 : BitVec 32 := Scalar.muli arg11 c4_i32_939
  let c3_i32_940 : BitVec 32 := 3#32
  let v1366 : BitVec 32 := Scalar.addi v1365 c3_i32_940
  let c512_i32_1042 : BitVec 32 := 512#32
  let v1510 : BitVec 32 := Scalar.muli v1366 c512_i32_1042
  v1510
def k0_mult64 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_939 : BitVec 32 := 4#32
  let v1365 : BitVec 32 := Scalar.muli arg11 c4_i32_939
  let c3_i32_940 : BitVec 32 := 3#32
  let v1366 : BitVec 32 := Scalar.addi v1365 c3_i32_940
  let c1_i32_1061 : BitVec 32 := 1#32
  let v1538 : BitVec 32 := Scalar.addi v1366 c1_i32_1061
  let c512_i32_1062 : BitVec 32 := 512#32
  let v1539 : BitVec 32 := Scalar.muli v1538 c512_i32_1062
  v1539
def k0_mult65 (i : grid0.Coords) (k0_t2 : Fin (k0_t2_loop i).trips) : BitVec 32 :=
  let c0_i32_28 : BitVec 32 := 0#32
  let arg1 : BitVec 32 := BitVec.ofNat 32 (i 1).val
  let c4_i32 : BitVec 32 := 4#32
  let v12 : BitVec 32 := Scalar.muli arg1 c4_i32
  let c0_i32_22 : BitVec 32 := 0#32
  let v29 : BitVec 1 := Scalar.cmpi .sgt v12 c0_i32_22
  let v30 : BitVec 32 := Scalar.extui v29
  let c0_i32_23 : BitVec 32 := 0#32
  let v31 : BitVec 1 := Scalar.cmpi .slt v12 c0_i32_23
  let v32 : BitVec 32 := Scalar.extui v31
  let v33 : BitVec 32 := Scalar.subi v30 v32
  let c4_i32_21 : BitVec 32 := 4#32
  let c0_i32_24 : BitVec 32 := 0#32
  let v34 : BitVec 1 := Scalar.cmpi .sgt c4_i32_21 c0_i32_24
  let v35 : BitVec 32 := Scalar.extui v34
  let c0_i32_25 : BitVec 32 := 0#32
  let v36 : BitVec 1 := Scalar.cmpi .slt c4_i32_21 c0_i32_25
  let v37 : BitVec 32 := Scalar.extui v36
  let v38 : BitVec 32 := Scalar.subi v35 v37
  let v39 : BitVec 1 := Scalar.cmpi .ne v33 v38
  let v40 : BitVec 32 := Scalar.remsi v12 c4_i32_21
  let c0_i32_26 : BitVec 32 := 0#32
  let v41 : BitVec 1 := Scalar.cmpi .ne v40 c0_i32_26
  let v42 : BitVec 1 := Scalar.andi v39 v41
  let v28 : BitVec 32 := Scalar.divsi v12 c4_i32_21
  let c1_i32 : BitVec 32 := 1#32
  let v43 : BitVec 32 := Scalar.subi v28 c1_i32
  let v44 : BitVec 32 := Scalar.select v42 v43 v28
  let v45 : BitVec 32 := Scalar.subi v44 c0_i32_28
  let c1_i32_29 : BitVec 32 := 1#32
  let v47 : BitVec 32 := Scalar.divsi v45 c1_i32_29
  let v48 : BitVec 32 := Scalar.muli v47 c1_i32_29
  let v49 : BitVec 32 := Scalar.addi c0_i32_28 v48
  let c1_i32_31 : BitVec 32 := 1#32
  let arg11 : BitVec 32 := Scf.iv v49 c1_i32_31 k0_t2
  let c4_i32_939 : BitVec 32 := 4#32
  let v1365 : BitVec 32 := Scalar.muli arg11 c4_i32_939
  let c3_i32_940 : BitVec 32 := 3#32
  let v1366 : BitVec 32 := Scalar.addi v1365 c3_i32_940
  let c512_i32_1083 : BitVec 32 := 512#32
  let v1568 : BitVec 32 := Scalar.muli v1366 c512_i32_1083
  v1568
def k0_mult66 (i : grid0.Coords) : BitVec 32 :=
  let arg1 : BitVec 32 := BitVec.ofNat 32 (i 1).val
  let c4_i32 : BitVec 32 := 4#32
  let v12 : BitVec 32 := Scalar.muli arg1 c4_i32
  let c0_i32_32 : BitVec 32 := 0#32
  let v50 : BitVec 32 := Scalar.addi v12 c0_i32_32
  let c512_i32 : BitVec 32 := 512#32
  let v51 : BitVec 32 := Scalar.muli v50 c512_i32
  v51
def k0_off7 (i : grid0.Coords) (c0_i32_32 : BitVec 32) : Fin 2 → Nat :=
  let arg1 : BitVec 32 := BitVec.ofNat 32 (i 1).val
  let c4_i32 : BitVec 32 := 4#32
  let v12 : BitVec 32 := Scalar.muli arg1 c4_i32
  let v50 : BitVec 32 := Scalar.addi v12 c0_i32_32
  let c512_i32 : BitVec 32 := 512#32
  let v51 : BitVec 32 := Scalar.muli v50 c512_i32
  let v52 : BitVec 32 := v51
  let v53 : Index := Scalar.indexCast v52
  let c0_33 : Index := 0#32
  ![v53.toNat, 0]
def k0_mult67 (i : grid0.Coords) : BitVec 32 :=
  let arg1 : BitVec 32 := BitVec.ofNat 32 (i 1).val
  let c4_i32 : BitVec 32 := 4#32
  let v12 : BitVec 32 := Scalar.muli arg1 c4_i32
  let c0_i32_42 : BitVec 32 := 0#32
  let v67 : BitVec 32 := Scalar.addi v12 c0_i32_42
  let c512_i32_52 : BitVec 32 := 512#32
  let v88 : BitVec 32 := Scalar.muli v67 c512_i32_52
  v88
def k0_off8 (i : grid0.Coords) (c0_i32_42 : BitVec 32) : Fin 2 → Nat :=
  let c0_53 : Index := 0#32
  let arg1 : BitVec 32 := BitVec.ofNat 32 (i 1).val
  let c4_i32 : BitVec 32 := 4#32
  let v12 : BitVec 32 := Scalar.muli arg1 c4_i32
  let v67 : BitVec 32 := Scalar.addi v12 c0_i32_42
  let c512_i32_52 : BitVec 32 := 512#32
  let v88 : BitVec 32 := Scalar.muli v67 c512_i32_52
  let v89 : BitVec 32 := v88
  let v90 : Index := Scalar.indexCast v89
  ![0, v90.toNat]
def k0_mult68 (i : grid0.Coords) : BitVec 32 :=
  let arg1 : BitVec 32 := BitVec.ofNat 32 (i 1).val
  let c4_i32 : BitVec 32 := 4#32
  let v12 : BitVec 32 := Scalar.muli arg1 c4_i32
  let c0_i32_71 : BitVec 32 := 0#32
  let v116 : BitVec 32 := Scalar.addi v12 c0_i32_71
  let c512_i32_72 : BitVec 32 := 512#32
  let v117 : BitVec 32 := Scalar.muli v116 c512_i32_72
  v117
def k0_mult69 (i : grid0.Coords) : BitVec 32 :=
  let arg1 : BitVec 32 := BitVec.ofNat 32 (i 1).val
  let c4_i32 : BitVec 32 := 4#32
  let v12 : BitVec 32 := Scalar.muli arg1 c4_i32
  let c0_i32_83 : BitVec 32 := 0#32
  let v133 : BitVec 32 := Scalar.addi v12 c0_i32_83
  let c512_i32_93 : BitVec 32 := 512#32
  let v147 : BitVec 32 := Scalar.muli v133 c512_i32_93
  v147
def k0_mult70 (i : grid0.Coords) : BitVec 32 :=
  let arg1 : BitVec 32 := BitVec.ofNat 32 (i 1).val
  let c4_i32 : BitVec 32 := 4#32
  let v12 : BitVec 32 := Scalar.muli arg1 c4_i32
  let c0_i32_112 : BitVec 32 := 0#32
  let v175 : BitVec 32 := Scalar.addi v12 c0_i32_112
  let c512_i32_113 : BitVec 32 := 512#32
  let v176 : BitVec 32 := Scalar.muli v175 c512_i32_113
  v176
def k0_mult71 (i : grid0.Coords) : BitVec 32 :=
  let arg1 : BitVec 32 := BitVec.ofNat 32 (i 1).val
  let c4_i32 : BitVec 32 := 4#32
  let v12 : BitVec 32 := Scalar.muli arg1 c4_i32
  let c0_i32_124 : BitVec 32 := 0#32
  let v192 : BitVec 32 := Scalar.addi v12 c0_i32_124
  let c512_i32_133 : BitVec 32 := 512#32
  let v206 : BitVec 32 := Scalar.muli v192 c512_i32_133
  v206
def k0_mult72 (i : grid0.Coords) : BitVec 32 :=
  let arg1 : BitVec 32 := BitVec.ofNat 32 (i 1).val
  let c4_i32 : BitVec 32 := 4#32
  let v12 : BitVec 32 := Scalar.muli arg1 c4_i32
  let c1_i32_152 : BitVec 32 := 1#32
  let v234 : BitVec 32 := Scalar.addi v12 c1_i32_152
  let c512_i32_153 : BitVec 32 := 512#32
  let v235 : BitVec 32 := Scalar.muli v234 c512_i32_153
  v235
def k0_mult73 (i : grid0.Coords) : BitVec 32 :=
  let arg1 : BitVec 32 := BitVec.ofNat 32 (i 1).val
  let c4_i32 : BitVec 32 := 4#32
  let v12 : BitVec 32 := Scalar.muli arg1 c4_i32
  let c0_i32_161 : BitVec 32 := 0#32
  let v246 : BitVec 32 := Scalar.addi v12 c0_i32_161
  let c512_i32_170 : BitVec 32 := 512#32
  let v260 : BitVec 32 := Scalar.muli v246 c512_i32_170
  v260
def k0_mult74 (i : grid0.Coords) : BitVec 32 :=
  let arg1 : BitVec 32 := BitVec.ofNat 32 (i 1).val
  let c4_i32 : BitVec 32 := 4#32
  let v12 : BitVec 32 := Scalar.muli arg1 c4_i32
  let c1_i32_189 : BitVec 32 := 1#32
  let v288 : BitVec 32 := Scalar.addi v12 c1_i32_189
  let c512_i32_190 : BitVec 32 := 512#32
  let v289 : BitVec 32 := Scalar.muli v288 c512_i32_190
  v289
def k0_mult75 (i : grid0.Coords) : BitVec 32 :=
  let arg1 : BitVec 32 := BitVec.ofNat 32 (i 1).val
  let c4_i32 : BitVec 32 := 4#32
  let v12 : BitVec 32 := Scalar.muli arg1 c4_i32
  let c1_i32_202 : BitVec 32 := 1#32
  let v305 : BitVec 32 := Scalar.addi v12 c1_i32_202
  let c512_i32_212 : BitVec 32 := 512#32
  let v326 : BitVec 32 := Scalar.muli v305 c512_i32_212
  v326
def k0_mult76 (i : grid0.Coords) : BitVec 32 :=
  let arg1 : BitVec 32 := BitVec.ofNat 32 (i 1).val
  let c4_i32 : BitVec 32 := 4#32
  let v12 : BitVec 32 := Scalar.muli arg1 c4_i32
  let c1_i32_231 : BitVec 32 := 1#32
  let v354 : BitVec 32 := Scalar.addi v12 c1_i32_231
  let c512_i32_232 : BitVec 32 := 512#32
  let v355 : BitVec 32 := Scalar.muli v354 c512_i32_232
  v355
def k0_mult77 (i : grid0.Coords) : BitVec 32 :=
  let arg1 : BitVec 32 := BitVec.ofNat 32 (i 1).val
  let c4_i32 : BitVec 32 := 4#32
  let v12 : BitVec 32 := Scalar.muli arg1 c4_i32
  let c1_i32_244 : BitVec 32 := 1#32
  let v371 : BitVec 32 := Scalar.addi v12 c1_i32_244
  let c512_i32_254 : BitVec 32 := 512#32
  let v385 : BitVec 32 := Scalar.muli v371 c512_i32_254
  v385
def k0_mult78 (i : grid0.Coords) : BitVec 32 :=
  let arg1 : BitVec 32 := BitVec.ofNat 32 (i 1).val
  let c4_i32 : BitVec 32 := 4#32
  let v12 : BitVec 32 := Scalar.muli arg1 c4_i32
  let c2_i32 : BitVec 32 := 2#32
  let v413 : BitVec 32 := Scalar.addi v12 c2_i32
  let c512_i32_273 : BitVec 32 := 512#32
  let v414 : BitVec 32 := Scalar.muli v413 c512_i32_273
  v414
def k0_mult79 (i : grid0.Coords) : BitVec 32 :=
  let arg1 : BitVec 32 := BitVec.ofNat 32 (i 1).val
  let c4_i32 : BitVec 32 := 4#32
  let v12 : BitVec 32 := Scalar.muli arg1 c4_i32
  let c1_i32_281 : BitVec 32 := 1#32
  let v425 : BitVec 32 := Scalar.addi v12 c1_i32_281
  let c512_i32_291 : BitVec 32 := 512#32
  let v439 : BitVec 32 := Scalar.muli v425 c512_i32_291
  v439
def k0_mult80 (i : grid0.Coords) : BitVec 32 :=
  let arg1 : BitVec 32 := BitVec.ofNat 32 (i 1).val
  let c4_i32 : BitVec 32 := 4#32
  let v12 : BitVec 32 := Scalar.muli arg1 c4_i32
  let c2_i32_310 : BitVec 32 := 2#32
  let v467 : BitVec 32 := Scalar.addi v12 c2_i32_310
  let c512_i32_311 : BitVec 32 := 512#32
  let v468 : BitVec 32 := Scalar.muli v467 c512_i32_311
  v468
def k0_mult81 (i : grid0.Coords) : BitVec 32 :=
  let arg1 : BitVec 32 := BitVec.ofNat 32 (i 1).val
  let c4_i32 : BitVec 32 := 4#32
  let v12 : BitVec 32 := Scalar.muli arg1 c4_i32
  let c2_i32_323 : BitVec 32 := 2#32
  let v484 : BitVec 32 := Scalar.addi v12 c2_i32_323
  let c512_i32_333 : BitVec 32 := 512#32
  let v505 : BitVec 32 := Scalar.muli v484 c512_i32_333
  v505
def k0_mult82 (i : grid0.Coords) : BitVec 32 :=
  let arg1 : BitVec 32 := BitVec.ofNat 32 (i 1).val
  let c4_i32 : BitVec 32 := 4#32
  let v12 : BitVec 32 := Scalar.muli arg1 c4_i32
  let c3_i32 : BitVec 32 := 3#32
  let v533 : BitVec 32 := Scalar.addi v12 c3_i32
  let c512_i32_352 : BitVec 32 := 512#32
  let v534 : BitVec 32 := Scalar.muli v533 c512_i32_352
  v534
def k0_mult83 (i : grid0.Coords) : BitVec 32 :=
  let arg1 : BitVec 32 := BitVec.ofNat 32 (i 1).val
  let c4_i32 : BitVec 32 := 4#32
  let v12 : BitVec 32 := Scalar.muli arg1 c4_i32
  let c2_i32_360 : BitVec 32 := 2#32
  let v545 : BitVec 32 := Scalar.addi v12 c2_i32_360
  let c512_i32_370 : BitVec 32 := 512#32
  let v559 : BitVec 32 := Scalar.muli v545 c512_i32_370
  v559
def k0_mult84 (i : grid0.Coords) : BitVec 32 :=
  let arg1 : BitVec 32 := BitVec.ofNat 32 (i 1).val
  let c4_i32 : BitVec 32 := 4#32
  let v12 : BitVec 32 := Scalar.muli arg1 c4_i32
  let c3_i32_389 : BitVec 32 := 3#32
  let v587 : BitVec 32 := Scalar.addi v12 c3_i32_389
  let c512_i32_399 : BitVec 32 := 512#32
  let v608 : BitVec 32 := Scalar.muli v587 c512_i32_399
  v608
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x16384x8x128 : Shape := ⟨4, ![1, 16384, 8, 128]⟩
abbrev S1x16384x8x64 : Shape := ⟨4, ![1, 16384, 8, 64]⟩
abbrev S1x16384x64 : Shape := ⟨3, ![1, 16384, 64]⟩
abbrev S1x8x16384x16384 : Shape := ⟨4, ![1, 8, 16384, 16384]⟩
abbrev S1x16384x16384x8 : Shape := ⟨4, ![1, 16384, 16384, 8]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x8x16384 : Shape := ⟨3, ![1, 8, 16384]⟩
abbrev S1x8x16384x1 : Shape := ⟨4, ![1, 8, 16384, 1]⟩
abbrev S1x8x128x16384 : Shape := ⟨4, ![1, 8, 128, 16384]⟩
abbrev S16384x1024 : Shape := ⟨2, ![16384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x8x64, .f32⟩
  | .hbm, ⟨2, _⟩ => ⟨S1x16384x8x128, .f32⟩
  | .hbm, ⟨3, _⟩ => ⟨S1x16384x64, .f32⟩
  | .hbm, ⟨4, _⟩ => ⟨S1x16384x8x128, .f32⟩
  | .hbm, ⟨5, _⟩ => ⟨S1x8x16384x16384, .f32⟩
  | .hbm, ⟨6, _⟩ => ⟨S1x16384x16384x8, .f32⟩
  | .hbm, ⟨7, _⟩ => ⟨S1x8x16384x16384, .f32⟩
  | .hbm, ⟨8, _⟩ => ⟨S1x8x16384x16384, .f32⟩
  | .hbm, ⟨9, _⟩ => ⟨S_, .f32⟩
  | .hbm, ⟨10, _⟩ => ⟨S_, .f32⟩
  | .hbm, ⟨11, _⟩ => ⟨S1x8x16384x16384, .f32⟩
  | .hbm, ⟨12, _⟩ => ⟨S1x8x16384x16384, .f32⟩
  | .hbm, ⟨13, _⟩ => ⟨S16384, .i32⟩
  | .hbm, ⟨14, _⟩ => ⟨S1x16384, .i32⟩
  | .hbm, ⟨15, _⟩ => ⟨S16384x1, .i32⟩
  | .hbm, ⟨16, _⟩ => ⟨S16384x16384, .i32⟩
  | .hbm, ⟨17, _⟩ => ⟨S16384x16384, .i32⟩
  | .hbm, ⟨18, _⟩ => ⟨S16384x16384, .i1⟩
  | .hbm, ⟨19, _⟩ => ⟨S_, .f32⟩
  | .hbm, ⟨20, _⟩ => ⟨S_, .f32⟩
  | .hbm, ⟨21, _⟩ => ⟨S1x8x16384x16384, .i1⟩
  | .hbm, ⟨22, _⟩ => ⟨S1x8x16384x16384, .f32⟩
  | .hbm, ⟨23, _⟩ => ⟨S1x8x16384x16384, .f32⟩
  | .hbm, ⟨24, _⟩ => ⟨S_, .f32⟩
  | .hbm, ⟨25, _⟩ => ⟨S1x8x16384, .f32⟩
  | .hbm, ⟨26, _⟩ => ⟨S_, .f32⟩
  | .hbm, ⟨27, _⟩ => ⟨S1x8x16384, .f32⟩
  | .hbm, ⟨28, _⟩ => ⟨S1x8x16384, .f32⟩
  | .hbm, ⟨29, _⟩ => ⟨S1x8x16384x1, .f32⟩
  | .hbm, ⟨30, _⟩ => ⟨S1x8x16384x16384, .f32⟩
  | .hbm, ⟨31, _⟩ => ⟨S1x8x16384x16384, .f32⟩
  | .hbm, ⟨32, _⟩ => ⟨S1x8x16384x16384, .f32⟩
  | .hbm, ⟨33, _⟩ => ⟨S_, .f32⟩
  | .hbm, ⟨34, _⟩ => ⟨S1x8x16384, .f32⟩
  | .hbm, ⟨35, _⟩ => ⟨S1x8x16384x1, .f32⟩
  | .hbm, ⟨36, _⟩ => ⟨S1x8x16384x16384, .f32⟩
  | .hbm, ⟨37, _⟩ => ⟨S1x8x16384x16384, .f32⟩
  | .hbm, ⟨38, _⟩ => ⟨S1x8x128x16384, .f32⟩
  | .hbm, ⟨39, _⟩ => ⟨S1x16384x8x128, .f32⟩
  | .hbm, ⟨40, _⟩ => ⟨S16384x1024, .f32⟩
  | .hbm, ⟨41, _⟩ => ⟨S16384x1024, .bf16⟩
  | _, _ => ⟨S1x16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel2.lean ====
abbrev S1x16384x2048 : Shape := ⟨3, ![1, 16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩
abbrev S512x512 : Shape := ⟨2, ![512, 512]⟩

abbrev nBuf : Space → Nat
  | .hbm => 15
  | .vmem => 12
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S16384x2048, .f32⟩
  | .hbm, ⟨6, _⟩ => ⟨S2048, .f32⟩
  | .hbm, ⟨7, _⟩ => ⟨S1x2048, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .bf16⟩
  | .hbm, ⟨12, _⟩ => ⟨S5632x2048, .f32⟩
  | .hbm, ⟨13, _⟩ => ⟨S5632x2048, .bf16⟩
  | .hbm, ⟨14, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S1x16384x2048 : Shape := ⟨3, ![1, 16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S2048x5632 : Shape := ⟨2, ![2048, 5632]⟩
abbrev S1x16384x5632 : Shape := ⟨3, ![1, 16384, 5632]⟩
abbrev S5632x2048 : Shape := ⟨2, ![5632, 2048]⟩
abbrev S16384x2048 : Shape := ⟨2, ![16384, 2048]⟩

abbrev nBuf : Space → Nat
  | .hbm => 40
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S1x16384x2048, .f32⟩
  | .hbm, ⟨7, _⟩ => ⟨S_, .f32⟩
  | .hbm, ⟨8, _⟩ => ⟨S1x16384, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S1x16384x1, .f32⟩
  | .hbm, ⟨17, _⟩ => ⟨S1x16384x2048, .f32⟩
  | .hbm, ⟨18, _⟩ => ⟨S1x16384x2048, .f32⟩
  | .hbm, ⟨19, _⟩ => ⟨S1x1x2048, .f32⟩
  | .hbm, ⟨20, _⟩ => ⟨S1x16384x2048, .f32⟩
  | .hbm, ⟨21, _⟩ => ⟨S1x16384x2048, .f32⟩
  | .hbm, ⟨22, _⟩ => ⟨S2048x5632, .f32⟩
  | .hbm, ⟨23, _⟩ => ⟨S1x16384x5632, .f32⟩
  | .hbm, ⟨24, _⟩ => ⟨S1x16384x5632, .f32⟩
  | .hbm, ⟨25, _⟩ => ⟨S1x16384x5632, .f32⟩
  | .hbm, ⟨26, _⟩ => ⟨S_, .f32⟩
  | .hbm, ⟨27, _⟩ => ⟨S1x16384x5632, .f32⟩
  | .hbm, ⟨28, _⟩ => ⟨S1x16384x5632, .f32⟩
  | .hbm, ⟨29, _⟩ => ⟨S_, .f32⟩
  | .hbm, ⟨30, _⟩ => ⟨S1x16384x5632, .f32⟩
  | .hbm, ⟨31, _⟩ => ⟨S1x16384x5632, .f32⟩
  | .hbm, ⟨32, _⟩ => ⟨S1x16384x5632, .f32⟩
  | .hbm, ⟨33, _⟩ => ⟨S2048x5632, .f32⟩
  | .hbm, ⟨34, _⟩ => ⟨S1x16384x5632, .f32⟩
  | .hbm, ⟨35, _⟩ => ⟨S1x16384x5632, .f32⟩
  | .hbm, ⟨36, _⟩ => ⟨S5632x2048, .f32⟩
  | .hbm, ⟨37, _⟩ => ⟨S1x16384x2048, .f32⟩
  | .hbm, ⟨38, _⟩ => ⟨S1x16384x2048, .f32⟩
  | .hbm, ⟨39, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel3.lean ====
abbrev S1x16384x2048 : Shape := ⟨3, ![1, 16384, 2048]⟩
abbrev S1x1x16384x256 : Shape := ⟨4, ![1, 1, 16384, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S16384x2048 : Shape := ⟨2, ![16384, 2048]⟩
abbrev S16384x256 : Shape := ⟨2, ![16384, 256]⟩
abbrev S2048x2048 : Shape := ⟨2, ![2048, 2048]⟩
abbrev S256x2048 : Shape := ⟨2, ![256, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 16
  | .vmem => 10
  | .smem => 0
  | _ => 0

abbrev bufTy : (tb : Table) → Fin (tcTables nBuf tb) → BufTy
  | .hbm, ⟨0, _⟩ => ⟨S1x16384x2048, .f32⟩
  | .hbm, ⟨1, _⟩ => ⟨S1x1x16384x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S16384x2048, .f32⟩
  | .hbm, ⟨7, _⟩ => ⟨S16384x256, .f32⟩
  | .hbm, ⟨8, _⟩ => ⟨S2048, .f32⟩
  | .hbm, ⟨9, _⟩ => ⟨S1x2048, .f32⟩
  | .hbm, ⟨10, _⟩ => ⟨S2048x2048, .f32⟩
  | .hbm, ⟨11, _⟩ => ⟨S2048x2048, .bf16⟩
  | .hbm, ⟨12, _⟩ => ⟨S256x2048, .f32⟩
  | .hbm, ⟨13, _⟩ => ⟨S256x2048, .bf16⟩
  | .hbm, ⟨14, _⟩ => ⟨S1x2048, .f32⟩
  | .hbm, ⟨15, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S1x16384x2048 : Shape := ⟨3, ![1, 16384, 2048]⟩
abbrev S1x1x16384x256 : Shape := ⟨4, ![1, 1, 16384, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S2048x2048 : Shape := ⟨2, ![2048, 2048]⟩
abbrev S1x16384x256 : Shape := ⟨3, ![1, 16384, 256]⟩
abbrev S256x2048 : Shape := ⟨2, ![256, 2048]⟩
abbrev S16384x2048 : Shape := ⟨2, ![16384, 2048]⟩

abbrev nBuf : Space → Nat
  | .hbm => 55
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x1x16384x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S2048, .f32⟩
  | .hbm, ⟨7, _⟩ => ⟨S1x16384x2048, .f32⟩
  | .hbm, ⟨8, _⟩ => ⟨S_, .f32⟩
  | .hbm, ⟨9, _⟩ => ⟨S1x16384, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S_, .f32⟩
  | .hbm, ⟨15, _⟩ => ⟨S1x16384x1, .f32⟩
  | .hbm, ⟨16, _⟩ => ⟨S1x16384x1, .f32⟩
  | .hbm, ⟨17, _⟩ => ⟨S1x16384x1, .f32⟩
  | .hbm, ⟨18, _⟩ => ⟨S1x16384x2048, .f32⟩
  | .hbm, ⟨19, _⟩ => ⟨S1x16384x2048, .f32⟩
  | .hbm, ⟨20, _⟩ => ⟨S1x1x2048, .f32⟩
  | .hbm, ⟨21, _⟩ => ⟨S1x16384x2048, .f32⟩
  | .hbm, ⟨22, _⟩ => ⟨S1x16384x2048, .f32⟩
  | .hbm, ⟨23, _⟩ => ⟨S2048x2048, .f32⟩
  | .hbm, ⟨24, _⟩ => ⟨S1x16384x2048, .f32⟩
  | .hbm, ⟨25, _⟩ => ⟨S1x16384x2048, .f32⟩
  | .hbm, ⟨26, _⟩ => ⟨S1x16384x2048, .f32⟩
  | .hbm, ⟨27, _⟩ => ⟨S_, .f32⟩
  | .hbm, ⟨28, _⟩ => ⟨S1x16384x2048, .f32⟩
  | .hbm, ⟨29, _⟩ => ⟨S1x16384x2048, .f32⟩
  | .hbm, ⟨30, _⟩ => ⟨S_, .f32⟩
  | .hbm, ⟨31, _⟩ => ⟨S1x16384x2048, .f32⟩
  | .hbm, ⟨32, _⟩ => ⟨S1x16384x2048, .f32⟩
  | .hbm, ⟨33, _⟩ => ⟨S1x16384x256, .f32⟩
  | .hbm, ⟨34, _⟩ => ⟨S256x2048, .f32⟩
  | .hbm, ⟨35, _⟩ => ⟨S1x16384x2048, .f32⟩
  | .hbm, ⟨36, _⟩ => ⟨S1x16384x2048, .f32⟩
  | .hbm, ⟨37, _⟩ => ⟨S1x16384x2048, .f32⟩
  | .hbm, ⟨38, _⟩ => ⟨S1x16384x2048, .f32⟩
  | .hbm, ⟨39, _⟩ => ⟨S_, .f32⟩
  | .hbm, ⟨40, _⟩ => ⟨S1x16384, .f32⟩
  | .hbm, ⟨41, _⟩ => ⟨S1x16384x1, .f32⟩
  | .hbm, ⟨42, _⟩ => ⟨S_, .f32⟩
  | .hbm, ⟨43, _⟩ => ⟨S1x16384x1, .f32⟩
  | .hbm, ⟨44, _⟩ => ⟨S1x16384x1, .f32⟩
  | .hbm, ⟨45, _⟩ => ⟨S_, .f32⟩
  | .hbm, ⟨46, _⟩ => ⟨S1x16384x1, .f32⟩
  | .hbm, ⟨47, _⟩ => ⟨S1x16384x1, .f32⟩
  | .hbm, ⟨48, _⟩ => ⟨S1x16384x1, .f32⟩
  | .hbm, ⟨49, _⟩ => ⟨S1x16384x2048, .f32⟩
  | .hbm, ⟨50, _⟩ => ⟨S1x16384x2048, .f32⟩
  | .hbm, ⟨51, _⟩ => ⟨S1x1x2048, .f32⟩
  | .hbm, ⟨52, _⟩ => ⟨S1x16384x2048, .f32⟩
  | .hbm, ⟨53, _⟩ => ⟨S1x16384x2048, .f32⟩
  | .hbm, ⟨54, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel4.lean ====
abbrev S1x16384x2048 : Shape := ⟨3, ![1, 16384, 2048]⟩
abbrev S1x16384x1024 : Shape := ⟨3, ![1, 16384, 1024]⟩
abbrev S1x2048x2048 : Shape := ⟨3, ![1, 2048, 2048]⟩
abbrev S16384x2048 : Shape := ⟨2, ![16384, 2048]⟩
abbrev S16384x1024 : Shape := ⟨2, ![16384, 1024]⟩
abbrev S2048x2048 : Shape := ⟨2, ![2048, 2048]⟩
abbrev S1024x2048 : Shape := ⟨2, ![1024, 2048]⟩
abbrev S512x2048 : Shape := ⟨2, ![512, 2048]⟩
abbrev S512x1024 : Shape := ⟨2, ![512, 1024]⟩

abbrev nBuf : Space → Nat
  | .hbm => 16
  | .vmem => 10
  | .smem => 0
  | _ => 0

abbrev bufTy : (tb : Table) → Fin (tcTables nBuf tb) → BufTy
  | .hbm, ⟨0, _⟩ => ⟨S1x16384x2048, .f32⟩
  | .hbm, ⟨1, _⟩ => ⟨S1x16384x1024, .f32⟩
  | .hbm, ⟨2, _⟩ => ⟨S1x16384x1024, .f32⟩
  | .hbm, ⟨3, _⟩ => ⟨S1x2048x2048, .f32⟩
  | .hbm, ⟨4, _⟩ => ⟨S16384x2048, .f32⟩
  | .hbm, ⟨5, _⟩ => ⟨S16384x1024, .f32⟩
  | .hbm, ⟨6, _⟩ => ⟨S16384x1024, .bf16⟩
  | .hbm, ⟨7, _⟩ => ⟨S16384x1024, .f32⟩
  | .hbm, ⟨8, _⟩ => ⟨S16384x1024, .bf16⟩
  | .hbm, ⟨9, _⟩ => ⟨S2048x2048, .f32⟩
  | .hbm, ⟨10, _⟩ => ⟨S1024x2048, .f32⟩
  | .hbm, ⟨11, _⟩ => ⟨S1024x2048, .bf16⟩
  | .hbm, ⟨12, _⟩ => ⟨S2048x2048, .f32⟩
  | .hbm, ⟨13, _⟩ => ⟨S1024x2048, .f32⟩
  | .hbm, ⟨14, _⟩ => ⟨S1024x2048, .bf16⟩
  | .hbm, ⟨15, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S1x16384x2048 : Shape := ⟨3, ![1, 16384, 2048]⟩
abbrev S1x16384x1024 : Shape := ⟨3, ![1, 16384, 1024]⟩
abbrev S1x2048x2048 : Shape := ⟨3, ![1, 2048, 2048]⟩
abbrev S2048x2048 : Shape := ⟨2, ![2048, 2048]⟩
abbrev S16384x2048 : Shape := ⟨2, ![16384, 2048]⟩

abbrev nBuf : Space → Nat
  | .hbm => 9
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x16384x1024, .f32⟩
  | .hbm, ⟨2, _⟩ => ⟨S1x16384x1024, .f32⟩
  | .hbm, ⟨3, _⟩ => ⟨S1x2048x2048, .f32⟩
  | .hbm, ⟨4, _⟩ => ⟨S1x16384x2048, .f32⟩
  | .hbm, ⟨5, _⟩ => ⟨S2048x2048, .f32⟩
  | .hbm, ⟨6, _⟩ => ⟨S1x16384x2048, .f32⟩
  | .hbm, ⟨7, _⟩ => ⟨S1x16384x2048, .f32⟩
  | .hbm, ⟨8, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S1x16384x2048 : Shape := ⟨3, ![1, 16384, 2048]⟩
abbrev S1x16384 : Shape := ⟨2, ![1, 16384]⟩
abbrev S1x2048 : Shape := ⟨2, ![1, 2048]⟩
abbrev S1x2048x5184 : Shape := ⟨3, ![1, 2048, 5184]⟩
abbrev S1x512 : Shape := ⟨2, ![1, 512]⟩
abbrev S1x512x2048 : Shape := ⟨3, ![1, 512, 2048]⟩
abbrev S16384x1 : Shape := ⟨2, ![16384, 1]⟩
abbrev S32 : Shape := ⟨1, ![32]⟩
abbrev S_ : Shape := ⟨0, ![]⟩
abbrev S1x32 : Shape := ⟨2, ![1, 32]⟩
abbrev S16384x32 : Shape := ⟨2, ![16384, 32]⟩
abbrev S64 : Shape := ⟨1, ![64]⟩
abbrev S1x64 : Shape := ⟨2, ![1, 64]⟩
abbrev S16384x64 : Shape := ⟨2, ![16384, 64]⟩
abbrev S16384x128 : Shape := ⟨2, ![16384, 128]⟩
abbrev S1x16384x128 : Shape := ⟨3, ![1, 16384, 128]⟩
abbrev S2x16384x128 : Shape := ⟨3, ![2, 16384, 128]⟩
abbrev S2048x5184 : Shape := ⟨2, ![2048, 5184]⟩
abbrev S2048x576 : Shape := ⟨2, ![2048, 576]⟩
abbrev S2048x640 : Shape := ⟨2, ![2048, 640]⟩
abbrev S512x2048 : Shape := ⟨2, ![512, 2048]⟩
abbrev S512x8x256 : Shape := ⟨3, ![512, 8, 256]⟩
abbrev S512x8x128 : Shape := ⟨3, ![512, 8, 128]⟩
abbrev S512x1024 : Shape := ⟨2, ![512, 1024]⟩
abbrev S16384x2048 : Shape := ⟨2, ![16384, 2048]⟩
abbrev S2048 : Shape := ⟨1, ![2048]⟩
abbrev S512 : Shape := ⟨1, ![512]⟩
abbrev S1024x16384 : Shape := ⟨2, ![1024, 16384]⟩
abbrev S1x512x128 : Shape := ⟨3, ![1, 512, 128]⟩
abbrev S1024x512 : Shape := ⟨2, ![1024, 512]⟩
abbrev S512x1 : Shape := ⟨2, ![512, 1]⟩
abbrev S512x640 : Shape := ⟨2, ![512, 640]⟩
abbrev S512x512 : Shape := ⟨2, ![512, 512]⟩
abbrev S512x128 : Shape := ⟨2, ![512, 128]⟩

abbrev nBuf : Space → Nat
  | .hbm => 80
  | .vmem => 18
  | .smem => 0
  | _ => 0

abbrev bufTy : (tb : Table) → Fin (tcTables nBuf tb) → BufTy
  | .hbm, ⟨0, _⟩ => ⟨S1x16384x2048, .f32⟩
  | .hbm, ⟨1, _⟩ => ⟨S1x16384, .i32⟩
  | .hbm, ⟨2, _⟩ => ⟨S1x2048, .f32⟩
  | .hbm, ⟨3, _⟩ => ⟨S1x2048x5184, .f32⟩
  | .hbm, ⟨4, _⟩ => ⟨S1x512, .f32⟩
  | .hbm, ⟨5, _⟩ => ⟨S1x512x2048, .f32⟩
  | .hbm, ⟨6, _⟩ => ⟨S16384x1, .i32⟩
  | .hbm, ⟨7, _⟩ => ⟨S16384x1, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S1x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S1x64, .f32⟩
  | .hbm, ⟨35, _⟩ => ⟨S16384x64, .f32⟩
  | .hbm, ⟨36, _⟩ => ⟨S16384x64, .f32⟩
  | .hbm, ⟨37, _⟩ => ⟨S16384x64, .f32⟩
  | .hbm, ⟨38, _⟩ => ⟨S16384x32, .f32⟩
  | .hbm, ⟨39, _⟩ => ⟨S16384x32, .f32⟩
  | .hbm, ⟨40, _⟩ => ⟨S16384x64, .f32⟩
  | .hbm, ⟨41, _⟩ => ⟨S16384x64, .f32⟩
  | .hbm, ⟨42, _⟩ => ⟨S_, .f32⟩
  | .hbm, ⟨43, _⟩ => ⟨S16384x64, .f32⟩
  | .hbm, ⟨44, _⟩ => ⟨S_, .f32⟩
  | .hbm, ⟨45, _⟩ => ⟨S16384x64, .f32⟩
  | .hbm, ⟨46, _⟩ => ⟨S16384x128, .f32⟩
  | .hbm, ⟨47, _⟩ => ⟨S16384x128, .f32⟩
  | .hbm, ⟨48, _⟩ => ⟨S1x16384x128, .f32⟩
  | .hbm, ⟨49, _⟩ => ⟨S1x16384x128, .f32⟩
  | .hbm, ⟨50, _⟩ => ⟨S2x16384x128, .f32⟩
  | .hbm, ⟨51, _⟩ => ⟨S16384x64, .f32⟩
  | .hbm, ⟨52, _⟩ => ⟨S16384x128, .f32⟩
  | .hbm, ⟨53, _⟩ => ⟨S16384x32, .f32⟩
  | .hbm, ⟨54, _⟩ => ⟨S16384x128, .f32⟩
  | .hbm, ⟨55, _⟩ => ⟨S1x16384x128, .f32⟩
  | .hbm, ⟨56, _⟩ => ⟨S1x16384x128, .f32⟩
  | .hbm, ⟨57, _⟩ => ⟨S2x16384x128, .f32⟩
  | .hbm, ⟨58, _⟩ => ⟨S2048x5184, .f32⟩
  | .hbm, ⟨59, _⟩ => ⟨S2048x5184, .bf16⟩
  | .hbm, ⟨60, _⟩ => ⟨S2048x576, .bf16⟩
  | .hbm, ⟨61, _⟩ => ⟨S_, .i32⟩
  | .hbm, ⟨62, _⟩ => ⟨S_, .bf16⟩
  | .hbm, ⟨63, _⟩ => ⟨S2048x640, .bf16⟩
  | .hbm, ⟨64, _⟩ => ⟨S512x2048, .f32⟩
  | .hbm, ⟨65, _⟩ => ⟨S512x8x256, .f32⟩
  | .hbm, ⟨66, _⟩ => ⟨S512x8x128, .f32⟩
  | .hbm, ⟨67, _⟩ => ⟨S512x1024, .f32⟩
  | .hbm, ⟨68, _⟩ => ⟨S512x1024, .bf16⟩
  | .hbm, ⟨69, _⟩ => ⟨S512x8x128, .f32⟩
  | .hbm, ⟨70, _⟩ => ⟨S512x1024, .f32⟩
  | .hbm, ⟨71, _⟩ => ⟨S512x1024, .bf16⟩
  | .hbm, ⟨72, _⟩ => ⟨S16384x2048, .f32⟩
  | .hbm, ⟨73, _⟩ => ⟨S2048, .f32⟩
  | .hbm, ⟨74, _⟩ => ⟨S1x2048, .f32⟩
  | .hbm, ⟨75, _⟩ => ⟨S512, .f32⟩
  | .hbm, ⟨76, _⟩ => ⟨S1x512, .f32⟩
  | .hbm, ⟨77, _⟩ => ⟨S16384x2048, .bf16⟩
  | .hbm, ⟨78, _⟩ => ⟨S16384x2048, .bf16⟩
  | .hbm, ⟨79, _⟩ => ⟨S1024x16384, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x640, .bf16⟩
  | .local _ .vmem, ⟨4, _⟩ => ⟨S1x512, .f32⟩
  | .local _ .vmem, ⟨5, _⟩ => ⟨S512x1024, .bf16⟩
  | .local _ .vmem, ⟨6, _⟩ => ⟨S512x1024, .bf16⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c : Ref sig .tc := ⟨.hbm, 61, rfl⟩
abbrev main_call0_v0 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61_0 : Ref sig .tc := ⟨.hbm, 77, rfl⟩
abbrev main_v61_1 : Ref sig .tc := ⟨.hbm, 78, rfl⟩
abbrev main_v61_2 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S1x16384x2048 : Shape := ⟨3, ![1, 16384, 2048]⟩
abbrev S1x16384 : Shape := ⟨2, ![1, 16384]⟩
abbrev S1x2048 : Shape := ⟨2, ![1, 2048]⟩
abbrev S1x2048x5184 : Shape := ⟨3, ![1, 2048, 5184]⟩
abbrev S1x512 : Shape := ⟨2, ![1, 512]⟩
abbrev S1x512x2048 : Shape := ⟨3, ![1, 512, 2048]⟩
abbrev S2048 : Shape := ⟨1, ![2048]⟩
abbrev S_ : Shape := ⟨0, ![]⟩
abbrev S1x16384x1 : Shape := ⟨3, ![1, 16384, 1]⟩
abbrev S1x1x2048 : Shape := ⟨3, ![1, 1, 2048]⟩
abbrev S2048x5184 : Shape := ⟨2, ![2048, 5184]⟩
abbrev S2048x576 : Shape := ⟨2, ![2048, 576]⟩
abbrev S1x16384x576 : Shape := ⟨3, ![1, 16384, 576]⟩
abbrev S1x16384x512 : Shape := ⟨3, ![1, 16384, 512]⟩
abbrev S1x16384x64 : Shape := ⟨3, ![1, 16384, 64]⟩
abbrev S1x16384x1x64 : Shape := ⟨4, ![1, 16384, 1, 64]⟩
abbrev S32 : Shape := ⟨1, ![32]⟩
abbrev S1x16384x1x1 : Shape := ⟨4, ![1, 16384, 1, 1]⟩
abbrev S1x1x1x32 : Shape := ⟨4, ![1, 1, 1, 32]⟩
abbrev S1x16384x1x32 : Shape := ⟨4, ![1, 16384, 1, 32]⟩
abbrev S512 : Shape := ⟨1, ![512]⟩
abbrev S1x1x512 : Shape := ⟨3, ![1, 1, 512]⟩
abbrev S512x2048 : Shape := ⟨2, ![512, 2048]⟩
abbrev S1x16384x8x256 : Shape := ⟨4, ![1, 16384, 8, 256]⟩
abbrev S1x16384x8x128 : Shape := ⟨4, ![1, 16384, 8, 128]⟩
abbrev S1x16384x8x64 : Shape := ⟨4, ![1, 16384, 8, 64]⟩
abbrev S16384x2048 : Shape := ⟨2, ![16384, 2048]⟩
abbrev S16384x1024 : Shape := ⟨2, ![16384, 1024]⟩
abbrev S1024x16384 : Shape := ⟨2, ![1024, 16384]⟩

abbrev nBuf : Space → Nat
  | .hbm => 90
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x16384, .i32⟩
  | .hbm, ⟨2, _⟩ => ⟨S1x2048, .f32⟩
  | .hbm, ⟨3, _⟩ => ⟨S1x2048x5184, .f32⟩
  | .hbm, ⟨4, _⟩ => ⟨S1x512, .f32⟩
  | .hbm, ⟨5, _⟩ => ⟨S1x512x2048, .f32⟩
  | .hbm, ⟨6, _⟩ => ⟨S2048, .f32⟩
  | .hbm, ⟨7, _⟩ => ⟨S1x16384x2048, .f32⟩
  | .hbm, ⟨8, _⟩ => ⟨S_, .f32⟩
  | .hbm, ⟨9, _⟩ => ⟨S1x16384, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S_, .f32⟩
  | .hbm, ⟨15, _⟩ => ⟨S1x16384x1, .f32⟩
  | .hbm, ⟨16, _⟩ => ⟨S1x16384x1, .f32⟩
  | .hbm, ⟨17, _⟩ => ⟨S1x16384x1, .f32⟩
  | .hbm, ⟨18, _⟩ => ⟨S1x16384x2048, .f32⟩
  | .hbm, ⟨19, _⟩ => ⟨S1x16384x2048, .f32⟩
  | .hbm, ⟨20, _⟩ => ⟨S1x1x2048, .f32⟩
  | .hbm, ⟨21, _⟩ => ⟨S1x16384x2048, .f32⟩
  | .hbm, ⟨22, _⟩ => ⟨S1x16384x2048, .f32⟩
  | .hbm, ⟨23, _⟩ => ⟨S2048x5184, .f32⟩
  | .hbm, ⟨24, _⟩ => ⟨S2048x576, .f32⟩
  | .hbm, ⟨25, _⟩ => ⟨S1x16384x576, .f32⟩
  | .hbm, ⟨26, _⟩ => ⟨S1x16384x512, .f32⟩
  | .hbm, ⟨27, _⟩ => ⟨S1x16384x64, .f32⟩
  | .hbm, ⟨28, _⟩ => ⟨S1x16384x1x64, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S1x16384, .f32⟩
  | .hbm, ⟨41, _⟩ => ⟨S1x16384x1x1, .f32⟩
  | .hbm, ⟨42, _⟩ => ⟨S1x1x1x32, .f32⟩
  | .hbm, ⟨43, _⟩ => ⟨S1x16384x1x32, .f32⟩
  | .hbm, ⟨44, _⟩ => ⟨S1x16384x1x32, .f32⟩
  | .hbm, ⟨45, _⟩ => ⟨S1x16384x1x32, .f32⟩
  | .hbm, ⟨46, _⟩ => ⟨S1x16384x1x32, .f32⟩
  | .hbm, ⟨47, _⟩ => ⟨S1x16384x1x32, .f32⟩
  | .hbm, ⟨48, _⟩ => ⟨S1x16384x1x32, .f32⟩
  | .hbm, ⟨49, _⟩ => ⟨S1x16384x1x32, .f32⟩
  | .hbm, ⟨50, _⟩ => ⟨S1x16384x1x32, .f32⟩
  | .hbm, ⟨51, _⟩ => ⟨S1x16384x1x32, .f32⟩
  | .hbm, ⟨52, _⟩ => ⟨S1x16384x1x32, .f32⟩
  | .hbm, ⟨53, _⟩ => ⟨S1x16384x1x32, .f32⟩
  | .hbm, ⟨54, _⟩ => ⟨S1x16384x1x32, .f32⟩
  | .hbm, ⟨55, _⟩ => ⟨S1x16384x1x32, .f32⟩
  | .hbm, ⟨56, _⟩ => ⟨S1x16384x1x64, .f32⟩
  | .hbm, ⟨57, _⟩ => ⟨S512, .f32⟩
  | .hbm, ⟨58, _⟩ => ⟨S1x16384x512, .f32⟩
  | .hbm, ⟨59, _⟩ => ⟨S_, .f32⟩
  | .hbm, ⟨60, _⟩ => ⟨S1x16384, .f32⟩
  | .hbm, ⟨61, _⟩ => ⟨S1x16384x1, .f32⟩
  | .hbm, ⟨62, _⟩ => ⟨S_, .f32⟩
  | .hbm, ⟨63, _⟩ => ⟨S1x16384x1, .f32⟩
  | .hbm, ⟨64, _⟩ => ⟨S1x16384x1, .f32⟩
  | .hbm, ⟨65, _⟩ => ⟨S_, .f32⟩
  | .hbm, ⟨66, _⟩ => ⟨S1x16384x1, .f32⟩
  | .hbm, ⟨67, _⟩ => ⟨S1x16384x1, .f32⟩
  | .hbm, ⟨68, _⟩ => ⟨S1x16384x1, .f32⟩
  | .hbm, ⟨69, _⟩ => ⟨S1x16384x512, .f32⟩
  | .hbm, ⟨70, _⟩ => ⟨S1x16384x512, .f32⟩
  | .hbm, ⟨71, _⟩ => ⟨S1x1x512, .f32⟩
  | .hbm, ⟨72, _⟩ => ⟨S1x16384x512, .f32⟩
  | .hbm, ⟨73, _⟩ => ⟨S1x16384x512, .f32⟩
  | .hbm, ⟨74, _⟩ => ⟨S512x2048, .f32⟩
  | .hbm, ⟨75, _⟩ => ⟨S1x16384x2048, .f32⟩
  | .hbm, ⟨76, _⟩ => ⟨S1x16384x8x256, .f32⟩
  | .hbm, ⟨77, _⟩ => ⟨S1x16384x8x128, .f32⟩
  | .hbm, ⟨78, _⟩ => ⟨S1x16384x8x128, .f32⟩
  | .hbm, ⟨79, _⟩ => ⟨S1x16384x8x64, .f32⟩
  | .hbm, ⟨80, _⟩ => ⟨S_, .f32⟩
  | .hbm, ⟨81, _⟩ => ⟨S1x16384x8x64, .f32⟩
  | .hbm, ⟨82, _⟩ => ⟨S1x16384x8x256, .f32⟩
  | .hbm, ⟨83, _⟩ => ⟨S16384x2048, .f32⟩
  | .hbm, ⟨84, _⟩ => ⟨S16384x2048, .bf16⟩
  | .hbm, ⟨85, _⟩ => ⟨S16384x2048, .f32⟩
  | .hbm, ⟨86, _⟩ => ⟨S16384x2048, .bf16⟩
  | .hbm, ⟨87, _⟩ => ⟨S16384x1024, .f32⟩
  | .hbm, ⟨88, _⟩ => ⟨S1024x16384, .f32⟩
  | .hbm, ⟨89, _⟩ => ⟨S1024x16384, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_8 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩

abbrev nD : Nat := 1
abbrev τ : Topo := Topo.v7x

variable {F : FTy → Type} [FloatOps F]
-- ==== Kernel6.lean ====
abbrev S1x16384 : Shape := ⟨2, ![1, 16384]⟩
abbrev S64 : Shape := ⟨1, ![64]⟩
abbrev S_ : Shape := ⟨0, ![]⟩
abbrev S32 : Shape := ⟨1, ![32]⟩
abbrev S128 : Shape := ⟨1, ![128]⟩
abbrev S128x1 : Shape := ⟨2, ![128, 1]⟩
abbrev S128x16384 : Shape := ⟨2, ![128, 16384]⟩
abbrev S2x16384x128 : Shape := ⟨3, ![2, 16384, 128]⟩
abbrev S1x1024 : Shape := ⟨2, ![1, 1024]⟩
abbrev S128x1024 : Shape := ⟨2, ![128, 1024]⟩
abbrev S2x1024x128 : Shape := ⟨3, ![2, 1024, 128]⟩
abbrev S1024x128 : Shape := ⟨2, ![1024, 128]⟩
abbrev S1x1024x128 : Shape := ⟨3, ![1, 1024, 128]⟩

abbrev nBuf : Space → Nat
  | .hbm => 31
  | .vmem => 11
  | .smem => 0
  | _ => 0

abbrev bufTy : (tb : Table) → Fin (tcTables nBuf tb) → BufTy
  | .hbm, ⟨0, _⟩ => ⟨S1x16384, .i32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S128, .f32⟩
  | .hbm, ⟨26, _⟩ => ⟨S128x1, .f32⟩
  | .hbm, ⟨27, _⟩ => ⟨S128x16384, .f32⟩
  | .hbm, ⟨28, _⟩ => ⟨S128x16384, .f32⟩
  | .hbm, ⟨29, _⟩ => ⟨S2x16384x128, .f32⟩
  | .hbm, ⟨30, _⟩ => ⟨S2x16384x128, .f32⟩
  | .local _ .vmem, ⟨0, _⟩ => ⟨S1x1024, .i32⟩
  | .local _ .vmem, ⟨1, _⟩ => ⟨S1x1024, .i32⟩
  | .local _ .vmem, ⟨2, _⟩ => ⟨S128x1, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S2x1024x128, .f32⟩
  | .local _ .vmem, ⟨8, _⟩ => ⟨S2x1024x128, .f32⟩
  | .local _ .vmem, ⟨9, _⟩ => ⟨S2x1024x128, .f32⟩
  | .local _ .vmem, ⟨10, _⟩ => ⟨S2x1024x128, .f32⟩
  | _, _ => ⟨S1x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩
abbrev main_cst_5 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S1x16384 : Shape := ⟨2, ![1, 16384]⟩
abbrev S16384 : Shape := ⟨1, ![16384]⟩
abbrev S16384x1 : Shape := ⟨2, ![16384, 1]⟩
abbrev S64 : Shape := ⟨1, ![64]⟩
abbrev S_ : Shape := ⟨0, ![]⟩
abbrev S1x64 : Shape := ⟨2, ![1, 64]⟩
abbrev S16384x64 : Shape := ⟨2, ![16384, 64]⟩
abbrev S32 : Shape := ⟨1, ![32]⟩
abbrev S1x32 : Shape := ⟨2, ![1, 32]⟩
abbrev S16384x32 : Shape := ⟨2, ![16384, 32]⟩
abbrev S16384x128 : Shape := ⟨2, ![16384, 128]⟩
abbrev S128x16384 : Shape := ⟨2, ![128, 16384]⟩
abbrev S1x16384x128 : Shape := ⟨3, ![1, 16384, 128]⟩
abbrev S2x16384x128 : Shape := ⟨3, ![2, 16384, 128]⟩

abbrev nBuf : Space → Nat
  | .hbm => 60
  | .vmem => 0
  | .smem => 0
  | _ => 0

abbrev bufTy : (tb : Table) → Fin (tcTables nBuf tb) → BufTy
  | .hbm, ⟨0, _⟩ => ⟨S1x16384, .i32⟩
  | .hbm, ⟨1, _⟩ => ⟨S16384, .i32⟩
  | .hbm, ⟨2, _⟩ => ⟨S16384, .f32⟩
  | .hbm, ⟨3, _⟩ => ⟨S16384x1, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S1x64, .f32⟩
  | .hbm, ⟨16, _⟩ => ⟨S16384x64, .f32⟩
  | .hbm, ⟨17, _⟩ => ⟨S16384x64, .f32⟩
  | .hbm, ⟨18, _⟩ => ⟨S16384x64, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S1x32, .f32⟩
  | .hbm, ⟨31, _⟩ => ⟨S16384x32, .f32⟩
  | .hbm, ⟨32, _⟩ => ⟨S16384x32, .f32⟩
  | .hbm, ⟨33, _⟩ => ⟨S16384x32, .f32⟩
  | .hbm, ⟨34, _⟩ => ⟨S16384x64, .f32⟩
  | .hbm, ⟨35, _⟩ => ⟨S16384x64, .f32⟩
  | .hbm, ⟨36, _⟩ => ⟨S16384x32, .f32⟩
  | .hbm, ⟨37, _⟩ => ⟨S16384x32, .f32⟩
  | .hbm, ⟨38, _⟩ => ⟨S_, .f32⟩
  | .hbm, ⟨39, _⟩ => ⟨S16384x32, .f32⟩
  | .hbm, ⟨40, _⟩ => ⟨S_, .f32⟩
  | .hbm, ⟨41, _⟩ => ⟨S16384x32, .f32⟩
  | .hbm, ⟨42, _⟩ => ⟨S16384x128, .f32⟩
  | .hbm, ⟨43, _⟩ => ⟨S128x16384, .f32⟩
  | .hbm, ⟨44, _⟩ => ⟨S16384x128, .f32⟩
  | .hbm, ⟨45, _⟩ => ⟨S128x16384, .f32⟩
  | .hbm, ⟨46, _⟩ => ⟨S16384x128, .f32⟩
  | .hbm, ⟨47, _⟩ => ⟨S16384x32, .f32⟩
  | .hbm, ⟨48, _⟩ => ⟨S16384x128, .f32⟩
  | .hbm, ⟨49, _⟩ => ⟨S1x16384x128, .f32⟩
  | .hbm, ⟨50, _⟩ => ⟨S1x16384x128, .f32⟩
  | .hbm, ⟨51, _⟩ => ⟨S2x16384x128, .f32⟩
  | .hbm, ⟨52, _⟩ => ⟨S16384x64, .f32⟩
  | .hbm, ⟨53, _⟩ => ⟨S16384x128, .f32⟩
  | .hbm, ⟨54, _⟩ => ⟨S16384x32, .f32⟩
  | .hbm, ⟨55, _⟩ => ⟨S16384x32, .f32⟩
  | .hbm, ⟨56, _⟩ => ⟨S16384x128, .f32⟩
  | .hbm, ⟨57, _⟩ => ⟨S1x16384x128, .f32⟩
  | .hbm, ⟨58, _⟩ => ⟨S1x16384x128, .f32⟩
  | .hbm, ⟨59, _⟩ => ⟨S2x16384x128, .f32⟩
  | _, _ => ⟨S1x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_5 : Ref sig .tc := ⟨.hbm, 38, rfl⟩
abbrev main_v31 : Ref sig .tc := ⟨.hbm, 39, rfl⟩
abbrev main_cst_6 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩

abbrev nD : Nat := 1
abbrev τ : Topo := Topo.v7x

variable {F : FTy → Type} [FloatOps F]
-- ==== Proof.Mla.Stage.lean ====
/-
  The attention kernel as a list of STAGES. The printed body is some eighty parts cut every sixty statements; the
  kernel's own text is a handful of stages called many times on different slots: `start` (a product of a block of keys
  with a group of queries, stored into one of two slots), `finish` (one update of the running maximum, the running sum
  and the running weighted values of a group) and `finish` under the causal mask. Here each stage is a program of its
  own, over the slot and the group it works on; `Body.lean` proves that the printed body is a list of them.
-/
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.VecWindow
public import Idealize.ShloMosaic.Lib.Pipeline.Kit

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The slot `b` of the two score slots lies inside their scratch. -/
theorem inb6 (b : Fin 2) : ∀ a, (![b.val, 0, 0] : Fin 3 → ℕ) a + S1x512x512.size a ≤ S2x512x512.size a := by
  revert b; decide
/-- The slot `b` of the two column maxima lies inside their scratch. -/
theorem inb7 (b : Fin 2) : ∀ a, (![b.val, 0, 0] : Fin 3 → ℕ) a + S1x1x512.size a ≤ S2x1x512.size a := by
  revert b; decide
/-- Group `g`'s row of the running maxima (and of the running sums) lies inside its scratch. -/
theorem inb8 (g : Fin 4) : ∀ a, (![g.val, 0, 0] : Fin 3 → ℕ) a + S1x1x512.size a ≤ S4x1x512.size a := by
  revert g; decide
/-- Group `g`'s block of the running weighted values lies inside its scratch. -/
theorem inb10 (g : Fin 4) : ∀ a, (![g.val, 0, 0] : Fin 3 → ℕ) a + S1x128x512.size a ≤ S4x128x512.size a := by
  revert g; decide
/-- Group `g`'s columns of the queries lie inside their block. -/
theorem inb2 (g : Fin 4) : ∀ a, (![0, 512 * g.val] : Fin 2 → ℕ) a + S256x512.size a ≤ S256x2048.size a := by
  revert g; decide
/-- Group `g`'s rows of the result lie inside its block. -/
theorem inb5 (g : Fin 4) : ∀ a, (![512 * g.val, 0] : Fin 2 → ℕ) a + S512x128.size a ≤ S2048x128.size a := by
  revert g; decide

/-- The weights of a masked block: the scores with the entries above the diagonal replaced, less the new maximum, to the
    power of two. -/
def pDiag (s : Vec F S1x512x512 .f32) (m : Vec F S1x1x512 .f32) : FVec F S512x512 .bf16 :=
  truncf .bf16 (exp2 (subf (k0_pay376 s) (broadcastTo S512x512 (k0_pay378 s m) broadcasts_S1x512_S512x512))) bitsLt_bf16_f32

/-- One call of a stage: on which slot, for which group, at which rows of the keys or columns of the values. -/
inductive Stage : Type where
  /-- Scores of group `g` against the keys at `ko`, with their column maxima, into slot `b`. -/
  | startC (b : Fin 2) (g : Fin 4) (ko : Fin 2 → ℕ) (hk : ∀ a, ko a + S512x256.size a ≤ S16384x256.size a)
  /-- Scores of group `g` against the keys at `ko`, into slot `b`, without the maxima. -/
  | startN (b : Fin 2) (g : Fin 4) (ko : Fin 2 → ℕ) (hk : ∀ a, ko a + S512x256.size a ≤ S16384x256.size a)
  /-- Group `g`'s running quantities updated by the scores in slot `b` and the values at `vo`. -/
  | fin (b : Fin 2) (g : Fin 4) (vo : Fin 2 → ℕ) (hv : ∀ a, vo a + S128x512.size a ≤ S128x16384.size a)
  /-- The same under the causal mask (the maxima taken after it). -/
  | finD (b : Fin 2) (g : Fin 4) (vo : Fin 2 → ℕ) (hv : ∀ a, vo a + S128x512.size a ≤ S128x16384.size a)

section Prog

variable (arg2 : Memref sig .tc .vmem S256x2048 .bf16) (arg3 : Memref sig .tc .vmem S16384x256 .bf16)
  (arg4 : Memref sig .tc .vmem S128x16384 .bf16) (arg6 : Memref sig .tc .vmem S2x512x512 .f32)
  (arg7 : Memref sig .tc .vmem S2x1x512 .f32) (arg8 : Memref sig .tc .vmem S4x1x512 .f32)
  (arg9 : Memref sig .tc .vmem S4x1x512 .f32) (arg10 : Memref sig .tc .vmem S4x128x512 .f32)

/-- The three updates that end a stage: from the factor `al`, the weights `p`, the values `vt` and the new maximum `mx`. -/
def updates (g : Fin 4) (mx al : FVec F S1x512 .f32) (p : FVec F S512x512 .bf16) (vt : Vec F S128x512 .bf16) :
    Prog (TpuEff nD τ sig (Elt F) Λ₀ .tc) Unit := do
  let l ← Prog.lift (.load arg9 (Rect.unit (s := S4x1x512) ![g.val, 0, 0] S1x1x512.size (inb8 g)).toLoadRect (View.loadsAt_vmem h_S1x1x512))
  let _ ← Prog.lift (.load arg9 (Rect.unit (s := S4x1x512) ![g.val, 0, 0] S1x1x512.size (inb8 g)).toLoadRect (View.loadsAt_vmem h_S1x1x512))
  Prog.lift (.store arg9 (Rect.unit (s := S4x1x512) ![g.val, 0, 0] S1x1x512.size (inb8 g)) (k0_pay10 al p vt l) Finset.univ (View.stores_vmem_bits_univ h_S1x1x512 rfl) (.inl rfl))
  let a ← Prog.lift (.load arg10 (Rect.unit (s := S4x128x512) ![g.val, 0, 0] S1x128x512.size (inb10 g)).toLoadRect (View.loadsAt_vmem h_S1x128x512))
  let _ ← Prog.lift (.load arg10 (Rect.unit (s := S4x128x512) ![g.val, 0, 0] S1x128x512.size (inb10 g)).toLoadRect (View.loadsAt_vmem h_S1x128x512))
  Prog.lift (.store arg10 (Rect.unit (s := S4x128x512) ![g.val, 0, 0] S1x128x512.size (inb10 g)) (k0_pay11 al p vt a) Finset.univ (View.stores_vmem_bits_univ h_S1x128x512 rfl) (.inl rfl))
  let _ ← Prog.lift (.load arg8 (Rect.unit (s := S4x1x512) ![g.val, 0, 0] S1x1x512.size (inb8 g)).toLoadRect (View.loadsAt_vmem h_S1x1x512))
  Prog.lift (.store arg8 (Rect.unit (s := S4x1x512) ![g.val, 0, 0] S1x1x512.size (inb8 g)) (k0_pay12 mx) Finset.univ (View.stores_vmem_bits_univ h_S1x1x512 rfl) (.inl rfl))

/-- The program of one stage. -/
def Stage.run : Stage → Prog (TpuEff nD τ sig (Elt F) Λ₀ .tc) Unit
  | .startC b g ko hk => do
    let k ← Prog.lift (.load arg3 (Rect.unit (s := S16384x256) ko S512x256.size hk).toLoadRect (View.loadsAt_vmem h_S512x256))
    let q ← Prog.lift (.load arg2 (Rect.unit (s := S256x2048) ![0, 512 * g.val] S256x512.size (inb2 g)).toLoadRect (View.loadsAt_vmem h_S256x512))
    let _ ← Prog.lift (.load arg6 (Rect.unit (s := S2x512x512) ![b.val, 0, 0] S1x512x512.size (inb6 b)).toLoadRect (View.loadsAt_vmem h_S1x512x512))
    Prog.lift (.store arg6 (Rect.unit (s := S2x512x512) ![b.val, 0, 0] S1x512x512.size (inb6 b)) (k0_pay3 k q) Finset.univ (View.stores_vmem_bits_univ h_S1x512x512 rfl) (.inl rfl))
    let _ ← Prog.lift (.load arg7 (Rect.unit (s := S2x1x512) ![b.val, 0, 0] S1x1x512.size (inb7 b)).toLoadRect (View.loadsAt_vmem h_S1x1x512))
    Prog.lift (.store arg7 (Rect.unit (s := S2x1x512) ![b.val, 0, 0] S1x1x512.size (inb7 b)) (k0_pay4 k q) Finset.univ (View.stores_vmem_bits_univ h_S1x1x512 rfl) (.inl rfl))
  | .startN b g ko hk => do
    let k ← Prog.lift (.load arg3 (Rect.unit (s := S16384x256) ko S512x256.size hk).toLoadRect (View.loadsAt_vmem h_S512x256))
    let q ← Prog.lift (.load arg2 (Rect.unit (s := S256x2048) ![0, 512 * g.val] S256x512.size (inb2 g)).toLoadRect (View.loadsAt_vmem h_S256x512))
    let _ ← Prog.lift (.load arg6 (Rect.unit (s := S2x512x512) ![b.val, 0, 0] S1x512x512.size (inb6 b)).toLoadRect (View.loadsAt_vmem h_S1x512x512))
    Prog.lift (.store arg6 (Rect.unit (s := S2x512x512) ![b.val, 0, 0] S1x512x512.size (inb6 b)) (k0_pay3 k q) Finset.univ (View.stores_vmem_bits_univ h_S1x512x512 rfl) (.inl rfl))
  | .fin b g vo hv => do
    let s ← Prog.lift (.load arg6 (Rect.unit (s := S2x512x512) ![b.val, 0, 0] S1x512x512.size (inb6 b)).toLoadRect (View.loadsAt_vmem h_S1x512x512))
    let cm ← Prog.lift (.load arg7 (Rect.unit (s := S2x1x512) ![b.val, 0, 0] S1x1x512.size (inb7 b)).toLoadRect (View.loadsAt_vmem h_S1x1x512))
    let m ← Prog.lift (.load arg8 (Rect.unit (s := S4x1x512) ![g.val, 0, 0] S1x1x512.size (inb8 g)).toLoadRect (View.loadsAt_vmem h_S1x1x512))
    let vt ← Prog.lift (.load arg4 (Rect.unit (s := S128x16384) vo S128x512.size hv).toLoadRect (View.loadsAt_vmem h_S128x512))
    updates arg8 arg9 arg10 g (k0_pay6 cm m) (k0_pay7 cm m) (k0_pay8 s cm m) vt
  | .finD b g vo hv => do
    let s ← Prog.lift (.load arg6 (Rect.unit (s := S2x512x512) ![b.val, 0, 0] S1x512x512.size (inb6 b)).toLoadRect (View.loadsAt_vmem h_S1x512x512))
    let m ← Prog.lift (.load arg8 (Rect.unit (s := S4x1x512) ![g.val, 0, 0] S1x1x512.size (inb8 g)).toLoadRect (View.loadsAt_vmem h_S1x1x512))
    let vt ← Prog.lift (.load arg4 (Rect.unit (s := S128x16384) vo S128x512.size hv).toLoadRect (View.loadsAt_vmem h_S128x512))
    updates arg8 arg9 arg10 g (k0_pay378 s m) (k0_pay379 s m) (pDiag s m) vt

/-- The stages of a list, one after the other. -/
def runStages : List Stage → Prog (TpuEff nD τ sig (Elt F) Λ₀ .tc) Unit
  | [] => pure ()
  | [S] => S.run arg2 arg3 arg4 arg6 arg7 arg8 arg9 arg10
  | S :: L => do
    S.run arg2 arg3 arg4 arg6 arg7 arg8 arg9 arg10
    runStages L

end Prog

/-- The four group steps of one block of keys: `kn` the keys the last step starts for the next block. -/
def chunk (ko : Fin 2 → ℕ) (hk : ∀ a, ko a + S512x256.size a ≤ S16384x256.size a)
    (vo : Fin 2 → ℕ) (hv : ∀ a, vo a + S128x512.size a ≤ S128x16384.size a)
    (kn : Fin 2 → ℕ) (hn : ∀ a, kn a + S512x256.size a ≤ S16384x256.size a) : List Stage :=
  [.startC 1 1 ko hk, .fin 0 0 vo hv, .startC 0 2 ko hk, .fin 1 1 vo hv,
   .startC 1 3 ko hk, .fin 0 2 vo hv, .startC 0 0 kn hn, .fin 1 3 vo hv]

/-- One trip of the main loop: four blocks of keys. -/
def trip (i : grid0.Coords) (t : Fin (k0_t1_loop i).trips) : List Stage :=
  chunk _ (k0_off1_inb i t 0) _ (k0_off2_inb i t 0) _ (k0_off3_inb i t 0)
  ++ chunk _ (k0_off1_inb i t 1) _ (k0_off2_inb i t 1) _ (k0_off3_inb i t 1)
  ++ chunk _ (k0_off1_inb i t 2) _ (k0_off2_inb i t 2) _ (k0_off3_inb i t 2)
  ++ chunk _ (k0_off1_inb i t 3) _ (k0_off2_inb i t 3) _ (k0_off3_inb i t 3)

/-- The ten steps after the loop: the blocks of keys that meet the diagonal. -/
def tail (i : grid0.Coords) : List Stage :=
  [.startC 1 1 _ (k0_off7_inb i 0), .finD 0 0 _ (k0_off8_inb i 0),
   .startC 0 2 _ (k0_off7_inb i 0), .fin 1 1 _ (k0_off8_inb i 0),
   .startC 1 3 _ (k0_off7_inb i 0), .fin 0 2 _ (k0_off8_inb i 0),
   .startN 0 1 _ (k0_off7_inb i 1), .fin 1 3 _ (k0_off8_inb i 0),
   .startC 1 2 _ (k0_off7_inb i 1), .finD 0 1 _ (k0_off8_inb i 1),
   .startC 0 3 _ (k0_off7_inb i 1), .fin 1 2 _ (k0_off8_inb i 1),
   .startN 1 2 _ (k0_off7_inb i 2), .fin 0 3 _ (k0_off8_inb i 1),
   .startC 0 3 _ (k0_off7_inb i 2), .finD 1 2 _ (k0_off8_inb i 2),
   .startN 1 3 _ (k0_off7_inb i 3), .fin 0 3 _ (k0_off8_inb i 2),
   .finD 1 3 _ (k0_off8_inb i 3)]

end Cert.KernelIdeal.Mla

end
-- ==== Proof.Mla.Body.lean ====
/-
  The printed body is a list of stages: the trip of the main loop is sixteen of them twice over, and the whole body is
  the initialisation, the loop, the (empty) remainder loop, the tail and the division.
-/
module

public import proofs.«01_k».proof.Proof.Mla.Stage

@[expose] public section

set_option maxRecDepth 65536

noncomputable section

namespace Cert.KernelIdeal.Mla

open Cert.KernelIdeal Cert.KernelIdeal.Gen
open Idealize.ShloMosaic Idealize.ShloMosaic.TcCoe Idealize.ShloMosaic.Tactic
open Idealize.SL.Sem

variable {F : FTy → Type} [FloatOps F] [Named F]

variable (i : grid0.Coords) (arg2 : Memref sig .tc .vmem S256x2048 .bf16) (harg2 : arg2.IsWhole) (arg3 : Memref sig .tc .vmem S16384x256 .bf16) (harg3 : arg3.IsWhole) (arg4 : Memref sig .tc .vmem S128x16384 .bf16) (harg4 : arg4.IsWhole) (arg5 : Memref sig .tc .vmem S2048x128 .bf16) (harg5 : arg5.IsWhole) (arg6 : Memref sig .tc .vmem S2x512x512 .f32) (harg6 : arg6.IsWhole) (arg7 : Memref sig .tc .vmem S2x1x512 .f32) (harg7 : arg7.IsWhole) (arg8 : Memref sig .tc .vmem S4x1x512 .f32) (harg8 : arg8.IsWhole) (arg9 : Memref sig .tc .vmem S4x1x512 .f32) (harg9 : arg9.IsWhole) (arg10 : Memref sig .tc .vmem S4x128x512 .f32) (harg10 : arg10.IsWhole)

/-- A trip of the main loop is its thirty-two stages. -/
theorem trip_eq (v12 : BitVec 32) (t : Fin (k0_t1_loop i).trips) (u : Unit) :
    k0_t1_body (F := F) i arg2 harg2 arg3 harg3 arg4 harg4 arg5 harg5 arg6 harg6 arg7 harg7 arg8 harg8 arg9 harg9 arg10 harg10 v12 t u
      = runStages arg2 arg3 arg4 arg6 arg7 arg8 arg9 arg10 (trip i t) := rfl

/-- The scratch cleared, and the first block of keys started for the first group. -/
def initP : Prog (TpuEff nD τ sig (Elt F) Λ₀ .tc) Unit := do
  let _ ← Prog.lift (.load arg8 (Rect.unit (s := S4x1x512) ![0, 0, 0] S4x1x512.size inb_S4x1x512_S4x1x512_0_0_0).toLoadRect (View.loadsAt_vmem h_S4x1x512))
  Prog.lift (.store arg8 (Rect.unit (s := S4x1x512) ![0, 0, 0] S4x1x512.size inb_S4x1x512_S4x1x512_0_0_0) (k0_pay364 (F := F)) Finset.univ (View.stores_vmem_bits_univ h_S4x1x512 rfl) (.inl rfl))
  let _ ← Prog.lift (.load arg9 (Rect.unit (s := S4x1x512) ![0, 0, 0] S4x1x512.size inb_S4x1x512_S4x1x512_0_0_0).toLoadRect (View.loadsAt_vmem h_S4x1x512))
  Prog.lift (.store arg9 (Rect.unit (s := S4x1x512) ![0, 0, 0] S4x1x512.size inb_S4x1x512_S4x1x512_0_0_0) (k0_pay365 (F := F)) Finset.univ (View.stores_vmem_bits_univ h_S4x1x512 rfl) (.inl rfl))
  let _ ← Prog.lift (.load arg10 (Rect.unit (s := S4x128x512) ![0, 0, 0] S4x128x512.size inb_S4x128x512_S4x128x512_0_0_0).toLoadRect (View.loadsAt_vmem h_S4x128x512))
  Prog.lift (.store arg10 (Rect.unit (s := S4x128x512) ![0, 0, 0] S4x128x512.size inb_S4x128x512_S4x128x512_0_0_0) (k0_pay366 (F := F)) Finset.univ (View.stores_vmem_bits_univ h_S4x128x512 rfl) (.inl rfl))
  Stage.run arg2 arg3 arg4 arg6 arg7 arg8 arg9 arg10 (.startC 0 0 ![0, 0] inb_S16384x256_S512x256_0_0)

/-- Group `g`'s rows of the result fill whole words. -/
theorem packed5 (g : Fin 4) : (Rect.unit (s := S2048x128) ![512 * g.val, 0] S512x128.size (inb5 g)).PackedRows (EltTy.packing .bf16) := by
  revert g; decide

/-- Group `g`'s weighted values divided by its sum, transposed into its rows of the result. -/
def outP (g : Fin 4) : Prog (TpuEff nD τ sig (Elt F) Λ₀ .tc) Unit := do
  let a ← Prog.lift (.load arg10 (Rect.unit (s := S4x128x512) ![g.val, 0, 0] S1x128x512.size (inb10 g)).toLoadRect (View.loadsAt_vmem h_S1x128x512))
  let l ← Prog.lift (.load arg9 (Rect.unit (s := S4x1x512) ![g.val, 0, 0] S1x1x512.size (inb8 g)).toLoadRect (View.loadsAt_vmem h_S1x1x512))
  let _ ← Prog.lift (.load arg5 (Rect.unit (s := S2048x128) ![512 * g.val, 0] S512x128.size (inb5 g)).toLoadRect (View.loadsAt_vmem h_S512x128))
  Prog.lift (.store arg5 (Rect.unit (s := S2048x128) ![512 * g.val, 0] S512x128.size (inb5 g)) (k0_pay1 (k0_pay484 a) l) Finset.univ (View.stores_vmem h_S512x128 (harg5.storeExact_slice rfl _ (packed5 g)) (fun _ => rfl)) (.inl rfl))

/-- What follows the loops: the tail, then the four groups' results. -/
def endP : Prog (TpuEff nD τ sig (Elt F) Λ₀ .tc) Unit := do
  runStages arg2 arg3 arg4 arg6 arg7 arg8 arg9 arg10 (tail i)
  outP arg5 harg5 arg9 arg10 0
  outP arg5 harg5 arg9 arg10 1
  outP arg5 harg5 arg9 arg10 2
  outP arg5 harg5 arg9 arg10 3

/-- The whole body: the initialisation, the loop over trips of stages, a second loop over some region, and the end. -/
theorem body_eq : ∃ g2, cc0_flash_attn (F := F) i arg2 harg2 arg3 harg3 arg4 harg4 arg5 harg5 arg6 harg6 arg7 harg7 arg8 harg8 arg9 harg9 arg10 harg10
    = (initP arg2 arg3 arg4 arg6 arg7 arg8 arg9 arg10 >>= fun _ =>
        Scf.Loop.for (k0_t1_loop i) (k0_t1_ok i) () (fun t _ => runStages arg2 arg3 arg4 arg6 arg7 arg8 arg9 arg10 (trip i t)) >>= fun _ =>
        Scf.Loop.for (k0_t2_loop i) (k0_t2_ok i) () g2 >>= fun _ =>
        endP i arg2 arg3 arg4 arg5 harg5 arg6 arg7 arg8 arg9 arg10) := by
  refine ⟨k0_t2_body i arg2 harg2 arg3 harg3 arg4 harg4 arg5 harg5 arg6 harg6 arg7 harg7 arg8 harg8 arg9 harg9 arg10 harg10 (Scalar.muli (BitVec.ofNat 32 (i 1).val) 4#32) (k0_t1_loop i).ub, ?_⟩
  rw [cc0_flash_attn_eq_skeleton]
  unfold cc0_flash_attn_skel
  rw [k0_part76_eq_skeleton]
  unfold k0_part76_skel
  rw [k0_part58_eq_skeleton, k0_part57_eq_skeleton]
  unfold k0_part58_skel k0_part57_skel
  simp only [Prog.bind_assoc]
  rfl

end Cert.KernelIdeal.Mla

end
-- ==== Proof.Mla.Run.lean ====
/-
  What each stage leaves: the five scratch arrays after a stage as a plain function (`Stage.eff`) of the arrays before
  it and of the three staged blocks, and the run of a list of stages to that function folded over the list.
-/
module

public import proofs.«01_k».proof.Proof.Mla.Body

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F] [Named F]

/-- The proof's resource algebra: the frame kit's. -/
local notation "𝕄" => MT nD τ sig Unit (Elt F) ℕ (UR sig nD τ) ℕ

abbrev 𝒱₀ : Variants := Variants.none

/-- The kernel's scratch: the two score slots, their column maxima, and per group the running maximum, sum and weighted values. -/
structure St (F : FTy → Type) [FloatOps F] where
  s : Vec F S2x512x512 .f32
  c : Vec F S2x1x512 .f32
  m : Vec F S4x1x512 .f32
  l : Vec F S4x1x512 .f32
  a : Vec F S4x128x512 .f32

/-- Slot `b` of the scores. -/
def St.sAt (σ : St F) (b : Fin 2) : Vec F S1x512x512 .f32 := window σ.s ![b.val, 0, 0] S1x512x512.size (inb6 b)
/-- Slot `b` of the column maxima. -/
def St.cAt (σ : St F) (b : Fin 2) : Vec F S1x1x512 .f32 := window σ.c ![b.val, 0, 0] S1x1x512.size (inb7 b)
/-- Group `g`'s running maximum. -/
def St.mAt (σ : St F) (g : Fin 4) : Vec F S1x1x512 .f32 := window σ.m ![g.val, 0, 0] S1x1x512.size (inb8 g)
/-- Group `g`'s running sum. -/
def St.lAt (σ : St F) (g : Fin 4) : Vec F S1x1x512 .f32 := window σ.l ![g.val, 0, 0] S1x1x512.size (inb8 g)
/-- Group `g`'s running weighted values. -/
def St.aAt (σ : St F) (g : Fin 4) : Vec F S1x128x512 .f32 := window σ.a ![g.val, 0, 0] S1x128x512.size (inb10 g)

/-- The keys at `ko`, the queries of group `g`, the values at `vo`. -/
def kAt (k : Vec F S16384x256 .bf16) (ko : Fin 2 → ℕ) (hk : ∀ a, ko a + S512x256.size a ≤ S16384x256.size a) : Vec F S512x256 .bf16 :=
  window k ko S512x256.size hk
def qAt (q : Vec F S256x2048 .bf16) (g : Fin 4) : Vec F S256x512 .bf16 := window q ![0, 512 * g.val] S256x512.size (inb2 g)
def vAt (v : Vec F S128x16384 .bf16) (vo : Fin 2 → ℕ) (hv : ∀ a, vo a + S128x512.size a ≤ S128x16384.size a) : Vec F S128x512 .bf16 :=
  window v vo S128x512.size hv

/-- The scratch after group `g`'s three updates. -/
def St.upd (σ : St F) (g : Fin 4) (mx al : FVec F S1x512 .f32) (p : FVec F S512x512 .bf16) (vt : Vec F S128x512 .bf16) : St F :=
  { s := σ.s, c := σ.c
    m := put σ.m ![g.val, 0, 0] S1x1x512.size (k0_pay12 mx)
    l := put σ.l ![g.val, 0, 0] S1x1x512.size (k0_pay10 al p vt (σ.lAt g))
    a := put σ.a ![g.val, 0, 0] S1x128x512.size (k0_pay11 al p vt (σ.aAt g)) }

/-- The scratch after a stage. -/
def Stage.eff (q : Vec F S256x2048 .bf16) (k : Vec F S16384x256 .bf16) (v : Vec F S128x16384 .bf16) : Stage → St F → St F
  | .startC b g ko hk, σ => { σ with
      s := put σ.s ![b.val, 0, 0] S1x512x512.size (k0_pay3 (kAt k ko hk) (qAt q g))
      c := put σ.c ![b.val, 0, 0] S1x1x512.size (k0_pay4 (kAt k ko hk) (qAt q g)) }
  | .startN b g ko hk, σ => { σ with s := put σ.s ![b.val, 0, 0] S1x512x512.size (k0_pay3 (kAt k ko hk) (qAt q g)) }
  | .fin b g vo hv, σ => σ.upd g (k0_pay6 (σ.cAt b) (σ.mAt g)) (k0_pay7 (σ.cAt b) (σ.mAt g)) (k0_pay8 (σ.sAt b) (σ.cAt b) (σ.mAt g)) (vAt v vo hv)
  | .finD b g vo hv, σ => σ.upd g (k0_pay378 (σ.sAt b) (σ.mAt g)) (k0_pay379 (σ.sAt b) (σ.mAt g)) (pDiag (σ.sAt b) (σ.mAt g)) (vAt v vo hv)

/-- The scratch after a list of stages. -/
def effs (q : Vec F S256x2048 .bf16) (k : Vec F S16384x256 .bf16) (v : Vec F S128x16384 .bf16) (L : List Stage) (σ : St F) : St F :=
  L.foldl (fun σ S => S.eff q k v σ) σ

section Spec

variable (c : Dev nD) (arg2 : Memref sig .tc .vmem S256x2048 .bf16) (arg3 : Memref sig .tc .vmem S16384x256 .bf16)
  (arg4 : Memref sig .tc .vmem S128x16384 .bf16) (arg5 : Memref sig .tc .vmem S2048x128 .bf16) (arg6 : Memref sig .tc .vmem S2x512x512 .f32)
  (arg7 : Memref sig .tc .vmem S2x1x512 .f32) (arg8 : Memref sig .tc .vmem S4x1x512 .f32)
  (arg9 : Memref sig .tc .vmem S4x1x512 .f32) (arg10 : Memref sig .tc .vmem S4x128x512 .f32)
  (harg2 : arg2.IsWhole) (harg3 : arg3.IsWhole) (harg4 : arg4.IsWhole) (harg5 : arg5.IsWhole) (harg6 : arg6.IsWhole)
  (harg7 : arg7.IsWhole) (harg8 : arg8.IsWhole) (harg9 : arg9.IsWhole) (harg10 : arg10.IsWhole)

/-- The three staged blocks and the scratch, held at given contents. -/
def Res (q : Vec F S256x2048 .bf16) (k : Vec F S16384x256 .bf16) (v : Vec F S128x16384 .bf16) (σ : St F) : sProp 𝕄 :=
  iprop(owns (c : Thread nD τ) arg2 fullShare q ∗ owns (c : Thread nD τ) arg3 fullShare k ∗ owns (c : Thread nD τ) arg4 fullShare v
    ∗ owns (c : Thread nD τ) arg6 fullShare σ.s ∗ owns (c : Thread nD τ) arg7 fullShare σ.c ∗ owns (c : Thread nD τ) arg8 fullShare σ.m
    ∗ owns (c : Thread nD τ) arg9 fullShare σ.l ∗ owns (c : Thread nD τ) arg10 fullShare σ.a)

set_option maxHeartbeats 1600000 in
/-- A stage runs to its effect on the scratch. -/
theorem Stage.spec (q : Vec F S256x2048 .bf16) (k : Vec F S16384x256 .bf16) (v : Vec F S128x16384 .bf16) (S : Stage) (σ : St F)
    (E : Set ℕ) (K : Unit → sProp 𝕄) :
    iprop(Res c arg2 arg3 arg4 arg6 arg7 arg8 arg9 arg10 q k v σ
        ∗ (Res c arg2 arg3 arg4 arg6 arg7 arg8 arg9 arg10 q k v (S.eff q k v σ) -∗ K ()))
      ⊢ wp frame (wpE (defs₀ (F := F)) 𝒱₀ c none) E (S.run arg2 arg3 arg4 arg6 arg7 arg8 arg9 arg10) K := by
  obtain ⟨ss, sc, sm, sl, sa⟩ := σ
  rw [show Res c arg2 arg3 arg4 arg6 arg7 arg8 arg9 arg10 q k v ⟨ss, sc, sm, sl, sa⟩ = iprop(owns (c : Thread nD τ) arg2 fullShare q ∗ owns (c : Thread nD τ) arg3 fullShare k ∗ owns (c : Thread nD τ) arg4 fullShare v
    ∗ owns (c : Thread nD τ) arg6 fullShare ss ∗ owns (c : Thread nD τ) arg7 fullShare sc ∗ owns (c : Thread nD τ) arg8 fullShare sm
    ∗ owns (c : Thread nD τ) arg9 fullShare sl ∗ owns (c : Thread nD τ) arg10 fullShare sa) from rfl]
  unfold owns
  cases S with
  | startC b g ko hk =>
    iintro ⟨⟨⟨%f2, %h2, H2⟩, ⟨%f3, %h3, H3⟩, ⟨%f4, %h4, H4⟩, ⟨%f6, %h6, H6⟩, ⟨%f7, %h7, H7⟩, ⟨%f8, %h8, H8⟩, ⟨%f9, %h9, H9⟩, ⟨%f10, %h10, H10⟩⟩, Hk⟩
    subst h2 h3 h4 h6 h7 h8 h9 h10
    simp only [Stage.run]
    sl_exec!
    sl_step
    iapply Hk
    unfold Res owns
    isplitl [H2]
    · iexists _; isplitr; swap; · iexact H2
      ipureintro; exact rfl
    isplitl [H3]
    · iexists _; isplitr; swap; · iexact H3
      ipureintro; exact rfl
    isplitl [H4]
    · iexists _; isplitr; swap; · iexact H4
      ipureintro; exact rfl
    isplitl [H6]
    · iexists _; isplitr; swap; · iexact H6
      ipureintro; exact View.read_writes_cons_put _ _ (inb6 b) _ _ rfl
    isplitl [H7]
    · iexists _; isplitr; swap; · iexact H7
      ipureintro; exact View.read_writes_cons_put _ _ (inb7 b) _ _ rfl
    isplitl [H8]
    · iexists _; isplitr; swap; · iexact H8
      ipureintro; exact rfl
    isplitl [H9]
    · iexists _; isplitr; swap; · iexact H9
      ipureintro; exact rfl
    iexists _; isplitr; swap; · iexact H10
    ipureintro; exact rfl
  | startN b g ko hk =>
    iintro ⟨⟨⟨%f2, %h2, H2⟩, ⟨%f3, %h3, H3⟩, ⟨%f4, %h4, H4⟩, ⟨%f6, %h6, H6⟩, ⟨%f7, %h7, H7⟩, ⟨%f8, %h8, H8⟩, ⟨%f9, %h9, H9⟩, ⟨%f10, %h10, H10⟩⟩, Hk⟩
    subst h2 h3 h4 h6 h7 h8 h9 h10
    simp only [Stage.run]
    sl_exec!
    sl_step
    iapply Hk
    unfold Res owns
    isplitl [H2]
    · iexists _; isplitr; swap; · iexact H2
      ipureintro; exact rfl
    isplitl [H3]
    · iexists _; isplitr; swap; · iexact H3
      ipureintro; exact rfl
    isplitl [H4]
    · iexists _; isplitr; swap; · iexact H4
      ipureintro; exact rfl
    isplitl [H6]
    · iexists _; isplitr; swap; · iexact H6
      ipureintro; exact View.read_writes_cons_put _ _ (inb6 b) _ _ rfl
    isplitl [H7]
    · iexists _; isplitr; swap; · iexact H7
      ipureintro; exact rfl
    isplitl [H8]
    · iexists _; isplitr; swap; · iexact H8
      ipureintro; exact rfl
    isplitl [H9]
    · iexists _; isplitr; swap; · iexact H9
      ipureintro; exact rfl
    iexists _; isplitr; swap; · iexact H10
    ipureintro; exact rfl
  | fin b g vo hv =>
    iintro ⟨⟨⟨%f2, %h2, H2⟩, ⟨%f3, %h3, H3⟩, ⟨%f4, %h4, H4⟩, ⟨%f6, %h6, H6⟩, ⟨%f7, %h7, H7⟩, ⟨%f8, %h8, H8⟩, ⟨%f9, %h9, H9⟩, ⟨%f10, %h10, H10⟩⟩, Hk⟩
    subst h2 h3 h4 h6 h7 h8 h9 h10
    simp only [Stage.run, updates]
    sl_exec!
    sl_step
    iapply Hk
    unfold Res owns
    isplitl [H2]
    · iexists _; isplitr; swap; · iexact H2
      ipureintro; exact rfl
    isplitl [H3]
    · iexists _; isplitr; swap; · iexact H3
      ipureintro; exact rfl
    isplitl [H4]
    · iexists _; isplitr; swap; · iexact H4
      ipureintro; exact rfl
    isplitl [H6]
    · iexists _; isplitr; swap; · iexact H6
      ipureintro; exact rfl
    isplitl [H7]
    · iexists _; isplitr; swap; · iexact H7
      ipureintro; exact rfl
    isplitl [H8]
    · iexists _; isplitr; swap; · iexact H8
      ipureintro; exact View.read_writes_cons_put _ _ (inb8 g) _ _ rfl
    isplitl [H9]
    · iexists _; isplitr; swap; · iexact H9
      ipureintro; exact View.read_writes_cons_put _ _ (inb8 g) _ _ rfl
    iexists _; isplitr; swap; · iexact H10
    ipureintro; exact View.read_writes_cons_put _ _ (inb10 g) _ _ rfl
  | finD b g vo hv =>
    iintro ⟨⟨⟨%f2, %h2, H2⟩, ⟨%f3, %h3, H3⟩, ⟨%f4, %h4, H4⟩, ⟨%f6, %h6, H6⟩, ⟨%f7, %h7, H7⟩, ⟨%f8, %h8, H8⟩, ⟨%f9, %h9, H9⟩, ⟨%f10, %h10, H10⟩⟩, Hk⟩
    subst h2 h3 h4 h6 h7 h8 h9 h10
    simp only [Stage.run, updates]
    sl_exec!
    sl_step
    iapply Hk
    unfold Res owns
    isplitl [H2]
    · iexists _; isplitr; swap; · iexact H2
      ipureintro; exact rfl
    isplitl [H3]
    · iexists _; isplitr; swap; · iexact H3
      ipureintro; exact rfl
    isplitl [H4]
    · iexists _; isplitr; swap; · iexact H4
      ipureintro; exact rfl
    isplitl [H6]
    · iexists _; isplitr; swap; · iexact H6
      ipureintro; exact rfl
    isplitl [H7]
    · iexists _; isplitr; swap; · iexact H7
      ipureintro; exact rfl
    isplitl [H8]
    · iexists _; isplitr; swap; · iexact H8
      ipureintro; exact View.read_writes_cons_put _ _ (inb8 g) _ _ rfl
    isplitl [H9]
    · iexists _; isplitr; swap; · iexact H9
      ipureintro; exact View.read_writes_cons_put _ _ (inb8 g) _ _ rfl
    iexists _; isplitr; swap; · iexact H10
    ipureintro; exact View.read_writes_cons_put _ _ (inb10 g) _ _ rfl

/-- A list of stages runs to its effects in order. -/
theorem runStages_spec (q : Vec F S256x2048 .bf16) (k : Vec F S16384x256 .bf16) (v : Vec F S128x16384 .bf16) (L : List Stage)
    (E : Set ℕ) (K : Unit → sProp 𝕄) : ∀ σ : St F,
    iprop(Res c arg2 arg3 arg4 arg6 arg7 arg8 arg9 arg10 q k v σ
        ∗ (Res c arg2 arg3 arg4 arg6 arg7 arg8 arg9 arg10 q k v (effs q k v L σ) -∗ K ()))
      ⊢ wp frame (wpE (defs₀ (F := F)) 𝒱₀ c none) E (runStages arg2 arg3 arg4 arg6 arg7 arg8 arg9 arg10 L) K := by
  induction L with
  | nil =>
    intro σ
    iintro ⟨H, Hk⟩
    simp only [runStages]
    sl_step
    iapply Hk
    iexact H
  | cons S L ih =>
    intro σ
    cases L with
    | nil => exact Stage.spec c arg2 arg3 arg4 arg6 arg7 arg8 arg9 arg10 q k v S σ E K
    | cons S' L =>
      simp only [runStages]
      rw [wp_bind]
      iintro ⟨H, Hk⟩
      iapply (Stage.spec c arg2 arg3 arg4 arg6 arg7 arg8 arg9 arg10 q k v S σ E _)
      isplitl [H]; · iexact H
      iintro H
      iapply (ih (S.eff q k v σ))
      isplitl [H]; · iexact H
      iexact Hk

end Spec

end Cert.KernelIdeal.Mla

end
-- ==== Proof.Mla.Slots.lean ====
/-
  The scratch seen slot by slot. What a stage reads is decided by the two score slots, their maxima, and the four groups'
  running quantities (`Ab`); `Stage.effA` is a stage on these, and the first stage of every list that follows the
  initialisation overwrites the slot whose earlier contents are not known.
-/
module

public import proofs.«01_k».proof.Proof.Mla.Run

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open VecWindow

variable {F : FTy → Type} [FloatOps F] [Named F]

/-- The slots' contents. -/
structure Ab (F : FTy → Type) [FloatOps F] where
  s : Fin 2 → Vec F S1x512x512 .f32
  c : Fin 2 → Vec F S1x1x512 .f32
  m : Fin 4 → Vec F S1x1x512 .f32
  l : Fin 4 → Vec F S1x1x512 .f32
  a : Fin 4 → Vec F S1x128x512 .f32

/-- The slots of a scratch. -/
def St.abs (σ : St F) : Ab F := ⟨σ.sAt, σ.cAt, σ.mAt, σ.lAt, σ.aAt⟩

/-- A put over one of several windows that lie apart changes that window only. -/
theorem window_put_slot {α : Type} {s : Shape} {n : ℕ} (x : s.Idx → α) (off : Fin n → Fin s.rank → ℕ) (size : Fin s.rank → ℕ)
    (inb : ∀ g a, off g a + size a ≤ s.size a) (w : ((a : Fin s.rank) → Fin (size a)) → α)
    (h0 : ∀ g g', g' ≠ g → ∃ a, off g' a + size a ≤ off g a ∨ off g a + size a ≤ off g' a) (g g' : Fin n) :
    window (put x (off g) size w) (off g') size (inb g') = Function.update (fun g' => window x (off g') size (inb g')) g w g' := by
  by_cases h : g' = g
  · subst h
    rw [window_put_same, Function.update_self]
  · obtain ⟨a, ha⟩ := h0 g g' h
    rw [window_put_of_disjoint _ _ _ _ _ _ _ a ha, Function.update_of_ne h]

theorem sAt_put (σ : St F) (b : Fin 2) (w : Vec F S1x512x512 .f32) (b' : Fin 2) :
    window (put σ.s ![b.val, 0, 0] S1x512x512.size w) ![b'.val, 0, 0] S1x512x512.size (inb6 b') = Function.update σ.sAt b w b' :=
  window_put_slot σ.s (fun b : Fin 2 => ![b.val, 0, 0]) S1x512x512.size inb6 w (by decide) b b'
theorem cAt_put (σ : St F) (b : Fin 2) (w : Vec F S1x1x512 .f32) (b' : Fin 2) :
    window (put σ.c ![b.val, 0, 0] S1x1x512.size w) ![b'.val, 0, 0] S1x1x512.size (inb7 b') = Function.update σ.cAt b w b' :=
  window_put_slot σ.c (fun b : Fin 2 => ![b.val, 0, 0]) S1x1x512.size inb7 w (by decide) b b'
theorem mAt_put (x : Vec F S4x1x512 .f32) (g : Fin 4) (w : Vec F S1x1x512 .f32) (g' : Fin 4) :
    window (put x ![g.val, 0, 0] S1x1x512.size w) ![g'.val, 0, 0] S1x1x512.size (inb8 g')
      = Function.update (fun g' : Fin 4 => window x ![g'.val, 0, 0] S1x1x512.size (inb8 g')) g w g' :=
  window_put_slot x (fun b : Fin 4 => ![b.val, 0, 0]) S1x1x512.size inb8 w (by decide) g g'
theorem aAt_put (σ : St F) (g : Fin 4) (w : Vec F S1x128x512 .f32) (g' : Fin 4) :
    window (put σ.a ![g.val, 0, 0] S1x128x512.size w) ![g'.val, 0, 0] S1x128x512.size (inb10 g') = Function.update σ.aAt g w g' :=
  window_put_slot σ.a (fun b : Fin 4 => ![b.val, 0, 0]) S1x128x512.size inb10 w (by decide) g g'

/-- Group `g`'s three updates on the slots. -/
def Ab.upd (x : Ab F) (g : Fin 4) (mx al : FVec F S1x512 .f32) (p : FVec F S512x512 .bf16) (vt : Vec F S128x512 .bf16) : Ab F :=
  { s := x.s, c := x.c
    m := Function.update x.m g (k0_pay12 mx)
    l := Function.update x.l g (k0_pay10 al p vt (x.l g))
    a := Function.update x.a g (k0_pay11 al p vt (x.a g)) }

/-- A stage on the slots. -/
def Stage.effA (q : Vec F S256x2048 .bf16) (k : Vec F S16384x256 .bf16) (v : Vec F S128x16384 .bf16) : Stage → Ab F → Ab F
  | .startC b g ko hk, x => { x with
      s := Function.update x.s b (k0_pay3 (kAt k ko hk) (qAt q g))
      c := Function.update x.c b (k0_pay4 (kAt k ko hk) (qAt q g)) }
  | .startN b g ko hk, x => { x with s := Function.update x.s b (k0_pay3 (kAt k ko hk) (qAt q g)) }
  | .fin b g vo hv, x => x.upd g (k0_pay6 (x.c b) (x.m g)) (k0_pay7 (x.c b) (x.m g)) (k0_pay8 (x.s b) (x.c b) (x.m g)) (vAt v vo hv)
  | .finD b g vo hv, x => x.upd g (k0_pay378 (x.s b) (x.m g)) (k0_pay379 (x.s b) (x.m g)) (pDiag (x.s b) (x.m g)) (vAt v vo hv)

/-- A list of stages on the slots. -/
def effsA (q : Vec F S256x2048 .bf16) (k : Vec F S16384x256 .bf16) (v : Vec F S128x16384 .bf16) (L : List Stage) (x : Ab F) : Ab F :=
  L.foldl (fun x S => S.effA q k v x) x

theorem abs_upd (σ : St F) (g : Fin 4) (mx al : FVec F S1x512 .f32) (p : FVec F S512x512 .bf16) (vt : Vec F S128x512 .bf16) :
    (σ.upd g mx al p vt).abs = σ.abs.upd g mx al p vt := by
  unfold St.abs St.upd Ab.upd
  congr 1
  · funext g'; exact mAt_put σ.m g _ g'
  · funext g'; exact mAt_put σ.l g _ g'
  · funext g'; exact aAt_put σ g _ g'

/-- The slots after a stage are the stage on the slots. -/
theorem abs_eff (q : Vec F S256x2048 .bf16) (k : Vec F S16384x256 .bf16) (v : Vec F S128x16384 .bf16) (S : Stage) (σ : St F) :
    (S.eff q k v σ).abs = S.effA q k v σ.abs := by
  cases S with
  | startC b g ko hk =>
    unfold St.abs Stage.eff Stage.effA
    congr 1
    · funext b'; exact sAt_put σ b _ b'
    · funext b'; exact cAt_put σ b _ b'
  | startN b g ko hk =>
    unfold St.abs Stage.eff Stage.effA
    congr 1
    funext b'; exact sAt_put σ b _ b'
  | fin b g vo hv => exact abs_upd σ g _ _ _ _
  | finD b g vo hv => exact abs_upd σ g _ _ _ _

/-- The slots after a list of stages. -/
theorem abs_effs (q : Vec F S256x2048 .bf16) (k : Vec F S16384x256 .bf16) (v : Vec F S128x16384 .bf16) (L : List Stage) :
    ∀ σ : St F, (effs q k v L σ).abs = effsA q k v L σ.abs := by
  induction L with
  | nil => intro σ; rfl
  | cons S L ih => intro σ; exact (ih _).trans (congrArg (effsA q k v L) (abs_eff q k v S σ))

/-- Equal but for the second score slot. -/
def Sim (x y : Ab F) : Prop := x.s 0 = y.s 0 ∧ x.c 0 = y.c 0 ∧ x.m = y.m ∧ x.l = y.l ∧ x.a = y.a

/-- A list whose first stage fills the second score slot does not see what that slot held. -/
theorem effsA_sim (q : Vec F S256x2048 .bf16) (k : Vec F S16384x256 .bf16) (v : Vec F S128x16384 .bf16) (g : Fin 4) (ko : Fin 2 → ℕ)
    (hk : ∀ a, ko a + S512x256.size a ≤ S16384x256.size a) (L : List Stage) (x y : Ab F) (h : Sim x y) :
    effsA q k v (.startC 1 g ko hk :: L) x = effsA q k v (.startC 1 g ko hk :: L) y := by
  obtain ⟨h1, h2, h3, h4, h5⟩ := h
  refine congrArg (effsA q k v L) ?_
  show Stage.effA q k v (.startC 1 g ko hk) x = Stage.effA q k v (.startC 1 g ko hk) y
  unfold Stage.effA
  dsimp only
  rw [h3, h4, h5]
  congr 1
  · funext b
    match b with
    | 0 => rw [Function.update_of_ne (by decide), Function.update_of_ne (by decide), h1]
    | 1 => rw [Function.update_self, Function.update_self]
  · funext b
    match b with
    | 0 => rw [Function.update_of_ne (by decide), Function.update_of_ne (by decide), h2]
    | 1 => rw [Function.update_self, Function.update_self]

/-- The slots after `n` trips of the main loop. -/
def tripsA (i : grid0.Coords) (q : Vec F S256x2048 .bf16) (k : Vec F S16384x256 .bf16) (v : Vec F S128x16384 .bf16) (x : Ab F) : ℕ → Ab F
  | 0 => x
  | n + 1 => if h : n < (k0_t1_loop i).trips then effsA q k v (trip i ⟨n, h⟩) (tripsA i q k v x n) else tripsA i q k v x n

theorem tripsA_succ (i : grid0.Coords) (q : Vec F S256x2048 .bf16) (k : Vec F S16384x256 .bf16) (v : Vec F S128x16384 .bf16) (x : Ab F)
    (t : Fin (k0_t1_loop i).trips) : tripsA i q k v x (t.val + 1) = effsA q k v (trip i t) (tripsA i q k v x t.val) := by
  rw [tripsA, dif_pos t.isLt]

theorem tripsA_sim (i : grid0.Coords) (q : Vec F S256x2048 .bf16) (k : Vec F S16384x256 .bf16) (v : Vec F S128x16384 .bf16) (x y : Ab F)
    (h : Sim x y) : ∀ n, n ≤ (k0_t1_loop i).trips → Sim (tripsA i q k v x n) (tripsA i q k v y n) := by
  intro n
  induction n with
  | zero => intro _; exact h
  | succ n ih =>
    intro hn
    rw [tripsA_succ i q k v x ⟨n, hn⟩, tripsA_succ i q k v y ⟨n, hn⟩]
    have e' : effsA q k v (trip i ⟨n, hn⟩) (tripsA i q k v x n) = effsA q k v (trip i ⟨n, hn⟩) (tripsA i q k v y n) :=
      effsA_sim q k v 1 _ (k0_off1_inb i ⟨n, hn⟩ 0) _ _ _ (ih (by omega))
    rw [e']
    exact ⟨rfl, rfl, rfl, rfl, rfl⟩

/-- The slots after the initialisation, the second score slot holding what the first does. -/
def initA (q : Vec F S256x2048 .bf16) (k : Vec F S16384x256 .bf16) : Ab F :=
  { s := fun _ => k0_pay3 (kAt k ![0, 0] inb_S16384x256_S512x256_0_0) (qAt q 0)
    c := fun _ => k0_pay4 (kAt k ![0, 0] inb_S16384x256_S512x256_0_0) (qAt q 0)
    m := fun g => window (k0_pay364 (F := F)) ![g.val, 0, 0] S1x1x512.size (inb8 g)
    l := fun g => window (k0_pay365 (F := F)) ![g.val, 0, 0] S1x1x512.size (inb8 g)
    a := fun g => window (k0_pay366 (F := F)) ![g.val, 0, 0] S1x128x512.size (inb10 g) }

/-- The slots when the division starts. -/
def endA (i : grid0.Coords) (q : Vec F S256x2048 .bf16) (k : Vec F S16384x256 .bf16) (v : Vec F S128x16384 .bf16) (x : Ab F) : Ab F :=
  effsA q k v (tail i) (tripsA i q k v x (k0_t1_loop i).trips)

theorem endA_sim (i : grid0.Coords) (q : Vec F S256x2048 .bf16) (k : Vec F S16384x256 .bf16) (v : Vec F S128x16384 .bf16) (x y : Ab F)
    (h : Sim x y) : endA i q k v x = endA i q k v y :=
  effsA_sim q k v 1 _ (k0_off7_inb i 0) _ _ _ (tripsA_sim i q k v x y h _ le_rfl)

/-- Group `g`'s rows of the result. -/
def Ab.res (x : Ab F) (g : Fin 4) : FVec F S512x128 .bf16 := k0_pay1 (k0_pay484 (x.a g)) (x.l g)

/-- The result's block from a block holding anything, after the four groups' rows are put. -/
def Ab.put4 (x : Ab F) (d : Vec F S2048x128 .bf16) : Vec F S2048x128 .bf16 :=
  put (put (put (put d ![512 * (0 : Fin 4).val, 0] S512x128.size (x.res 0)) ![512 * (1 : Fin 4).val, 0] S512x128.size (x.res 1))
    ![512 * (2 : Fin 4).val, 0] S512x128.size (x.res 2)) ![512 * (3 : Fin 4).val, 0] S512x128.size (x.res 3)

/-- The result's block. -/
def Ab.out (x : Ab F) : Vec F S2048x128 .bf16 := x.put4 fun _ => x.res 0 fun a => ⟨0, by revert a; decide⟩

/-- The four groups' rows fill the block. -/
theorem Ab.put4_eq (x : Ab F) (d : Vec F S2048x128 .bf16) : x.put4 d = x.out := by
  unfold Ab.out Ab.put4
  funext y
  have h0 : (y 0).val < 2048 := (y 0).isLt
  have h1 : (y 1).val < 128 := (y 1).isLt
  have key : ∀ g : Fin 4, (512 * g.val ≤ (y 0).val ∧ (y 0).val < 512 * g.val + 512) →
      ∀ a, (![512 * g.val, 0] : Fin 2 → ℕ) a ≤ (y a).val ∧ (y a).val < (![512 * g.val, 0] : Fin 2 → ℕ) a + S512x128.size a := by
    intro g hg a
    match a with
    | 0 => exact hg
    | 1 => exact ⟨Nat.zero_le _, by show (y 1).val < 0 + 128; omega⟩
  unfold put
  by_cases c3 : ∀ a, (![512 * (3 : Fin 4).val, 0] : Fin 2 → ℕ) a ≤ (y a).val ∧ (y a).val < (![512 * (3 : Fin 4).val, 0] : Fin 2 → ℕ) a + S512x128.size a
  · rw [dif_pos c3, dif_pos c3]
  rw [dif_neg c3, dif_neg c3]
  by_cases c2 : ∀ a, (![512 * (2 : Fin 4).val, 0] : Fin 2 → ℕ) a ≤ (y a).val ∧ (y a).val < (![512 * (2 : Fin 4).val, 0] : Fin 2 → ℕ) a + S512x128.size a
  · rw [dif_pos c2, dif_pos c2]
  rw [dif_neg c2, dif_neg c2]
  by_cases c1 : ∀ a, (![512 * (1 : Fin 4).val, 0] : Fin 2 → ℕ) a ≤ (y a).val ∧ (y a).val < (![512 * (1 : Fin 4).val, 0] : Fin 2 → ℕ) a + S512x128.size a
  · rw [dif_pos c1, dif_pos c1]
  rw [dif_neg c1, dif_neg c1]
  by_cases c0 : ∀ a, (![512 * (0 : Fin 4).val, 0] : Fin 2 → ℕ) a ≤ (y a).val ∧ (y a).val < (![512 * (0 : Fin 4).val, 0] : Fin 2 → ℕ) a + S512x128.size a
  · rw [dif_pos c0, dif_pos c0]
  exfalso
  have n3 : ¬ (1536 ≤ (y 0).val ∧ (y 0).val < 1536 + 512) := fun h => c3 (key 3 h)
  have n2 : ¬ (1024 ≤ (y 0).val ∧ (y 0).val < 1024 + 512) := fun h => c2 (key 2 h)
  have n1 : ¬ (512 ≤ (y 0).val ∧ (y 0).val < 512 + 512) := fun h => c1 (key 1 h)
  have n0 : ¬ (0 ≤ (y 0).val ∧ (y 0).val < 0 + 512) := fun h => c0 (key 0 h)
  omega

/-- The result's block at a point, from the three staged blocks. -/
def outVal (i : grid0.Coords) (q : Vec F S256x2048 .bf16) (k : Vec F S16384x256 .bf16) (v : Vec F S128x16384 .bf16) : Vec F S2048x128 .bf16 :=
  (endA i q k v (initA q k)).out

end Cert.KernelIdeal.Mla

end
-- ==== Proof.Mla.Whole.lean ====
/-
  The body as a whole: from the three staged blocks, the result's buffer at anything and the scratch at anything, it runs
  to the result's buffer at `outVal` of the blocks.
-/
module

public import proofs.«01_k».proof.Proof.Mla.Slots

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F] [Named F]

/-- The proof's resource algebra: the frame kit's. -/
local notation "𝕄" => MT nD τ sig Unit (Elt F) ℕ (UR sig nD τ) ℕ

/-- The main loop runs one trip per earlier block of queries. -/
theorem trips1 : ∀ i : grid0.Coords, (k0_t1_loop i).trips = (i 1).val := by decide +kernel
/-- The remainder loop runs no trip. -/
theorem trips2 : ∀ i : grid0.Coords, (k0_t2_loop i).trips = 0 := by decide +kernel

section Spec

variable (c : Dev nD) (arg2 : Memref sig .tc .vmem S256x2048 .bf16) (arg3 : Memref sig .tc .vmem S16384x256 .bf16)
  (arg4 : Memref sig .tc .vmem S128x16384 .bf16) (arg5 : Memref sig .tc .vmem S2048x128 .bf16) (arg6 : Memref sig .tc .vmem S2x512x512 .f32)
  (arg7 : Memref sig .tc .vmem S2x1x512 .f32) (arg8 : Memref sig .tc .vmem S4x1x512 .f32)
  (arg9 : Memref sig .tc .vmem S4x1x512 .f32) (arg10 : Memref sig .tc .vmem S4x128x512 .f32)
  (harg5 : arg5.IsWhole)

/-- The scratch of a state after the initialisation. -/
def initS (q : Vec F S256x2048 .bf16) (k : Vec F S16384x256 .bf16) (v : Vec F S128x16384 .bf16) (σ : St F) : St F :=
  Stage.eff q k v (.startC 0 0 ![0, 0] inb_S16384x256_S512x256_0_0) { σ with m := k0_pay364 (F := F), l := k0_pay365 (F := F), a := k0_pay366 (F := F) }

theorem initS_sim (q : Vec F S256x2048 .bf16) (k : Vec F S16384x256 .bf16) (v : Vec F S128x16384 .bf16) (σ : St F) :
    Sim (initS q k v σ).abs (initA q k) := by
  unfold initS
  rw [abs_eff]
  refine ⟨?_, ?_, rfl, rfl, rfl⟩
  · simp only [Stage.effA, Function.update_self, initA]
  · simp only [Stage.effA, Function.update_self, initA]

/-- The running quantities' scratch cleared. -/
def clearP : Prog (TpuEff nD τ sig (Elt F) Λ₀ .tc) Unit := do
  let _ ← Prog.lift (.load arg8 (Rect.unit (s := S4x1x512) ![0, 0, 0] S4x1x512.size inb_S4x1x512_S4x1x512_0_0_0).toLoadRect (View.loadsAt_vmem h_S4x1x512))
  Prog.lift (.store arg8 (Rect.unit (s := S4x1x512) ![0, 0, 0] S4x1x512.size inb_S4x1x512_S4x1x512_0_0_0) (k0_pay364 (F := F)) Finset.univ (View.stores_vmem_bits_univ h_S4x1x512 rfl) (.inl rfl))
  let _ ← Prog.lift (.load arg9 (Rect.unit (s := S4x1x512) ![0, 0, 0] S4x1x512.size inb_S4x1x512_S4x1x512_0_0_0).toLoadRect (View.loadsAt_vmem h_S4x1x512))
  Prog.lift (.store arg9 (Rect.unit (s := S4x1x512) ![0, 0, 0] S4x1x512.size inb_S4x1x512_S4x1x512_0_0_0) (k0_pay365 (F := F)) Finset.univ (View.stores_vmem_bits_univ h_S4x1x512 rfl) (.inl rfl))
  let _ ← Prog.lift (.load arg10 (Rect.unit (s := S4x128x512) ![0, 0, 0] S4x128x512.size inb_S4x128x512_S4x128x512_0_0_0).toLoadRect (View.loadsAt_vmem h_S4x128x512))
  Prog.lift (.store arg10 (Rect.unit (s := S4x128x512) ![0, 0, 0] S4x128x512.size inb_S4x128x512_S4x128x512_0_0_0) (k0_pay366 (F := F)) Finset.univ (View.stores_vmem_bits_univ h_S4x128x512 rfl) (.inl rfl))

theorem initP_eq : initP (F := F) arg2 arg3 arg4 arg6 arg7 arg8 arg9 arg10
    = clearP arg8 arg9 arg10 >>= fun _ => Stage.run arg2 arg3 arg4 arg6 arg7 arg8 arg9 arg10 (.startC 0 0 ![0, 0] inb_S16384x256_S512x256_0_0) := rfl

/-- The initialisation runs to the scratch cleared and the first scores in the first slot. -/
theorem initP_spec (q : Vec F S256x2048 .bf16) (k : Vec F S16384x256 .bf16) (v : Vec F S128x16384 .bf16) (σ : St F)
    (E : Set ℕ) (K : Unit → sProp 𝕄) :
    iprop(Res c arg2 arg3 arg4 arg6 arg7 arg8 arg9 arg10 q k v σ
        ∗ (Res c arg2 arg3 arg4 arg6 arg7 arg8 arg9 arg10 q k v (initS q k v σ) -∗ K ()))
      ⊢ wp frame (wpE (defs₀ (F := F)) 𝒱₀ c none) E (initP arg2 arg3 arg4 arg6 arg7 arg8 arg9 arg10) K := by
  obtain ⟨ss, sc, sm, sl, sa⟩ := σ
  rw [show Res c arg2 arg3 arg4 arg6 arg7 arg8 arg9 arg10 q k v ⟨ss, sc, sm, sl, sa⟩ = iprop(owns (c : Thread nD τ) arg2 fullShare q ∗ owns (c : Thread nD τ) arg3 fullShare k ∗ owns (c : Thread nD τ) arg4 fullShare v
    ∗ owns (c : Thread nD τ) arg6 fullShare ss ∗ owns (c : Thread nD τ) arg7 fullShare sc ∗ owns (c : Thread nD τ) arg8 fullShare sm
    ∗ owns (c : Thread nD τ) arg9 fullShare sl ∗ owns (c : Thread nD τ) arg10 fullShare sa) from rfl]
  iintro ⟨⟨H2, H3, H4, H6, H7, H8, H9, H10⟩, Hk⟩
  unfold owns
  icases H8 with ⟨%f8, %h8, H8⟩
  icases H9 with ⟨%f9, %h9, H9⟩
  icases H10 with ⟨%f10, %h10, H10⟩
  rw [initP_eq, wp_bind]
  simp only [clearP]
  sl_exec!
  iapply (Stage.spec c arg2 arg3 arg4 arg6 arg7 arg8 arg9 arg10 q k v (.startC 0 0 ![0, 0] inb_S16384x256_S512x256_0_0) ⟨ss, sc, k0_pay364 (F := F), k0_pay365 (F := F), k0_pay366 (F := F)⟩ E _)
  isplitr [Hk]
  · unfold Res owns
    isplitl [H2]; · iexact H2
    isplitl [H3]; · iexact H3
    isplitl [H4]; · iexact H4
    isplitl [H6]; · iexact H6
    isplitl [H7]; · iexact H7
    isplitl [H8]
    · iexists _; isplitr; swap; · iexact H8
      ipureintro; exact View.read_writes_full _ _ _ _ _
    isplitl [H9]
    · iexists _; isplitr; swap; · iexact H9
      ipureintro; exact View.read_writes_full _ _ _ _ _
    iexists _; isplitr; swap; · iexact H10
    ipureintro; exact View.read_writes_full _ _ _ _ _
  iexact Hk

/-- Group `g`'s division runs to its rows put into the result's buffer. -/
theorem outP_spec (g : Fin 4) (σ : St F) (d : Vec F S2048x128 .bf16) (E : Set ℕ) (K : Unit → sProp 𝕄) :
    iprop(owns (c : Thread nD τ) arg5 fullShare d ∗ owns (c : Thread nD τ) arg9 fullShare σ.l ∗ owns (c : Thread nD τ) arg10 fullShare σ.a
        ∗ (iprop(owns (c : Thread nD τ) arg5 fullShare (put d ![512 * g.val, 0] S512x128.size (σ.abs.res g)) ∗ owns (c : Thread nD τ) arg9 fullShare σ.l
            ∗ owns (c : Thread nD τ) arg10 fullShare σ.a) -∗ K ()))
      ⊢ wp frame (wpE (defs₀ (F := F)) 𝒱₀ c none) E (outP arg5 harg5 arg9 arg10 g) K := by
  obtain ⟨ss, sc, sm, sl, sa⟩ := σ
  dsimp only
  unfold owns
  iintro ⟨⟨%f5, %h5, H5⟩, ⟨%f9, %h9, H9⟩, ⟨%f10, %h10, H10⟩, Hk⟩
  subst h5 h9 h10
  simp only [outP]
  sl_exec!
  sl_step
  iapply Hk
  isplitl [H5]
  · iexists _; isplitr; swap; · iexact H5
    ipureintro; exact View.read_writes_cons_put _ _ (inb5 g) _ _ rfl
  isplitl [H9]
  · iexists _; isplitr; swap; · iexact H9
    ipureintro; exact rfl
  iexists _; isplitr; swap; · iexact H10
  ipureintro; exact rfl

/-- What follows the loops runs to the result's buffer at the end state's block. -/
theorem endP_spec (i : grid0.Coords) (q : Vec F S256x2048 .bf16) (k : Vec F S16384x256 .bf16) (v : Vec F S128x16384 .bf16) (σ : St F)
    (d : Vec F S2048x128 .bf16) (E : Set ℕ) (K : Unit → sProp 𝕄) :
    iprop(Res c arg2 arg3 arg4 arg6 arg7 arg8 arg9 arg10 q k v σ ∗ owns (c : Thread nD τ) arg5 fullShare d
        ∗ (iprop(owns (c : Thread nD τ) arg5 fullShare (effsA q k v (tail i) σ.abs).out
            ∗ Res c arg2 arg3 arg4 arg6 arg7 arg8 arg9 arg10 q k v (effs q k v (tail i) σ)) -∗ K ()))
      ⊢ wp frame (wpE (defs₀ (F := F)) 𝒱₀ c none) E (endP i arg2 arg3 arg4 arg5 harg5 arg6 arg7 arg8 arg9 arg10) K := by
  unfold endP
  rw [wp_bind]
  iintro ⟨H, H5, Hk⟩
  iapply (runStages_spec c arg2 arg3 arg4 arg6 arg7 arg8 arg9 arg10 q k v (tail i) E _ σ)
  isplitl [H]; · iexact H
  rw [← abs_effs, ← Ab.put4_eq _ d]
  generalize effs q k v (tail i) σ = σ'
  unfold Res
  iintro ⟨H2, H3, H4, H6, H7, H8, H9, H10⟩
  rw [wp_bind]
  iapply (outP_spec c arg5 arg9 arg10 harg5 0 σ' d E _)
  isplitl [H5]; · iexact H5
  isplitl [H9]; · iexact H9
  isplitl [H10]; · iexact H10
  iintro ⟨H5, H9, H10⟩
  rw [wp_bind]
  iapply (outP_spec c arg5 arg9 arg10 harg5 1 σ' _ E _)
  isplitl [H5]; · iexact H5
  isplitl [H9]; · iexact H9
  isplitl [H10]; · iexact H10
  iintro ⟨H5, H9, H10⟩
  rw [wp_bind]
  iapply (outP_spec c arg5 arg9 arg10 harg5 2 σ' _ E _)
  isplitl [H5]; · iexact H5
  isplitl [H9]; · iexact H9
  isplitl [H10]; · iexact H10
  iintro ⟨H5, H9, H10⟩
  iapply (outP_spec c arg5 arg9 arg10 harg5 3 σ' _ E _)
  isplitl [H5]; · iexact H5
  isplitl [H9]; · iexact H9
  isplitl [H10]; · iexact H10
  iintro ⟨H5, H9, H10⟩
  iapply Hk
  isplitl [H5]; · iexact H5
  isplitl [H2]; · iexact H2
  isplitl [H3]; · iexact H3
  isplitl [H4]; · iexact H4
  isplitl [H6]; · iexact H6
  isplitl [H7]; · iexact H7
  isplitl [H8]; · iexact H8
  isplitl [H9]; · iexact H9
  iexact H10

/-- The scratch at some contents whose slots are `x`. -/
def ResA (q : Vec F S256x2048 .bf16) (k : Vec F S16384x256 .bf16) (v : Vec F S128x16384 .bf16) (x : Ab F) : sProp 𝕄 :=
  iprop(∃ σ : St F, ⌜σ.abs = x⌝ ∗ Res c arg2 arg3 arg4 arg6 arg7 arg8 arg9 arg10 q k v σ)

/-- A trip of the main loop runs to its stages' effect on the slots. -/
theorem trip_spec (i : grid0.Coords) (q : Vec F S256x2048 .bf16) (k : Vec F S16384x256 .bf16) (v : Vec F S128x16384 .bf16) (x : Ab F)
    (t : Fin (k0_t1_loop i).trips) (E : Set ℕ) :
    ResA c arg2 arg3 arg4 arg6 arg7 arg8 arg9 arg10 q k v (tripsA i q k v x t.val)
      ⊢ wp frame (wpE (defs₀ (F := F)) 𝒱₀ c none) E (runStages arg2 arg3 arg4 arg6 arg7 arg8 arg9 arg10 (trip i t))
          (fun _ => ResA c arg2 arg3 arg4 arg6 arg7 arg8 arg9 arg10 q k v (tripsA i q k v x (t.val + 1))) := by
  rw [tripsA_succ]
  unfold ResA
  iintro ⟨%σ, %hσ, H⟩
  iapply (runStages_spec c arg2 arg3 arg4 arg6 arg7 arg8 arg9 arg10 q k v (trip i t) E _ σ)
  isplitl [H]; · iexact H
  iintro H
  iexists _; isplitr; swap; · iexact H
  ipureintro; rw [abs_effs, hσ]

/-- The kernel's body, on any whole buffers: the staged blocks kept, the result's buffer at `outVal` of them. -/
theorem kernelRun (i : grid0.Coords) (harg2 : arg2.IsWhole) (harg3 : arg3.IsWhole) (harg4 : arg4.IsWhole) (harg6 : arg6.IsWhole)
    (harg7 : arg7.IsWhole) (harg8 : arg8.IsWhole) (harg9 : arg9.IsWhole) (harg10 : arg10.IsWhole)
    (q : Vec F S256x2048 .bf16) (k : Vec F S16384x256 .bf16) (v : Vec F S128x16384 .bf16) (σ : St F)
    (d : Vec F S2048x128 .bf16) (E : Set ℕ) (K : Unit → sProp 𝕄) :
    iprop(Res c arg2 arg3 arg4 arg6 arg7 arg8 arg9 arg10 q k v σ ∗ owns (c : Thread nD τ) arg5 fullShare d
        ∗ (iprop(owns (c : Thread nD τ) arg5 fullShare (outVal i q k v)
            ∗ (∃ σ' : St F, Res c arg2 arg3 arg4 arg6 arg7 arg8 arg9 arg10 q k v σ')) -∗ K ()))
      ⊢ wp frame (wpE (defs₀ (F := F)) 𝒱₀ c none) E
          (cc0_flash_attn i arg2 harg2 arg3 harg3 arg4 harg4 arg5 harg5 arg6 harg6 arg7 harg7 arg8 harg8 arg9 harg9 arg10 harg10) K := by
  obtain ⟨g2, hb⟩ := body_eq (F := F) i arg2 harg2 arg3 harg3 arg4 harg4 arg5 harg5 arg6 harg6 arg7 harg7 arg8 harg8 arg9 harg9 arg10 harg10
  rw [hb]
  rw [wp_bind]
  iintro ⟨H, H5, Hk⟩
  iapply (initP_spec c arg2 arg3 arg4 arg6 arg7 arg8 arg9 arg10 q k v σ E _)
  isplitl [H]; · iexact H
  iintro H
  iapply (Scf.wp_for_bind frame (wpE (defs₀ (F := F)) 𝒱₀ c none) E _ _ _ (k0_t1_ok i) () _
    (fun n _ => ResA c arg2 arg3 arg4 arg6 arg7 arg8 arg9 arg10 q k v (tripsA i q k v (initS q k v σ).abs n))
    (fun t _ => trip_spec c arg2 arg3 arg4 arg6 arg7 arg8 arg9 arg10 i q k v _ t E)) $$ [H]
  · unfold ResA
    iexists _; isplitr; swap; · iexact H
    ipureintro; rfl
  iintro %_ H
  iapply (Scf.wp_for_bind frame (wpE (defs₀ (F := F)) 𝒱₀ c none) E _ _ _ (k0_t2_ok i) () _
    (fun _ _ => ResA c arg2 arg3 arg4 arg6 arg7 arg8 arg9 arg10 q k v (tripsA i q k v (initS q k v σ).abs (k0_t1_loop i).trips))
    (fun t _ => absurd t.isLt (by have := trips2 i; unfold Scf.Loop.trips at this; omega))) $$ [H]
  · iexact H
  iintro %_ H
  unfold ResA
  icases H with ⟨%σ', %hσ, H⟩
  iapply (endP_spec c arg2 arg3 arg4 arg5 arg6 arg7 arg8 arg9 arg10 harg5 i q k v σ' d E K)
  isplitl [H]; · iexact H
  isplitl [H5]; · iexact H5
  iintro ⟨H5, H⟩
  iapply Hk
  isplitl [H5]
  · rw [show outVal i q k v = (effsA q k v (tail i) σ'.abs).out from by
      unfold outVal
      rw [← endA_sim i q k v _ _ (initS_sim q k v σ), hσ, endA]]
    iexact H5
  iexists _; iexact H

end Spec

end Cert.KernelIdeal.Mla

end
-- ==== Proof.Mla.Launch.lean ====
/-
  The launch: at every grid point the result's buffer is left at `outVal` of the point's three blocks, the scratch passing
  from point to point at contents nobody needs to know; hence the run of @main, and its frame.
-/
module

public import proofs.«01_k».proof.Proof.Mla.Whole

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra: the frame kit's. -/
local notation "𝕄" => MT nD τ sig Unit (Elt F) ℕ (UR sig nD τ) ℕ

variable (m : (ℓ : Loc nD τ sig) → Buf (Elt F) ℓ) (ρ : Dev nD → PrngReg)

/-- The result's block at point `t`. -/
def outsAt (c : Dev nD) (t : Fin cfg0.N) : Vec F S2048x128 .bf16 :=
  outVal (grid0.coords t) (iblk m c 0 t) (iblk m c 1 t) (iblk m c 2 t)

/-- The pipeline's proof data: inputs left at their blocks, the result at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body at every point takes the windows' buffers from what they hold to what they are left at. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3]
  rw [show (dats m 0 c).Φ t.castSucc = Pipeline.ΦA spec0 c from rfl]
  unfold outsAt Pipeline.ΦA
  rw [scopedRest0_eq]
  iintro ⟨⟨⟨⟨%f0, S0⟩, ⟨%f1, S1⟩, ⟨%f2, S2⟩, ⟨%f3, S3⟩, ⟨%f4, S4⟩⟩, Hr⟩, Ho, ⟨%d0, H0⟩, ⟨%d1, H1⟩, ⟨%d2, H2⟩, ⟨%d3, H3⟩⟩
  iapply (kernelRun c _ _ _ _ (Memref.whole cc0_scratch0) (Memref.whole cc0_scratch1) (Memref.whole cc0_scratch2) (Memref.whole cc0_scratch3)
    (Memref.whole cc0_scratch4) _ (grid0.coords t) _ _ _ (Memref.isWhole_whole _) (Memref.isWhole_whole _) (Memref.isWhole_whole _)
    (Memref.isWhole_whole _) (Memref.isWhole_whole _) (iblk m c 0 t) (iblk m c 1 t) (iblk m c 2 t) ⟨f0, f1, f2, f3, f4⟩ _ Set.univ _)
  unfold Res
  isplitl [H0 H1 H2 S0 S1 S2 S3 S4]
  · isplitl [H0]; · iexact H0
    isplitl [H1]; · iexact H1
    isplitl [H2]; · iexact H2
    rw [owns_whole, owns_whole, owns_whole, owns_whole, owns_whole]
    isplitl [S0]; · iexact S0
    isplitl [S1]; · iexact S1
    isplitl [S2]; · iexact S2
    isplitl [S3]; · iexact S3
    iexact S4
  isplitl [H3]; · iexact H3
  simp only [owns_whole]
  iintro ⟨H3, ⟨%σ', H0, H1, H2, S0, S1, S2, S3, S4⟩⟩
  isplitl [Hr S0 S1 S2 S3 S4]
  · isplitr [Hr]
    · isplitl [S0]; · iexists _; iexact S0
      isplitl [S1]; · iexists _; iexact S1
      isplitl [S2]; · iexists _; iexact S2
      isplitl [S3]; · iexists _; iexact S3
      iexists _; iexact S4
    iexact Hr
  isplitl [Ho]; · iexact Ho
  isplitl [H0]; · iexact H0
  isplitl [H1]; · iexact H1
  isplitl [H2]; · iexact H2
  iexact H3

set_option backward.isDefEq.respectTransparency.types false in
/-- From any memory with zero counters every fair execution of @main terminates, every array of the pipeline left at what
    the proof data say and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The arrays after the run, alone. -/
theorem run_arrays : θ_run defs (onTc (τ := τ) (main (F := F))) (s₀ m ρ) (Pipeline.FramePost cfgs (dats m) 0 (V m)) :=
  (θ_run _ _ _).mono (fun _ h => h.1) (run_main m ρ)

/-- The frame: the arguments keep their contents and the counters are zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.KernelIdeal.Mla

end
-- ==== Proof.Mla.RefFrame.lean ====
/-
  The reference, a program of host operations only, runs and keeps its arguments.
-/
module

public import proofs.«01_k».proof.Defs
public import proofs.«01_k».proof.Proof.Gen.ReferenceIdeal
public import Idealize.ShloMosaic.Lib.StableHlo.RunHlo
public import Idealize.ShloMosaic.Lib.Claim
public import Idealize.ShloMosaic.Lib.Tactic
public import Idealize.ShloMosaic.Lib.Quiescent

@[expose] public section

set_option maxRecDepth 16384

noncomputable section

namespace Cert.Proof

open Idealize.ShloMosaic Idealize.ShloMosaic.TcCoe Idealize.ShloMosaic.Tactic
open Idealize.SL.Sem

/-- The reference's frame. -/
theorem frame_R : Cert.quiescent_ReferenceIdeal := by
  intro m g _
  hlo_run
  · intro _; exact ⟨trivial, trivial, trivial, trivial, trivial⟩
  · exact sem_eq_zero_of_no_sems (sig := Cert.ReferenceIdeal.sig) (by decide) _

/-- The reference's frame under the precondition. -/
theorem frame_R_pre [hp : Cert.Pre_finite.Facts] : Cert.quiescent_ReferenceIdeal_pre_finite := by
  intro m g _
  hlo_run
  · intro _; exact ⟨trivial, trivial, trivial, trivial, trivial⟩
  · exact sem_eq_zero_of_no_sems (sig := Cert.ReferenceIdeal.sig) (by decide) _

end Cert.Proof

end
-- ==== Proof.Mla.PreFacts.lean ====
/-
  What the precondition says of an argument: every entry is a real.
-/
module

public import proofs.«01_k».proof.Defs
public import Idealize.ShloMosaic.Lib.Pointwise
public import Idealize.ShloMosaic.Lib.WordCmp

@[expose] public section

set_option maxRecDepth 16384

noncomputable section

namespace Cert.Proof

open Idealize.ShloMosaic Idealize.ShloMosaic.TcCoe

/-- The precondition's shapes fit. -/
theorem pre_facts : Cert.Pre_finite.Facts := ⟨by decide, by decide, by decide⟩

/-- The pattern of plus infinity denotes it. -/
theorem bits_top : Ideal.ofBits .f32 0x7F800000#32 = (⊤ : EReal) := by
  simp [Ideal.ofBits, Ideal.ieee]

/-- An extended real whose absolute value is below plus infinity is a real. -/
theorem real_of_abs (x : EReal) (h : max x (-x) < ⊤) : ∃ r : ℝ, x = r := by
  induction x with
  | bot => simp at h
  | top => simp at h
  | coe r => exact ⟨r, rfl⟩

/-- An array that passes the test holds reals. -/
theorem real_of_test {s : Shape} (x : FVec Ideal s .f32) (hb : Cert.Pre_finite.S_.BroadcastsInDim s (![] : Fin 0 → Fin s.rank))
    (h : cmpf .olt (Host.absf x) (broadcastInDim s ![] hb (constant Cert.Pre_finite.S_ .f32 0x7F800000#32)) = fun _ => 1#1) (i : s.Idx) :
    ∃ r : ℝ, x i = (r : EReal) := by
  have hi := congrFun h i
  refine real_of_abs _ ?_
  pointwise [] at hi
  rw [bits_top] at hi
  by_contra hn
  rw [show decide (FloatOps.absf (x i) < (⊤ : EReal)) = false from decide_eq_false hn] at hi
  exact absurd hi (by decide)

end Cert.Proof

end
-- ==== Proof.Mla.Read.lean ====
/-
  What each payload of the attention kernel holds at an index, over the extended reals: the scores of a block of keys, their column
  maxima, the new maximum, the factor, the weights with and without the causal mask, the updated running sums, and the
  division at the end.
-/
module

public import proofs.«01_k».proof.Proof.Mla.Slots
public import Idealize.ShloMosaic.Lib.Pointwise
public import Idealize.ShloMosaic.Lib.WordCmp
public import Idealize.ShloMosaic.Lib.Pipeline.Value

@[expose] public section

set_option maxRecDepth 16384

noncomputable section

namespace Cert.KernelIdeal.Mla

open Cert.KernelIdeal Cert.KernelIdeal.Gen
open Idealize.ShloMosaic Idealize.ShloMosaic.TcCoe Idealize.SL.Sem

/-- The pattern of minus infinity denotes it. -/
theorem bits_bot : Ideal.ofBits .f32 0xFF800000#32 = (⊥ : EReal) := by
  simp [Ideal.ofBits, Ideal.ieee]

/-- The mask's constant is minus infinity. -/
theorem mask_bot : Named.named (F := Ideal) (φ := .f32) κ "mask" 0xF149F2CA#32 = (⊥ : EReal) := rfl

/-- The running maxima start at a real. -/
theorem bits_mInit : ∃ μ : ℝ, Ideal.ofBits .f32 0xFF61B1E6#32 = (μ : EReal) := by
  unfold Ideal.ofBits Ideal.ieee
  exact ⟨_, (if_neg (by decide)).trans (if_neg (by decide))⟩

/-- A block's scores, keys by queries. -/
def score (K : Vec Ideal S512x256 .bf16) (Q : Vec Ideal S256x512 .bf16) (k r : Fin 512) : EReal :=
  ∑ d : Fin 256, (show EReal from K (ix2 k d)) * (show EReal from Q (ix2 d r))

theorem pay3_at (K : Vec Ideal S512x256 .bf16) (Q : Vec Ideal S256x512 .bf16) (k r : Fin 512) :
    k0_pay3 (F := Ideal) K Q (ix3 0 k r) = score K Q k r := by
  pointwise! [k0_pay3, k0_pay2, score]

theorem pay4_at (K : Vec Ideal S512x256 .bf16) (Q : Vec Ideal S256x512 .bf16) (r : Fin 512) :
    k0_pay4 (F := Ideal) K Q (ix3 0 0 r) = Finset.univ.fold max (⊥ : EReal) fun k => score K Q k r := by
  pointwise [k0_pay4, k0_pay2, score]
  rw [bits_bot]

theorem pay6_at (c m : Vec Ideal S1x1x512 .f32) (r : Fin 512) :
    k0_pay6 (F := Ideal) c m (ix2 0 r) = max (show EReal from m (ix3 0 0 r)) (show EReal from c (ix3 0 0 r)) := by
  pointwise! [k0_pay6, k0_pay5]

theorem pay7_at (c m : Vec Ideal S1x1x512 .f32) (r : Fin 512) :
    k0_pay7 (F := Ideal) c m (ix2 0 r)
      = Ideal.exp2 ((show EReal from m (ix3 0 0 r)) - (show EReal from k0_pay6 (F := Ideal) c m (ix2 0 r))) := by
  pointwise! [k0_pay7, k0_pay5]

theorem pay8_at (s : Vec Ideal S1x512x512 .f32) (c m : Vec Ideal S1x1x512 .f32) (k r : Fin 512) :
    k0_pay8 (F := Ideal) s c m (ix2 k r)
      = Ideal.exp2 ((show EReal from s (ix3 0 k r)) - (show EReal from k0_pay6 (F := Ideal) c m (ix2 0 r))) := by
  pointwise! [k0_pay8]

theorem pay10_at (al : FVec Ideal S1x512 .f32) (p : FVec Ideal S512x512 .bf16) (vt : Vec Ideal S128x512 .bf16)
    (l : Vec Ideal S1x1x512 .f32) (r : Fin 512) :
    k0_pay10 (F := Ideal) al p vt l (ix3 0 0 r)
      = (show EReal from al (ix2 0 r)) * (show EReal from l (ix3 0 0 r)) + ∑ k : Fin 512, (1 : EReal) * (show EReal from p (ix2 k r)) := by
  pointwise [k0_pay10, k0_pay9]

theorem pay11_at (al : FVec Ideal S1x512 .f32) (p : FVec Ideal S512x512 .bf16) (vt : Vec Ideal S128x512 .bf16)
    (a : Vec Ideal S1x128x512 .f32) (d : Fin 128) (r : Fin 512) :
    k0_pay11 (F := Ideal) al p vt a (ix3 0 d r)
      = (show EReal from al (ix2 0 r)) * (show EReal from a (ix3 0 d r))
        + ∑ k : Fin 512, (show EReal from vt (ix2 d k)) * (show EReal from p (ix2 k r)) := by
  pointwise [k0_pay11, k0_pay9]

theorem pay12_at (mx : FVec Ideal S1x512 .f32) (r : Fin 512) : k0_pay12 (F := Ideal) mx (ix3 0 0 r) = mx (ix2 0 r) := by
  pointwise! [k0_pay12]

theorem pay376_at (s : Vec Ideal S1x512x512 .f32) (k r : Fin 512) :
    k0_pay376 (F := Ideal) s (ix2 k r) = if k.val ≤ r.val then (show EReal from s (ix3 0 k r)) else ⊥ := by
  pointwise [k0_pay376]
  rw [mask_bot, show IntOp.addi (BitVec.ofNat 32 r.val) 0#32 = BitVec.ofNat 32 r.val from BitVec.add_zero _]
  simp (disch := word_cmp_side) only [hlo_ix]

theorem pay378_at (s : Vec Ideal S1x512x512 .f32) (m : Vec Ideal S1x1x512 .f32) (r : Fin 512) :
    k0_pay378 (F := Ideal) s m (ix2 0 r)
      = max (show EReal from m (ix3 0 0 r)) (Finset.univ.fold max (⊥ : EReal) fun k => k0_pay376 (F := Ideal) s (ix2 k r)) := by
  pointwise [k0_pay378, k0_pay377]
  rw [bits_bot]

theorem pay379_at (s : Vec Ideal S1x512x512 .f32) (m : Vec Ideal S1x1x512 .f32) (r : Fin 512) :
    k0_pay379 (F := Ideal) s m (ix2 0 r)
      = Ideal.exp2 ((show EReal from m (ix3 0 0 r)) - (show EReal from k0_pay378 (F := Ideal) s m (ix2 0 r))) := by
  pointwise! [k0_pay379, k0_pay377]

theorem pDiag_at (s : Vec Ideal S1x512x512 .f32) (m : Vec Ideal S1x1x512 .f32) (k r : Fin 512) :
    pDiag (F := Ideal) s m (ix2 k r)
      = Ideal.exp2 ((show EReal from k0_pay376 (F := Ideal) s (ix2 k r)) - (show EReal from k0_pay378 (F := Ideal) s m (ix2 0 r))) := by
  pointwise! [pDiag]

theorem res_at (x : Ab Ideal) (g : Fin 4) (r : Fin 512) (d : Fin 128) :
    x.res g (ix2 r d) = Ideal.div (show EReal from x.a g (ix3 0 d r)) (show EReal from x.l g (ix3 0 0 r)) := by
  pointwise! [Ab.res, k0_pay1, k0_pay484]

theorem initM_at (g : Fin 4) (r : Fin 512) :
    ∃ μ : ℝ, VecWindow.window (k0_pay364 (F := Ideal)) ![g.val, 0, 0] S1x1x512.size (inb8 g) (ix3 0 0 r) = (μ : EReal) := by
  obtain ⟨μ, h⟩ := bits_mInit
  have e : k0_pay364 (F := Ideal) = broadcast S4x1x512 (Ideal.ofBits .f32 0xFF61B1E6#32) := shapeCast_self _ _
  rw [e]
  exact ⟨μ, h⟩

theorem initL_at (g : Fin 4) (r : Fin 512) :
    VecWindow.window (k0_pay365 (F := Ideal)) ![g.val, 0, 0] S1x1x512.size (inb8 g) (ix3 0 0 r) = (0 : EReal) := by
  have e : k0_pay365 (F := Ideal) = broadcast S4x1x512 (Ideal.ofBits .f32 0x00000000#32) := shapeCast_self _ _
  rw [e]
  show Ideal.ofBits .f32 0x00000000#32 = (0 : EReal)
  simp [Ideal.ofBits, Ideal.ieee]

theorem initAcc_at (g : Fin 4) (d : Fin 128) (r : Fin 512) :
    VecWindow.window (k0_pay366 (F := Ideal)) ![g.val, 0, 0] S1x128x512.size (inb10 g) (ix3 0 d r) = (0 : EReal) := by
  have e : k0_pay366 (F := Ideal) = broadcast S4x128x512 (Ideal.ofBits .f32 0x00000000#32) := shapeCast_self _ _
  rw [e]
  show Ideal.ofBits .f32 0x00000000#32 = (0 : EReal)
  simp [Ideal.ofBits, Ideal.ieee]

end Cert.KernelIdeal.Mla

end
-- ==== Proof.Mla.Online.lean ====
/-
  The arithmetic of the running softmax, over the extended reals, of one query and one lane of the values: what one
  block of keys does to a running weighted sum, and that the quotient of two running sums is the weighted sum of the
  softmax's quotients.
-/
module

public import Idealize.ShloMosaic.PureOps.Ideal

@[expose] public section

noncomputable section

namespace Cert.Online

open Idealize.ShloMosaic

/-- The weight of a score against a reference point, as a real. -/
def wt (μ : ℝ) (x : EReal) : ℝ := if x = ⊥ then 0 else (2 : ℝ) ^ (x.toReal - μ)

theorem wt_nonneg (μ : ℝ) (x : EReal) : 0 ≤ wt μ x := by
  unfold wt
  split
  · exact le_refl _
  · exact Real.rpow_nonneg (by norm_num) _

/-- The power of two of a score less a real is its weight. -/
theorem exp2_sub (μ : ℝ) (x : EReal) (hx : x ≠ ⊤) : Ideal.exp2 (x - (μ : EReal)) = (wt μ x : EReal) := by
  induction x with
  | bot => simp [wt]
  | top => exact absurd rfl hx
  | coe r =>
    rw [← EReal.coe_sub, Ideal.exp2_coe, wt, if_neg (EReal.coe_ne_bot r), EReal.toReal_coe]
    rfl

/-- Moving the reference point multiplies every weight by the same factor. -/
theorem wt_move (μ ν : ℝ) (x : EReal) : (2 : ℝ) ^ (μ - ν) * wt μ x = wt ν x := by
  unfold wt
  split
  · simp
  · rw [← Real.rpow_add (by norm_num)]
    congr 1
    ring

/-- A nonnegative real distributes over a sum of extended reals. -/
theorem coe_mul_sum {ι : Type*} (s : Finset ι) (c : ℝ) (hc : 0 ≤ c) (f : ι → EReal) :
    (c : EReal) * ∑ j ∈ s, f j = ∑ j ∈ s, (c : EReal) * f j := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- A finite sum of reals, read as an extended real. -/
theorem coe_sum {ι : Type*} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A running weighted sum: the reference point is real, and the sum is that of the first `n` keys' terms against it. -/
def Acc (t u : ℕ → EReal) (n : ℕ) (m a : EReal) : Prop :=
  (∃ μ : ℝ, m = μ) ∧ a = ∑ j ∈ Finset.range n, u j * Ideal.exp2 (t j - m)

/-- No key: the sum is zero. -/
theorem Acc.zero (t u : ℕ → EReal) (μ : ℝ) : Acc t u 0 μ 0 := ⟨⟨μ, rfl⟩, by simp⟩

/-- One block of `B` keys: the sum so far times the factor, plus the block's own terms. -/
theorem Acc.step (t u : ℕ → EReal) (ht : ∀ j, t j ≠ ⊤) (n B : ℕ) (m m' a : EReal) (h : Acc t u n m a) (hm : ∃ μ : ℝ, m' = μ) :
    Acc t u (n + B) m' (Ideal.exp2 (m - m') * a + ∑ k : Fin B, u (n + k) * Ideal.exp2 (t (n + k) - m')) := by
  obtain ⟨⟨μ, rfl⟩, rfl⟩ := h
  obtain ⟨ν, rfl⟩ := hm
  refine ⟨⟨ν, rfl⟩, ?_⟩
  rw [Finset.sum_range_add, Finset.sum_range (n := B), ← EReal.coe_sub, Ideal.exp2_coe]
  congr 1
  rw [coe_mul_sum _ _ (show (0 : ℝ) ≤ Real.rpow 2 (μ - ν) from Real.rpow_nonneg (by norm_num) _)]
  refine Finset.sum_congr rfl fun j _ => ?_
  rw [exp2_sub _ _ (ht j), exp2_sub _ _ (ht j), mul_left_comm, ← EReal.coe_mul]
  congr 2
  exact wt_move μ ν (t j)

/-- The largest of finitely many scores, none of them infinite upwards, and a real is a real. -/
theorem max_real (μ : ℝ) (x : EReal) (hx : x ≠ ⊤) : ∃ ν : ℝ, max (μ : EReal) x = ν := by
  induction x with
  | bot => exact ⟨μ, by simp⟩
  | top => exact absurd rfl hx
  | coe r => exact ⟨max μ r, by rw [EReal.coe_strictMono.monotone.map_max]⟩

/-- A running maximum starting below infinity stays below it. -/
theorem fold_max_ne_top {ι : Type*} (s : Finset ι) (b : EReal) (hb : b ≠ ⊤) (f : ι → EReal) (hf : ∀ j, f j ≠ ⊤) :
    s.fold max b f ≠ ⊤ := by
  classical
  induction s using Finset.induction_on with
  | empty => simpa using hb
  | insert a s ha ih =>
    rw [Finset.fold_insert ha]
    rcases max_cases (f a) (s.fold max b f) with h | h <;> rw [h.1]
    · exact hf a
    · exact ih

/-- A running maximum is at least each of its terms. -/
theorem le_fold_max {ι : Type*} (s : Finset ι) (b : EReal) (f : ι → EReal) (j : ι) (hj : j ∈ s) : f j ≤ s.fold max b f := by
  rw [Finset.le_fold_max]
  exact .inr ⟨j, hj, le_refl _⟩

/-- The quotient of the running weighted sum by the running sum of the weights is the sum of the values under the
    softmax of the natural exponentials: `T` the scores, `t` the scores over the logarithm of two, masked alike. -/
theorem quotient (t T u : ℕ → EReal) (n N : ℕ) (hn : n ≤ N)
    (hT : ∀ j, (T j = ⊥ ∧ t j = ⊥) ∨ ∃ r : ℝ, T j = r ∧ t j = ((r / Real.log 2 : ℝ) : EReal))
    (hmask : ∀ j, n ≤ j → t j = ⊥) (hex : ∃ j < n, t j ≠ ⊥) (M : ℝ) (m a l : EReal)
    (ha : Acc t u n m a) (hl : Acc t (fun _ => 1) n m l) :
    Ideal.div a l = ∑ j ∈ Finset.range N, u j * Ideal.div (Ideal.exp (T j - M)) (∑ j' ∈ Finset.range N, Ideal.exp (T j' - M)) := by
  obtain ⟨⟨μ, rfl⟩, rfl⟩ := ha
  obtain ⟨-, rfl⟩ := hl
  have hl2 : Real.log 2 ≠ 0 := (Real.log_pos (by norm_num)).ne'
  have htop : ∀ j, t j ≠ ⊤ := by
    intro j
    rcases hT j with ⟨-, h⟩ | ⟨r, -, h⟩ <;> rw [h]
    · exact bot_ne_top
    · exact EReal.coe_ne_top _
  -- each natural exponential is the same positive multiple of the power of two
  set c : ℝ := Real.exp (μ * Real.log 2 - M) with hc
  have hcpos : 0 < c := Real.exp_pos _
  have hexp : ∀ j, Ideal.exp (T j - M) = ((c * wt μ (t j) : ℝ) : EReal) := by
    intro j
    rcases hT j with ⟨h1, h2⟩ | ⟨r, h1, h2⟩
    · rw [h1, h2]; simp [wt]
    · rw [h1, h2, ← EReal.coe_sub, Ideal.exp_coe, wt, if_neg (EReal.coe_ne_bot _), EReal.toReal_coe, hc,
        Real.rpow_def_of_pos (by norm_num), ← Real.exp_add]
      congr 2
      field_simp
      ring
  have hext : ∀ f : ℕ → EReal, ∑ j ∈ Finset.range N, f j * (wt μ (t j) : EReal) = ∑ j ∈ Finset.range n, f j * (wt μ (t j) : EReal) := by
    intro f
    refine (Finset.sum_subset (Finset.range_subset_range.2 hn) fun j _ hj => ?_).symm
    rw [hmask j (by simpa using hj)]
    simp [wt]
  set L : ℝ := ∑ j ∈ Finset.range n, wt μ (t j) with hL
  have hLpos : 0 < L := by
    obtain ⟨j, hj, hjb⟩ := hex
    refine Finset.sum_pos' (fun j _ => wt_nonneg μ (t j)) ⟨j, by simpa using hj, ?_⟩
    rw [wt, if_neg hjb]
    exact Real.rpow_pos_of_pos (by norm_num) _
  have e1 : ∑ j ∈ Finset.range n, (1 : EReal) * Ideal.exp2 (t j - μ) = (L : EReal) := by
    rw [hL, coe_sum]
    refine Finset.sum_congr rfl fun j _ => ?_
    rw [one_mul, exp2_sub _ _ (htop j)]
  have e2 : ∑ j' ∈ Finset.range N, Ideal.exp (T j' - M) = ((c * L : ℝ) : EReal) := by
    have h1 : ∀ j, Ideal.exp (T j - M) = (c : EReal) * (wt μ (t j) : EReal) := fun j => by rw [hexp j, EReal.coe_mul]
    simp only [h1]
    rw [hext fun _ => (c : EReal), hL, EReal.coe_mul, coe_sum, coe_mul_sum _ _ hcpos.le]
  have e3 : ∑ j ∈ Finset.range n, u j * Ideal.exp2 (t j - μ) = ∑ j ∈ Finset.range n, u j * (wt μ (t j) : EReal) :=
    Finset.sum_congr rfl fun j _ => by rw [exp2_sub _ _ (htop j)]
  rw [e1, e2, e3, Ideal.div_coe hLpos.ne', ← hext, mul_comm, coe_mul_sum _ _ (by positivity)]
  refine Finset.sum_congr rfl fun j _ => ?_
  rw [hexp j, Ideal.div_coe (mul_pos hcpos hLpos).ne', ← EReal.coe_mul, mul_left_comm, ← EReal.coe_mul]
  congr 2
  field_simp

end Cert.Online

end
-- ==== Proof.Mla.Invariant.lean ====
/-
  The running softmax through the stages. `Inv` says which scores each slot holds and how many blocks of keys each
  group has taken up; every stage keeps it, so do the loop's trips, and after the tail each group has taken up every
  block up to its diagonal.
-/
module

public import proofs.«01_k».proof.Proof.Mla.Read
public import proofs.«01_k».proof.Proof.Mla.Whole
public import proofs.«01_k».proof.Proof.Mla.Online

@[expose] public section

set_option maxRecDepth 16384

noncomputable section

namespace Cert.KernelIdeal.Mla

open Cert.KernelIdeal Cert.KernelIdeal.Gen
open Idealize.ShloMosaic Idealize.ShloMosaic.TcCoe Idealize.SL.Sem
open Cert.Online

/-- The keys of the loop's step `r` of trip `t`: block `4 t + r`. -/
theorem off1 : ∀ (i : grid0.Coords) (t : Fin (k0_t1_loop i).trips) (r : Fin 4), k0_off1 i t (BitVec.ofNat 32 r.val) = ![512 * (4 * t.val + r.val), 0] := by
  decide +kernel
/-- The values of the same step. -/
theorem off2 : ∀ (i : grid0.Coords) (t : Fin (k0_t1_loop i).trips) (r : Fin 4), k0_off2 i t (BitVec.ofNat 32 r.val) = ![0, 512 * (4 * t.val + r.val)] := by
  decide +kernel
/-- The keys started for the next step: the block after. -/
theorem off3 : ∀ (i : grid0.Coords) (t : Fin (k0_t1_loop i).trips) (r : Fin 4), k0_off3 i t (BitVec.ofNat 32 r.val) = ![512 * (4 * t.val + r.val + 1), 0] := by
  decide +kernel
/-- The tail's keys: block `4 qi + c`. -/
theorem off7 : ∀ (i : grid0.Coords) (r : Fin 4), k0_off7 i (BitVec.ofNat 32 r.val) = ![512 * (4 * (i 1).val + r.val), 0] := by
  decide +kernel
/-- The tail's values. -/
theorem off8 : ∀ (i : grid0.Coords) (r : Fin 4), k0_off8 i (BitVec.ofNat 32 r.val) = ![0, 512 * (4 * (i 1).val + r.val)] := by
  decide +kernel

section

variable (q : Vec Ideal S256x2048 .bf16) (k : Vec Ideal S16384x256 .bf16) (v : Vec Ideal S128x16384 .bf16) (qi : ℕ)

/-- The score of key `j` and query `r` of the tile. -/
def sc (j : ℕ) (r : Fin 2048) : EReal :=
  if h : j < 16384 then ∑ d : Fin 256, (show EReal from k (ix2 ⟨j, h⟩ d)) * (show EReal from q (ix2 d r)) else ⊥

/-- The score under the causal mask of tile `qi`. -/
def msc (r : Fin 2048) (j : ℕ) : EReal := if j ≤ 2048 * qi + r.val then sc q k j r else ⊥

/-- Lane `d` of key `j`'s value. -/
def val (d : Fin 128) (j : ℕ) : EReal := if h : j < 16384 then (show EReal from v (ix2 d ⟨j, h⟩)) else 0

/-- Query `r` of group `g`. -/
def col (g : Fin 4) (r : Fin 512) : Fin 2048 := ⟨512 * g.val + r.val, by omega⟩

theorem score_eq (J : ℕ) (g : Fin 4) (ko : Fin 2 → ℕ) (hk : ∀ a, ko a + S512x256.size a ≤ S16384x256.size a) (e : ko = ![512 * J, 0])
    (kk r : Fin 512) : score (kAt k ko hk) (qAt q g) kk r = sc q k (512 * J + kk.val) (col g r) := by
  subst e
  have h0 : 512 * J + 512 ≤ 16384 := hk 0
  have hj : 512 * J + kk.val < 16384 := by omega
  rw [sc, dif_pos hj, score]
  refine Finset.sum_congr rfl fun d _ => ?_
  refine congrArg₂ (fun x y : EReal => x * y) ?_ ?_
  · refine congrArg k ?_
    funext a
    match a with
    | 0 => exact Fin.ext (show 512 * J + 1 * kk.val = 512 * J + kk.val by omega)
    | 1 => exact Fin.ext (show 0 + 1 * d.val = d.val by omega)
  · refine congrArg q ?_
    funext a
    match a with
    | 0 => exact Fin.ext (show 0 + 1 * d.val = d.val by omega)
    | 1 => exact Fin.ext (show 512 * g.val + 1 * r.val = 512 * g.val + r.val by omega)

theorem val_eq (J : ℕ) (vo : Fin 2 → ℕ) (hv : ∀ a, vo a + S128x512.size a ≤ S128x16384.size a) (e : vo = ![0, 512 * J])
    (d : Fin 128) (kk : Fin 512) : vAt v vo hv (ix2 d kk) = val v d (512 * J + kk.val) := by
  subst e
  have h0 : 512 * J + 512 ≤ 16384 := hv 1
  have hj : 512 * J + kk.val < 16384 := by omega
  rw [val, dif_pos hj]
  refine congrArg v ?_
  funext a
  match a with
  | 0 => exact Fin.ext (show 0 + 1 * d.val = d.val by omega)
  | 1 => exact Fin.ext (show 512 * J + 1 * kk.val = 512 * J + kk.val by omega)

/-- Which scores the slots hold (`P b`: a group and a block of keys; `C b`: whether their maxima are held too), and how
    many blocks each group's running quantities have taken up. -/
structure Inv (x : Ab Ideal) (P : Fin 2 → Fin 4 × ℕ) (C : Fin 2 → Bool) (n : Fin 4 → ℕ) : Prop where
  s : ∀ b (kk r : Fin 512), x.s b (ix3 0 kk r) = sc q k (512 * (P b).2 + kk.val) (col (P b).1 r)
  c : ∀ b, C b = true → ∀ r : Fin 512, x.c b (ix3 0 0 r)
    = Finset.univ.fold max (⊥ : EReal) fun kk : Fin 512 => sc q k (512 * (P b).2 + kk.val) (col (P b).1 r)
  l : ∀ g (r : Fin 512), Acc (msc q k qi (col g r)) (fun _ => 1) (512 * n g) (x.m g (ix3 0 0 r)) (x.l g (ix3 0 0 r))
  a : ∀ g (r : Fin 512) (d : Fin 128), Acc (msc q k qi (col g r)) (val v d) (512 * n g) (x.m g (ix3 0 0 r)) (x.a g (ix3 0 d r))

variable {q k v qi}

/-- The same under names that agree. -/
theorem Inv.congr {x : Ab Ideal} {P P' : Fin 2 → Fin 4 × ℕ} {C C' : Fin 2 → Bool} {n n' : Fin 4 → ℕ} (h : Inv q k v qi x P C n)
    (eP : P = P') (eC : C = C') (en : n = n') : Inv q k v qi x P' C' n' := by subst eP eC en; exact h

theorem inv_startC {x : Ab Ideal} {P : Fin 2 → Fin 4 × ℕ} {C : Fin 2 → Bool} {n : Fin 4 → ℕ} (h : Inv q k v qi x P C n)
    (b : Fin 2) (g : Fin 4) (J : ℕ) (ko : Fin 2 → ℕ) (hk : ∀ a, ko a + S512x256.size a ≤ S16384x256.size a) (e : ko = ![512 * J, 0]) :
    Inv q k v qi (Stage.effA q k v (.startC b g ko hk) x) (Function.update P b (g, J)) (Function.update C b true) n where
  s b' kk r := by
    unfold Stage.effA
    dsimp only
    by_cases hb : b' = b
    · subst hb
      rw [Function.update_self, Function.update_self, pay3_at, score_eq q k J g ko hk e]
    · rw [Function.update_of_ne hb, Function.update_of_ne hb]; exact h.s b' kk r
  c b' hc r := by
    unfold Stage.effA
    dsimp only
    by_cases hb : b' = b
    · subst hb
      rw [Function.update_self, Function.update_self, pay4_at]
      simp only [score_eq q k J g ko hk e]
    · rw [Function.update_of_ne hb] at hc ⊢
      rw [Function.update_of_ne hb]; exact h.c b' hc r
  l := h.l
  a := h.a

theorem inv_startN {x : Ab Ideal} {P : Fin 2 → Fin 4 × ℕ} {C : Fin 2 → Bool} {n : Fin 4 → ℕ} (h : Inv q k v qi x P C n)
    (b : Fin 2) (g : Fin 4) (J : ℕ) (ko : Fin 2 → ℕ) (hk : ∀ a, ko a + S512x256.size a ≤ S16384x256.size a) (e : ko = ![512 * J, 0]) :
    Inv q k v qi (Stage.effA q k v (.startN b g ko hk) x) (Function.update P b (g, J)) (Function.update C b false) n where
  s b' kk r := by
    unfold Stage.effA
    dsimp only
    by_cases hb : b' = b
    · subst hb
      rw [Function.update_self, Function.update_self, pay3_at, score_eq q k J g ko hk e]
    · rw [Function.update_of_ne hb, Function.update_of_ne hb]; exact h.s b' kk r
  c b' hc r := by
    unfold Stage.effA
    dsimp only
    by_cases hb : b' = b
    · subst hb
      rw [Function.update_self] at hc; cases hc
    · rw [Function.update_of_ne hb] at hc ⊢
      exact h.c b' hc r
  l := h.l
  a := h.a

theorem sc_ne_top (hfin : ∀ (j : Fin 16384) r, sc q k j.val r ≠ ⊤) (j : ℕ) (r : Fin 2048) : sc q k j r ≠ ⊤ := by
  by_cases h : j < 16384
  · exact hfin ⟨j, h⟩ r
  · rw [sc, dif_neg h]; exact bot_ne_top

theorem msc_ne_top (hfin : ∀ (j : Fin 16384) r, sc q k j.val r ≠ ⊤) (r : Fin 2048) (j : ℕ) : msc q k qi r j ≠ ⊤ := by
  unfold msc
  split
  · exact sc_ne_top hfin j r
  · exact bot_ne_top

/-- An update of group `g` with the block's masked scores, whatever they are read from. -/
theorem inv_upd (hfin : ∀ (j : Fin 16384) r, sc q k j.val r ≠ ⊤) {x : Ab Ideal} {P : Fin 2 → Fin 4 × ℕ} {C : Fin 2 → Bool} {n : Fin 4 → ℕ}
    (h : Inv q k v qi x P C n) (g : Fin 4) (J : ℕ) (hn : n g = J) (vo : Fin 2 → ℕ) (hv : ∀ a, vo a + S128x512.size a ≤ S128x16384.size a)
    (e : vo = ![0, 512 * J]) (mx al : FVec Ideal S1x512 .f32) (p : FVec Ideal S512x512 .bf16)
    (hmx : ∀ r : Fin 512, ∃ μ : ℝ, mx (ix2 0 r) = (μ : EReal))
    (hal : ∀ r : Fin 512, al (ix2 0 r) = Ideal.exp2 ((show EReal from x.m g (ix3 0 0 r)) - (show EReal from mx (ix2 0 r))))
    (hp : ∀ kk r : Fin 512, p (ix2 kk r) = Ideal.exp2 (msc q k qi (col g r) (512 * J + kk.val) - (show EReal from mx (ix2 0 r)))) :
    Inv q k v qi (x.upd g mx al p (vAt v vo hv)) P C (Function.update n g (J + 1)) where
  s := h.s
  c := h.c
  l g' r := by
    unfold Ab.upd
    dsimp only
    by_cases hg : g' = g
    · subst hg
      rw [Function.update_self, Function.update_self, Function.update_self, pay12_at, pay10_at, hal]
      have hl := h.l g' r
      rw [hn] at hl
      have := Acc.step _ _ (msc_ne_top (qi := qi) hfin (col g' r)) (512 * J) 512 _ _ _ hl (hmx r)
      rw [show 512 * (J + 1) = 512 * J + 512 from by omega]
      simp only [hp]
      exact this
    · rw [Function.update_of_ne hg, Function.update_of_ne hg, Function.update_of_ne hg]; exact h.l g' r
  a g' r d := by
    unfold Ab.upd
    dsimp only
    by_cases hg : g' = g
    · subst hg
      rw [Function.update_self, Function.update_self, Function.update_self, pay12_at, pay11_at, hal]
      have hl := h.a g' r d
      rw [hn] at hl
      have := Acc.step _ _ (msc_ne_top (qi := qi) hfin (col g' r)) (512 * J) 512 _ _ _ hl (hmx r)
      rw [show 512 * (J + 1) = 512 * J + 512 from by omega]
      simp only [hp, val_eq v J vo hv e]
      exact this
    · rw [Function.update_of_ne hg, Function.update_of_ne hg, Function.update_of_ne hg]; exact h.a g' r d

/-- A step on a block that lies wholly before the group's first query. -/
theorem inv_fin (hfin : ∀ (j : Fin 16384) r, sc q k j.val r ≠ ⊤) {x : Ab Ideal} {P : Fin 2 → Fin 4 × ℕ} {C : Fin 2 → Bool} {n : Fin 4 → ℕ}
    (h : Inv q k v qi x P C n) (b : Fin 2) (g : Fin 4) (J : ℕ) (hP : P b = (g, J)) (hC : C b = true) (hn : n g = J)
    (hJ : J < 4 * qi + g.val) (vo : Fin 2 → ℕ)
    (hv : ∀ a, vo a + S128x512.size a ≤ S128x16384.size a) (e : vo = ![0, 512 * J]) :
    Inv q k v qi (Stage.effA q k v (.fin b g vo hv) x) P C (Function.update n g (J + 1)) := by
  have hs := h.s b
  have hc := h.c b hC
  rw [hP] at hs hc
  dsimp only at hs hc
  have hm : ∀ r : Fin 512, ∃ μ : ℝ, k0_pay6 (F := Ideal) (x.c b) (x.m g) (ix2 0 r) = (μ : EReal) := by
    intro r
    obtain ⟨μ, hμ⟩ := (h.l g r).1
    rw [pay6_at, hμ, hc r]
    exact max_real μ _ (fold_max_ne_top _ _ bot_ne_top _ fun kk => sc_ne_top hfin _ _)
  refine inv_upd hfin h g J hn vo hv e _ _ _ hm (fun r => pay7_at _ _ r) (fun kk r => ?_)
  rw [pay8_at, hs kk r, msc, if_pos]
  show 512 * J + kk.val ≤ 2048 * qi + (512 * g.val + r.val)
  omega

/-- A step on the block that meets the diagonal. -/
theorem inv_finD (hfin : ∀ (j : Fin 16384) r, sc q k j.val r ≠ ⊤) {x : Ab Ideal} {P : Fin 2 → Fin 4 × ℕ} {C : Fin 2 → Bool} {n : Fin 4 → ℕ}
    (h : Inv q k v qi x P C n) (b : Fin 2) (g : Fin 4) (J : ℕ) (hP : P b = (g, J)) (hn : n g = J)
    (hJ : J = 4 * qi + g.val) (vo : Fin 2 → ℕ)
    (hv : ∀ a, vo a + S128x512.size a ≤ S128x16384.size a) (e : vo = ![0, 512 * J]) :
    Inv q k v qi (Stage.effA q k v (.finD b g vo hv) x) P C (Function.update n g (J + 1)) := by
  have hs := h.s b
  rw [hP] at hs
  dsimp only at hs
  have hs' : ∀ kk r : Fin 512, k0_pay376 (F := Ideal) (x.s b) (ix2 kk r) = msc q k qi (col g r) (512 * J + kk.val) := by
    intro kk r
    rw [pay376_at, hs kk r, msc]
    refine if_congr ?_ rfl rfl
    show kk.val ≤ r.val ↔ 512 * J + kk.val ≤ 2048 * qi + (512 * g.val + r.val)
    omega
  have hm : ∀ r : Fin 512, ∃ μ : ℝ, k0_pay378 (F := Ideal) (x.s b) (x.m g) (ix2 0 r) = (μ : EReal) := by
    intro r
    obtain ⟨μ, hμ⟩ := (h.l g r).1
    rw [pay378_at, hμ]
    simp only [hs']
    exact max_real μ _ (fold_max_ne_top _ _ bot_ne_top _ fun kk => msc_ne_top hfin _ _)
  refine inv_upd hfin h g J hn vo hv e _ _ _ hm (fun r => pay379_at _ _ r) (fun kk r => ?_)
  rw [pDiag_at, hs' kk r]

/-- Nothing taken up, the first block's scores of the first group in both slots. -/
theorem inv_init : Inv q k v qi (initA q k) (fun _ => (0, 0)) (fun _ => true) (fun _ => 0) where
  s b kk r := by
    unfold initA
    dsimp only
    rw [pay3_at, score_eq q k 0 0 _ _ rfl]
  c b _ r := by
    unfold initA
    dsimp only
    rw [pay4_at]
    simp only [score_eq q k 0 0 _ inb_S16384x256_S512x256_0_0 rfl]
  l g r := by
    obtain ⟨μ, hμ⟩ := initM_at g r
    unfold initA
    dsimp only
    rw [hμ, initL_at]
    exact Acc.zero _ _ μ
  a g r d := by
    obtain ⟨μ, hμ⟩ := initM_at g r
    unfold initA
    dsimp only
    rw [hμ, initAcc_at]
    exact Acc.zero _ _ μ

/-- The list's effect, a stage at a time. -/
theorem effsA_cons (S : Stage) (L : List Stage) (x : Ab Ideal) : effsA q k v (S :: L) x = effsA q k v L (S.effA q k v x) := rfl

theorem effsA_append (L L' : List Stage) (x : Ab Ideal) : effsA q k v (L ++ L') x = effsA q k v L' (effsA q k v L x) :=
  List.foldl_append ..

/-- One block of keys for all four groups. -/
theorem inv_chunk (hfin : ∀ (j : Fin 16384) r, sc q k j.val r ≠ ⊤) {x : Ab Ideal} {p : Fin 4 × ℕ} (J : ℕ) (hJ : J < 4 * qi) {C : Bool}
    (h : Inv q k v qi x ![(0, J), p] ![true, C] (fun _ => J)) (ko vo kn : Fin 2 → ℕ) (hk hv hn)
    (ek : ko = ![512 * J, 0]) (ev : vo = ![0, 512 * J]) (en : kn = ![512 * (J + 1), 0]) :
    Inv q k v qi (effsA q k v (chunk ko hk vo hv kn hn) x) ![(0, J + 1), (3, J)] ![true, true] (fun _ => J + 1) := by
  have h := inv_startC h 1 1 J ko hk ek
  have h := inv_fin hfin h 0 0 J rfl rfl rfl (by omega) vo hv ev
  have h := inv_startC h 0 2 J ko hk ek
  have h := inv_fin hfin h 1 1 J rfl rfl rfl (by omega) vo hv ev
  have h := inv_startC h 1 3 J ko hk ek
  have h := inv_fin hfin h 0 2 J rfl rfl rfl (by omega) vo hv ev
  have h := inv_startC h 0 0 (J + 1) kn hn en
  have h := inv_fin hfin h 1 3 J rfl rfl rfl (by omega) vo hv ev
  refine h.congr ?_ ?_ ?_
  · funext b; match b with | 0 => rfl | 1 => rfl
  · funext b; match b with | 0 => rfl | 1 => rfl
  · funext g; match g with | 0 => rfl | 1 => rfl | 2 => rfl | 3 => rfl

/-- The loop's trips: after `t` of them every group has taken up `4 t` blocks. -/
theorem inv_trips (hfin : ∀ (j : Fin 16384) r, sc q k j.val r ≠ ⊤) (i : grid0.Coords) (hq : (i 1).val = qi) :
    ∀ t : ℕ, t ≤ (k0_t1_loop i).trips → ∃ (p : Fin 4 × ℕ), Inv q k v qi (tripsA i q k v (initA q k) t) ![(0, 4 * t), p] ![true, true] (fun _ => 4 * t) := by
  intro t
  induction t with
  | zero =>
    intro _
    exact ⟨(0, 0), inv_init.congr (by funext b; match b with | 0 => rfl | 1 => rfl) (by funext b; match b with | 0 => rfl | 1 => rfl) rfl⟩
  | succ t ih =>
    intro ht
    obtain ⟨p, h⟩ := ih (by omega)
    have htr := trips1 i
    rw [tripsA_succ i q k v _ ⟨t, ht⟩]
    unfold trip
    rw [effsA_append, effsA_append, effsA_append]
    have h := inv_chunk hfin (4 * t) (by omega) h _ _ _ (k0_off1_inb i ⟨t, ht⟩ 0) (k0_off2_inb i ⟨t, ht⟩ 0) (k0_off3_inb i ⟨t, ht⟩ 0) (off1 i ⟨t, ht⟩ 0) (off2 i ⟨t, ht⟩ 0) (off3 i ⟨t, ht⟩ 0)
    have h := inv_chunk hfin (4 * t + 1) (by omega) h _ _ _ (k0_off1_inb i ⟨t, ht⟩ 1) (k0_off2_inb i ⟨t, ht⟩ 1) (k0_off3_inb i ⟨t, ht⟩ 1) (off1 i ⟨t, ht⟩ 1) (off2 i ⟨t, ht⟩ 1) (off3 i ⟨t, ht⟩ 1)
    have h := inv_chunk hfin (4 * t + 2) (by omega) h _ _ _ (k0_off1_inb i ⟨t, ht⟩ 2) (k0_off2_inb i ⟨t, ht⟩ 2) (k0_off3_inb i ⟨t, ht⟩ 2) (off1 i ⟨t, ht⟩ 2) (off2 i ⟨t, ht⟩ 2) (off3 i ⟨t, ht⟩ 2)
    have h := inv_chunk hfin (4 * t + 3) (by omega) h _ _ _ (k0_off1_inb i ⟨t, ht⟩ 3) (k0_off2_inb i ⟨t, ht⟩ 3) (k0_off3_inb i ⟨t, ht⟩ 3) (off1 i ⟨t, ht⟩ 3) (off2 i ⟨t, ht⟩ 3) (off3 i ⟨t, ht⟩ 3)
    exact ⟨_, h⟩

/-- When the division starts, group `g` has taken up every block up to the one that meets its diagonal. -/
theorem inv_end (hfin : ∀ (j : Fin 16384) r, sc q k j.val r ≠ ⊤) (i : grid0.Coords) (hq : (i 1).val = qi) :
    ∃ P C, Inv q k v qi (endA i q k v (initA q k)) P C (fun g => 4 * qi + g.val + 1) := by
  obtain ⟨p, h⟩ := inv_trips (v := v) hfin i hq (k0_t1_loop i).trips le_rfl
  rw [trips1 i, hq] at h
  unfold endA
  rw [trips1 i, hq]
  have e7 : ∀ r : Fin 4, k0_off7 i (BitVec.ofNat 32 r.val) = ![512 * (4 * qi + r.val), 0] := fun r => hq ▸ off7 i r
  have e8 : ∀ r : Fin 4, k0_off8 i (BitVec.ofNat 32 r.val) = ![0, 512 * (4 * qi + r.val)] := fun r => hq ▸ off8 i r
  have h := inv_startC h 1 1 (4 * qi) _ (k0_off7_inb i 0) (e7 0)
  have h := inv_finD hfin h 0 0 (4 * qi) rfl rfl rfl _ (k0_off8_inb i 0) (e8 0)
  have h := inv_startC h 0 2 (4 * qi) _ (k0_off7_inb i 0) (e7 0)
  have h := inv_fin hfin h 1 1 (4 * qi) rfl rfl rfl (by simp) _ (k0_off8_inb i 0) (e8 0)
  have h := inv_startC h 1 3 (4 * qi) _ (k0_off7_inb i 0) (e7 0)
  have h := inv_fin hfin h 0 2 (4 * qi) rfl rfl rfl (by simp) _ (k0_off8_inb i 0) (e8 0)
  have h := inv_startN h 0 1 (4 * qi + 1) _ (k0_off7_inb i 1) (e7 1)
  have h := inv_fin hfin h 1 3 (4 * qi) rfl rfl rfl (by simp) _ (k0_off8_inb i 0) (e8 0)
  have h := inv_startC h 1 2 (4 * qi + 1) _ (k0_off7_inb i 1) (e7 1)
  have h := inv_finD hfin h 0 1 (4 * qi + 1) rfl rfl rfl _ (k0_off8_inb i 1) (e8 1)
  have h := inv_startC h 0 3 (4 * qi + 1) _ (k0_off7_inb i 1) (e7 1)
  have h := inv_fin hfin h 1 2 (4 * qi + 1) rfl rfl rfl (by simp) _ (k0_off8_inb i 1) (e8 1)
  have h := inv_startN h 1 2 (4 * qi + 2) _ (k0_off7_inb i 2) (e7 2)
  have h := inv_fin hfin h 0 3 (4 * qi + 1) rfl rfl rfl (by simp) _ (k0_off8_inb i 1) (e8 1)
  have h := inv_startC h 0 3 (4 * qi + 2) _ (k0_off7_inb i 2) (e7 2)
  have h := inv_finD hfin h 1 2 (4 * qi + 2) rfl rfl rfl _ (k0_off8_inb i 2) (e8 2)
  have h := inv_startN h 1 3 (4 * qi + 3) _ (k0_off7_inb i 3) (e7 3)
  have h := inv_fin hfin h 0 3 (4 * qi + 2) rfl rfl rfl (by simp) _ (k0_off8_inb i 2) (e8 2)
  have h := inv_finD hfin h 1 3 (4 * qi + 3) rfl rfl rfl _ (k0_off8_inb i 3) (e8 3)
  exact ⟨_, _, h.congr rfl rfl (by funext g; match g with | 0 => rfl | 1 => rfl | 2 => rfl | 3 => rfl)⟩

end

end Cert.KernelIdeal.Mla

end
-- ==== Proof.Mla.Out.lean ====
/-
  The result's block at an index: the softmax-weighted sum of the block's values, over every key up to the query's.
-/
module

public import proofs.«01_k».proof.Proof.Mla.Invariant

@[expose] public section

set_option maxRecDepth 16384

noncomputable section

namespace Cert.KernelIdeal.Mla

open Cert.KernelIdeal Cert.KernelIdeal.Gen
open Idealize.ShloMosaic Idealize.ShloMosaic.TcCoe Idealize.SL.Sem
open Cert.Online
open VecWindow

/-- A put of a group's rows, read at one of them. -/
theorem put_hit (x : Vec Ideal S2048x128 .bf16) (w : FVec Ideal S512x128 .bf16) (g : Fin 4) (r : Fin 512) (d : Fin 128) :
    put x ![512 * g.val, 0] S512x128.size w (ix2 (col g r) d) = w (ix2 r d) := by
  unfold put
  rw [dif_pos fun a => by
    match a with
    | 0 => exact ⟨show 512 * g.val ≤ 512 * g.val + r.val by omega, show 512 * g.val + r.val < 512 * g.val + 512 by omega⟩
    | 1 => exact ⟨Nat.zero_le _, show d.val < 0 + 128 by omega⟩]
  refine congrArg w (funext fun a => ?_)
  match a with
  | 0 => exact Fin.ext (show 512 * g.val + r.val - 512 * g.val = r.val by omega)
  | 1 => exact Fin.ext (show d.val - 0 = d.val by omega)

/-- Read at another group's row it changes nothing. -/
theorem put_miss (x : Vec Ideal S2048x128 .bf16) (w : FVec Ideal S512x128 .bf16) (g' g : Fin 4) (hg : g ≠ g') (r : Fin 512) (d : Fin 128) :
    put x ![512 * g'.val, 0] S512x128.size w (ix2 (col g r) d) = x (ix2 (col g r) d) := by
  unfold put
  rw [dif_neg fun h => by
    have h0 : 512 * g'.val ≤ 512 * g.val + r.val ∧ 512 * g.val + r.val < 512 * g'.val + 512 := h 0
    exact hg (Fin.ext (by omega))]

/-- A group's rows of the result. -/
theorem out_at (x : Ab Ideal) (g : Fin 4) (r : Fin 512) (d : Fin 128) : x.out (ix2 (col g r) d) = x.res g (ix2 r d) := by
  unfold Ab.out Ab.put4
  by_cases h3 : g = 3
  · subst h3; exact put_hit _ _ 3 r d
  rw [put_miss _ _ 3 g h3]
  by_cases h2 : g = 2
  · subst h2; exact put_hit _ _ 2 r d
  rw [put_miss _ _ 2 g h2]
  by_cases h1 : g = 1
  · subst h1; exact put_hit _ _ 1 r d
  rw [put_miss _ _ 1 g h1]
  have h0 : g = 0 := by
    have := g.isLt
    have e1 : g.val ≠ 1 := fun e => h1 (Fin.ext e)
    have e2 : g.val ≠ 2 := fun e => h2 (Fin.ext e)
    have e3 : g.val ≠ 3 := fun e => h3 (Fin.ext e)
    exact Fin.ext (show g.val = 0 by omega)
  subst h0
  exact put_hit _ _ 0 r d

variable (q : Vec Ideal S256x2048 .bf16) (k : Vec Ideal S16384x256 .bf16) (v : Vec Ideal S128x16384 .bf16)

/-- The block at row `r` and lane `d`, when the scores over `log 2` of natural-exponent scores `T` are reals. -/
theorem outVal_at (i : grid0.Coords) (g : Fin 4) (r : Fin 512) (d : Fin 128) (T : ℕ → EReal) (M : ℝ)
    (hreal : ∀ (j : Fin 16384) r, ∃ x : ℝ, sc q k j.val r = x)
    (hT : ∀ j, (j ≤ 2048 * (i 1).val + (col g r).val → ∃ x : ℝ, T j = x ∧ sc q k j (col g r) = ((x / Real.log 2 : ℝ) : EReal))
      ∧ (¬ j ≤ 2048 * (i 1).val + (col g r).val → T j = ⊥)) :
    outVal i q k v (ix2 (col g r) d)
      = ∑ j ∈ Finset.range 16384, val v d j * Ideal.div (Ideal.exp (T j - M)) (∑ j' ∈ Finset.range 16384, Ideal.exp (T j' - M)) := by
  have hq : (i 1).val < 8 := (i 1).isLt
  obtain ⟨P, C, h⟩ := inv_end (v := v) (fun j r => by obtain ⟨x, e⟩ := hreal j r; rw [e]; exact EReal.coe_ne_top x) i rfl
  unfold outVal
  rw [out_at, res_at]
  have ha := h.a g r d
  have hl := h.l g r
  generalize hn : 512 * (4 * (i 1).val + g.val + 1) = n at ha hl
  have hle : n ≤ 16384 := by omega
  have h1 : ∀ j, (T j = ⊥ ∧ msc q k (i 1).val (col g r) j = ⊥) ∨ ∃ x : ℝ, T j = x ∧ msc q k (i 1).val (col g r) j = ((x / Real.log 2 : ℝ) : EReal) := by
    intro j
    by_cases hj : j ≤ 2048 * (i 1).val + (col g r).val
    · right
      obtain ⟨x, e1, e2⟩ := (hT j).1 hj
      exact ⟨x, e1, by rw [msc, if_pos hj, e2]⟩
    · left
      exact ⟨(hT j).2 hj, by rw [msc, if_neg hj]⟩
  have h2 : ∀ j, n ≤ j → msc q k (i 1).val (col g r) j = ⊥ := by
    intro j hj
    have : (col g r).val = 512 * g.val + r.val := rfl
    rw [msc, if_neg (by omega)]
  have h3 : ∃ j < n, msc q k (i 1).val (col g r) j ≠ ⊥ := by
    refine ⟨0, by omega, ?_⟩
    obtain ⟨x, _, e2⟩ := (hT 0).1 (Nat.zero_le _)
    rw [msc, if_pos (Nat.zero_le _), e2]
    exact EReal.coe_ne_bot _
  have fin := quotient (msc q k (i 1).val (col g r)) T (val v d) n 16384 hle h1 h2 h3 M _ _ _ ha hl
  exact fin

end Cert.KernelIdeal.Mla

end
-- ==== Proof.Mla.Host.lean ====
/-
  The operands as the host lays them out for the launch, and their entries: a head's 256 query lanes are its 128 plain lanes and 64
  rotary lanes over the scale and 64 zeros; its key lanes are the plain lanes, the shared rotary lanes and zeros; its value
  lanes are the values'.
-/
module

public import proofs.«01_k».proof.Proof.Mla.Launch
public import Idealize.ShloMosaic.Lib.Claim
public import Idealize.ShloMosaic.Lib.Pointwise

@[expose] public section

set_option maxRecDepth 16384

noncomputable section

namespace Cert.KernelIdeal.Mla

open Cert.KernelIdeal Cert.KernelIdeal.Gen
open Idealize.ShloMosaic Idealize.ShloMosaic.TcCoe Idealize.SL.Sem

/-- The scores' scale, with the factor that turns exponentials into powers of two. -/
def scale : EReal := Ideal.sqrt (Ideal.ofBits .f32 0x43400000#32) * Ideal.log (Ideal.ofBits .f32 0x40000000#32)

/-- The queries, lanes by positions. -/
def hostQ (qn : FVec Ideal S1x16384x8x128 .f32) (qp : FVec Ideal S1x16384x8x64 .f32) : FVec Ideal S2048x16384 .bf16 :=
  truncf .bf16 (transpose S2048x16384 [1, 0] (shapeCast S16384x2048
    (pad S16384x8x256 ![0, 0, 0] ![0, 0, 64] ![0, 0, 0]
      (Host.divf (concatenate S16384x8x192 2 [⟨S16384x8x128, shapeCast S16384x8x128 qn shapeCasts_S1x16384x8x128_S16384x8x128⟩,
          ⟨S16384x8x64, shapeCast S16384x8x64 qp shapeCasts_S1x16384x8x64_S16384x8x64⟩] concatenates_S16384x8x128_S16384x8x64_S16384x8x192_d2)
        (broadcastInDim S16384x8x192 ![] bcast_S_S16384x8x192
          (mulf (Host.sqrt (constant S_ .f32 0x43400000#32)) (Host.log (constant S_ .f32 0x40000000#32)))))
      (sitofp .f32 (constantI S_ 32 0#32)) pads_S16384x8x192_S16384x8x256_000_000_0640 h_S_)
    shapeCasts_S16384x8x256_S16384x2048) transposes_S16384x2048_S2048x16384_1_0) bitsLt_bf16_f32

/-- The keys, positions by lanes. -/
def hostK (kn : FVec Ideal S1x16384x8x128 .f32) (kp : FVec Ideal S1x16384x64 .f32) : FVec Ideal S16384x2048 .bf16 :=
  truncf .bf16 (shapeCast S16384x2048 (concatenate S16384x8x256 2
    [⟨S16384x8x128, shapeCast S16384x8x128 kn shapeCasts_S1x16384x8x128_S16384x8x128⟩,
      ⟨S16384x8x128, broadcastInDim S16384x8x128 ![0, 1, 2] bcast_S16384x1x128_S16384x8x128_0_1_2
        (broadcastInDim S16384x1x128 ![0, 2] bcast_S16384x128_S16384x1x128_0_2
          (pad S16384x128 ![0, 0] ![0, 64] ![0, 0] (shapeCast S16384x64 kp shapeCasts_S1x16384x64_S16384x64)
            (sitofp .f32 (constantI S_ 32 0#32)) pads_S16384x64_S16384x128_000_0640 h_S_))⟩]
    concatenates_S16384x8x128_S16384x8x128_S16384x8x256_d2) shapeCasts_S16384x8x256_S16384x2048) bitsLt_bf16_f32

/-- The values, lanes by positions. -/
def hostV (v : FVec Ideal S1x16384x8x128 .f32) : FVec Ideal S1024x16384 .bf16 :=
  truncf .bf16 (transpose S1024x16384 [1, 0] (shapeCast S16384x1024 (shapeCast S16384x8x128 v shapeCasts_S1x16384x8x128_S16384x8x128)
    shapeCasts_S16384x8x128_S16384x1024) transposes_S16384x1024_S1024x16384_1_0) bitsLt_bf16_f32

section

variable (m : (ℓ : Loc nD τ sig) → Buf (Elt Ideal) ℓ)

theorem entry_q (c : Dev nD) : V m c main_v11 = hostQ (m ((c : Thread nD τ).loc main_arg0)) (m ((c : Thread nD τ).loc main_arg1)) := by
  simp only [V, hostOps0, hostOps0_1, hostOps0_2, hostOps0_3, hostOps0_4, List.flatten_cons, List.flatten_nil, List.append_nil, List.cons_append, List.nil_append]
  entry_read
  rfl

theorem entry_k (c : Dev nD) : V m c main_v19 = hostK (m ((c : Thread nD τ).loc main_arg2)) (m ((c : Thread nD τ).loc main_arg3)) := by
  simp only [V, hostOps0, hostOps0_1, hostOps0_2, hostOps0_3, hostOps0_4, List.flatten_cons, List.flatten_nil, List.append_nil, List.cons_append, List.nil_append]
  entry_read
  rfl

theorem entry_v (c : Dev nD) : V m c main_v23 = hostV (m ((c : Thread nD τ).loc main_arg4)) := by
  simp only [V, hostOps0, hostOps0_1, hostOps0_2, hostOps0_3, hostOps0_4, List.flatten_cons, List.flatten_nil, List.append_nil, List.cons_append, List.nil_append]
  entry_read
  rfl

end

/-- The integer zero made a float is zero. -/
theorem sitofp_zero : FloatOps.sitofp (F := Ideal) .f32 0#32 = (0 : EReal) := by
  show (((0#32).toInt : ℝ) : EReal) = 0
  simp

section

variable (qn : FVec Ideal S1x16384x8x128 .f32) (qp : FVec Ideal S1x16384x8x64 .f32) (kn : FVec Ideal S1x16384x8x128 .f32)
  (kp : FVec Ideal S1x16384x64 .f32) (v : FVec Ideal S1x16384x8x128 .f32) (s : Fin 16384) (h : Fin 8)

theorem hostQ_nope (d : Fin 128) : hostQ qn qp (ix2 ⟨256 * h.val + d.val, by omega⟩ s) = Ideal.div (qn (ix4 0 s h d)) scale := by
  pointwise [hostQ, scale]
  rw [dif_pos (by omega), dif_pos (by omega)]
  exact congrArg (fun x => Ideal.div (qn (ix4 0 s h x)) _) (Fin.ext (show (256 * h.val + d.val) % 256 = d.val by omega))

theorem hostQ_pe (d : Fin 64) : hostQ qn qp (ix2 ⟨256 * h.val + (128 + d.val), by omega⟩ s) = Ideal.div (qp (ix4 0 s h d)) scale := by
  pointwise [hostQ, scale]
  rw [dif_pos (by omega), dif_neg (by omega)]
  exact congrArg (fun x => Ideal.div (qp (ix4 0 s h x)) _) (Fin.ext (show (256 * h.val + (128 + d.val)) % 256 - 128 = d.val by omega))

theorem hostQ_pad (d : Fin 64) : hostQ qn qp (ix2 ⟨256 * h.val + (192 + d.val), by omega⟩ s) = (0 : EReal) := by
  pointwise [hostQ, scale]
  rw [dif_neg (by omega)]
  exact sitofp_zero

theorem hostK_nope (d : Fin 128) : hostK kn kp (ix2 s ⟨256 * h.val + d.val, by omega⟩) = kn (ix4 0 s h d) := by
  pointwise [hostK]
  rw [dif_pos (by omega)]
  exact congrArg (fun x => kn (ix4 0 s h x)) (Fin.ext (show (256 * h.val + d.val) % 256 = d.val by omega))

theorem hostK_pe (d : Fin 64) : hostK kn kp (ix2 s ⟨256 * h.val + (128 + d.val), by omega⟩) = kp (ix3 0 s d) := by
  pointwise [hostK]
  rw [dif_neg (by omega), dif_pos (by omega)]
  exact congrArg (fun x => kp (ix3 0 s x)) (Fin.ext (show (256 * h.val + (128 + d.val)) % 256 - 128 = d.val by omega))

theorem hostV_at (d : Fin 128) : hostV v (ix2 ⟨128 * h.val + d.val, by omega⟩ s) = v (ix4 0 s h d) := by
  pointwise [hostV]

end

end Cert.KernelIdeal.Mla

end
-- ==== Proof.Mla.Ref.lean ====
/-
  The reference at an index, over the extended reals: causal softmax attention of one query, one head and one lane.
-/
module

public import proofs.«01_k».proof.Defs
public import proofs.«01_k».proof.Proof.Gen.ReferenceIdeal
public import Idealize.ShloMosaic.Lib.Pointwise
public import Idealize.ShloMosaic.Lib.WordCmp

@[expose] public section

set_option maxRecDepth 16384

noncomputable section

namespace Cert.ReferenceIdeal.Mla

open Cert.ReferenceIdeal Cert.ReferenceIdeal.Gen Cert.ReferenceIdeal.Facts
open Idealize.ShloMosaic Idealize.ShloMosaic.TcCoe Idealize.SL.Sem

variable {F : FTy → Type} [FloatOps F]

/-- The scores over the square root of the width. -/
def scores (qn : FVec F S1x16384x8x128 .f32) (qp : FVec F S1x16384x8x64 .f32) (kn : FVec F S1x16384x8x128 .f32) (kp : FVec F S1x16384x64 .f32) :
    FVec F S1x8x16384x16384 .f32 :=
  Host.divf (addf (Host.dotGeneral dot_S1x16384x8x128_S1x16384x8x128_S1x8x16384x16384_3_3_1_1_02_02 none qn kn)
      (transpose S1x8x16384x16384 [0, 3, 2, 1] (Host.dotGeneral dot_S1x16384x64_S1x16384x8x64_S1x16384x16384x8_2_3_1_12_0_0 none kp qp) transposes_S1x16384x16384x8_S1x8x16384x16384_0_3_2_1))
    (broadcastInDim S1x8x16384x16384 ![] bcast_S_S1x8x16384x16384 (Host.sqrt (constant S_ .f32 0x43400000#32)))

/-- The causal mask. -/
def causal : IVec S16384x16384 1 :=
  cmpi .sle (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0)))

/-- The masked scores. -/
def masked (s : FVec F S1x8x16384x16384 .f32) : FVec F S1x8x16384x16384 .f32 :=
  select (broadcastInDim S1x8x16384x16384 ![2, 3] bcast_S16384x16384_S1x8x16384x16384_2_3 causal) s
    (broadcastInDim S1x8x16384x16384 ![] bcast_S_S1x8x16384x16384 (id (constant S_ .f32 0xFF800000#32)))

/-- A row's largest masked score. -/
def top (t : FVec F S1x8x16384x16384 .f32) : FVec F S1x8x16384 .f32 :=
  maximumf (broadcastInDim S1x8x16384 ![] bcast_S_S1x8x16384 (constant S_ .f32 0xFF800000#32))
    (Host.reduce FloatOps.maximumf t (constant S_ .f32 0xFF800000#32) reducesTo_S1x8x16384x16384_S1x8x16384_d3 h_S_)

/-- The exponentials of the masked scores less their row's largest. -/
def expo (t : FVec F S1x8x16384x16384 .f32) : FVec F S1x8x16384x16384 .f32 :=
  Host.exp (subf t (broadcastInDim S1x8x16384x16384 ![0, 1, 2, 3] bcast_S1x8x16384x1_S1x8x16384x16384_0_1_2_3
    (broadcastInDim S1x8x16384x1 ![0, 1, 2] bcast_S1x8x16384_S1x8x16384x1_0_1_2 (top t))))

/-- The exponentials over their row's sum. -/
def prob (e : FVec F S1x8x16384x16384 .f32) : FVec F S1x8x16384x16384 .f32 :=
  Host.divf e (broadcastInDim S1x8x16384x16384 ![0, 1, 2, 3] bcast_S1x8x16384x1_S1x8x16384x16384_0_1_2_3
    (broadcastInDim S1x8x16384x1 ![0, 1, 2] bcast_S1x8x16384_S1x8x16384x1_0_1_2
      (Host.reduceAdd e (constant S_ .f32 0x00000000#32) reducesTo_S1x8x16384x16384_S1x8x16384_d3 h_S_)))

/-- The reference's result. -/
def ref (qn : FVec F S1x16384x8x128 .f32) (qp : FVec F S1x16384x8x64 .f32) (kn : FVec F S1x16384x8x128 .f32) (kp : FVec F S1x16384x64 .f32)
    (v : FVec F S1x16384x8x128 .f32) : FVec F S16384x1024 .bf16 :=
  truncf .bf16 (shapeCast S16384x1024 (transpose S1x16384x8x128 [0, 3, 1, 2]
    (Host.dotGeneral dot_S1x16384x8x128_S1x8x16384x16384_S1x8x128x16384_1_3_3_2_02_01 none v (prob (expo (masked (scores qn qp kn kp)))))
    transposes_S1x8x128x16384_S1x16384x8x128_0_3_1_2) shapeCasts_S1x16384x8x128_S16384x1024) bitsLt_bf16_f32

section Ideal

variable (qn : FVec Ideal S1x16384x8x128 .f32) (qp : FVec Ideal S1x16384x8x64 .f32) (kn : FVec Ideal S1x16384x8x128 .f32)
  (kp : FVec Ideal S1x16384x64 .f32) (v : FVec Ideal S1x16384x8x128 .f32)

theorem scores_at (h : Fin 8) (r j : Fin 16384) : scores qn qp kn kp (ix4 0 h r j)
    = Ideal.div ((∑ d : Fin 128, (show EReal from qn (ix4 0 r h d)) * (show EReal from kn (ix4 0 j h d)))
      + ∑ d : Fin 64, (show EReal from kp (ix3 0 j d)) * (show EReal from qp (ix4 0 r h d))) (Ideal.sqrt (Ideal.ofBits .f32 0x43400000#32)) := by
  pointwise [scores]

/-- The pattern of minus infinity denotes it. -/
theorem bits_bot : Ideal.ofBits .f32 0xFF800000#32 = (⊥ : EReal) := by
  simp [Ideal.ofBits, Ideal.ieee]

theorem masked_at (s : FVec Ideal S1x8x16384x16384 .f32) (h : Fin 8) (r j : Fin 16384) :
    masked s (ix4 0 h r j) = if j.val ≤ r.val then (show EReal from s (ix4 0 h r j)) else ⊥ := by
  pointwise [masked, causal]
  simp (disch := word_cmp_side) only [hlo_ix]
  rw [← bits_bot]
  rfl

/-- The host's maximum over the last of four axes, of any lengths. -/
theorem hostMax_at {n0 n1 n2 n3 : ℕ} (h : (⟨4, ![n0, n1, n2, n3]⟩ : Shape).ReducesTo [3] ⟨3, ![n0, n1, n2]⟩) {u : Shape} (hu : 0 < u.numel)
    (x : FVec Ideal (⟨4, ![n0, n1, n2, n3]⟩ : Shape) .f32) (init : FVec Ideal u .f32) (a : Fin n0) (b : Fin n1) (c : Fin n2) :
    Host.reduce FloatOps.maximumf x init h hu (ix3 a b c)
      = Finset.univ.fold max (show EReal from init (Shape.Idx.first hu)) fun k : Fin n3 => (show EReal from x (ix4 a b c k)) := by
  pointwise

/-- The larger of minus infinity and a row's entry. -/
theorem max_bot_at (y : FVec Ideal S1x8x16384 .f32) (h : Fin 8) (r : Fin 16384) :
    maximumf (broadcastInDim S1x8x16384 ![] bcast_S_S1x8x16384 (constant (F := Ideal) S_ .f32 0xFF800000#32)) y (ix3 0 h r)
      = max (⊥ : EReal) (show EReal from y (ix3 0 h r)) := by
  pointwise
  rw [bits_bot]

theorem const_bot (i : S_.Idx) : constant (F := Ideal) S_ .f32 0xFF800000#32 i = (⊥ : EReal) := bits_bot

theorem top_at (t : FVec Ideal S1x8x16384x16384 .f32) (h : Fin 8) (r : Fin 16384) :
    top t (ix3 0 h r) = max (⊥ : EReal) (Finset.univ.fold max (⊥ : EReal) fun j : Fin 16384 => (show EReal from t (ix4 0 h r j))) := by
  unfold top
  rw [max_bot_at, hostMax_at (n0 := 1) (n1 := 8) (n2 := 16384) (n3 := 16384) reducesTo_S1x8x16384x16384_S1x8x16384_d3 h_S_ t
    (constant (F := Ideal) S_ .f32 0xFF800000#32) 0 h r, const_bot]

theorem expo_at (t : FVec Ideal S1x8x16384x16384 .f32) (h : Fin 8) (r j : Fin 16384) :
    expo t (ix4 0 h r j) = Ideal.exp ((show EReal from t (ix4 0 h r j)) - (show EReal from top t (ix3 0 h r))) := by
  pointwise [expo]

theorem prob_at (e : FVec Ideal S1x8x16384x16384 .f32) (h : Fin 8) (r j : Fin 16384) :
    prob e (ix4 0 h r j) = Ideal.div (show EReal from e (ix4 0 h r j)) (∑ j' : Fin 16384, (show EReal from e (ix4 0 h r j'))) := by
  pointwise [prob]

theorem ref_at (r : Fin 16384) (c : Fin 1024) : ref qn qp kn kp v (ix2 r c)
    = ∑ j : Fin 16384, (show EReal from v (ix4 0 j ⟨c.val / 128, by omega⟩ ⟨c.val % 128, by omega⟩))
      * (show EReal from prob (expo (masked (scores qn qp kn kp))) (ix4 0 ⟨c.val / 128, by omega⟩ r j)) := by
  pointwise [ref]

end Ideal

end Cert.ReferenceIdeal.Mla

end
-- ==== Proof.Mla.Value.lean ====
/-
  The kernel's result is the reference's. For real queries and keys a block's scores are the reference's over `log 2`, so the
  block at a row and a lane is the reference's softmax-weighted sum there; the blocks tile the result.
-/
module

public import proofs.«01_k».proof.Proof.Mla.Out
public import proofs.«01_k».proof.Proof.Mla.Host
public import proofs.«01_k».proof.Proof.Mla.Ref
public import Idealize.ShloMosaic.Lib.Pipeline.ValueKit

@[expose] public section

set_option maxRecDepth 16384

noncomputable section

namespace Cert.KernelIdeal.Mla

open Cert.KernelIdeal Cert.KernelIdeal.Gen
open Idealize.ShloMosaic Idealize.ShloMosaic.TcCoe Idealize.SL.Sem
open Cert.ReferenceIdeal.Mla (scores masked top expo prob ref)

/-- A head's 256 lanes: the plain ones, the rotary ones and the padding. -/
theorem sum_lanes (f : Fin 256 → EReal) : ∑ d : Fin 256, f d
    = (∑ d : Fin 128, f ⟨d.val, by omega⟩) + ((∑ d : Fin 64, f ⟨128 + d.val, by omega⟩) + ∑ d : Fin 64, f ⟨192 + d.val, by omega⟩) := by
  have e1 := Fin.sum_univ_add (a := 128) (b := 128) f
  have e2 := Fin.sum_univ_add (a := 64) (b := 64) fun d : Fin 128 => f (Fin.natAdd 128 d)
  refine e1.trans (congrArg₂ (· + ·) rfl (e2.trans (congrArg₂ (· + ·) rfl ?_)))
  exact Finset.sum_congr rfl fun d _ => congrArg f (Fin.ext (show 128 + (64 + d.val) = 192 + d.val by omega))

/-- The scale is a real, `σ log 2` for the reference's `σ`. -/
theorem scale_real : ∃ σ : ℝ, σ ≠ 0 ∧ Ideal.sqrt (Ideal.ofBits .f32 0x43400000#32) = (σ : EReal) ∧ scale = ((σ * Real.log 2 : ℝ) : EReal) := by
  have e1 : Ideal.ofBits .f32 0x43400000#32 = ((192 : ℝ) : EReal) := by
    simp [Ideal.ofBits, Ideal.ieee]
    rw [← EReal.coe_mul]
    norm_num
  have e2 : Ideal.ofBits .f32 0x40000000#32 = ((2 : ℝ) : EReal) := by
    simp [Ideal.ofBits, Ideal.ieee]
    rw [← EReal.coe_mul]
    norm_num
  have e3 : Ideal.log ((2 : ℝ) : EReal) = ((Real.log 2 : ℝ) : EReal) := by
    show (if (2 : ℝ) ≤ 0 then (⊥ : EReal) else _) = _
    rw [if_neg (by norm_num)]
  have e4 : Ideal.sqrt ((192 : ℝ) : EReal) = ((Real.sqrt 192 : ℝ) : EReal) := by
    show (if (192 : ℝ) < 0 then (⊥ : EReal) else _) = _
    rw [if_neg (by norm_num)]
  refine ⟨Real.sqrt 192, (Real.sqrt_pos.mpr (by norm_num)).ne', by rw [e1, e4], ?_⟩
  rw [scale, e1, e2, e3, e4]
  exact (EReal.coe_mul _ _).symm

section

variable (qn : FVec Ideal S1x16384x8x128 .f32) (qp : FVec Ideal S1x16384x8x64 .f32) (kn : FVec Ideal S1x16384x8x128 .f32)
  (kp : FVec Ideal S1x16384x64 .f32) (vv : FVec Ideal S1x16384x8x128 .f32)
  (q : Vec Ideal S256x2048 .bf16) (k : Vec Ideal S16384x256 .bf16) (v : Vec Ideal S128x16384 .bf16)

/-- A block's score and the reference's. -/
theorem score_ref (hqn : ∀ i, ∃ r : ℝ, qn i = (r : EReal)) (hqp : ∀ i, ∃ r : ℝ, qp i = (r : EReal))
    (hkn : ∀ i, ∃ r : ℝ, kn i = (r : EReal)) (hkp : ∀ i, ∃ r : ℝ, kp i = (r : EReal)) (h : Fin 8) (s j : Fin 16384) (r : Fin 2048)
    (hq : ∀ d : Fin 256, q (ix2 d r) = hostQ qn qp (ix2 ⟨256 * h.val + d.val, by omega⟩ s))
    (hk : ∀ d : Fin 256, k (ix2 j d) = hostK kn kp (ix2 j ⟨256 * h.val + d.val, by omega⟩)) :
    ∃ x : ℝ, scores qn qp kn kp (ix4 0 h s j) = (x : EReal) ∧ sc q k j.val r = ((x / Real.log 2 : ℝ) : EReal) := by
  choose fqn hqn using hqn
  choose fqp hqp using hqp
  choose fkn hkn using hkn
  choose fkp hkp using hkp
  obtain ⟨σ, hσ, e1, e2⟩ := scale_real
  have hl : Real.log 2 ≠ 0 := (Real.log_pos (by norm_num)).ne'
  refine ⟨((∑ d : Fin 128, fqn (ix4 0 s h d) * fkn (ix4 0 j h d)) + ∑ d : Fin 64, fkp (ix3 0 j d) * fqp (ix4 0 s h d)) * (1 / σ), ?_, ?_⟩
  · rw [Cert.ReferenceIdeal.Mla.scores_at, e1, Ideal.div_coe hσ]
    rw [EReal.coe_mul, EReal.coe_add, Online.coe_sum, Online.coe_sum]
    refine congrArg (· * _) (congrArg₂ (· + ·) (Finset.sum_congr rfl fun d _ => ?_) (Finset.sum_congr rfl fun d _ => ?_))
    · rw [hqn, hkn]; exact (EReal.coe_mul _ _).symm
    · rw [hqp, hkp]; exact (EReal.coe_mul _ _).symm
  · rw [sc, dif_pos j.isLt, sum_lanes]
    have z : (∑ d : Fin 64, (show EReal from k (ix2 ⟨j.val, j.isLt⟩ ⟨192 + d.val, by omega⟩)) * (show EReal from q (ix2 ⟨192 + d.val, by omega⟩ r))) = 0 := by
      refine Finset.sum_eq_zero fun d _ => ?_
      rw [hq, hostQ_pad]
      exact mul_zero _
    have a : (∑ d : Fin 128, (show EReal from k (ix2 ⟨j.val, j.isLt⟩ ⟨d.val, by omega⟩)) * (show EReal from q (ix2 ⟨d.val, by omega⟩ r)))
        = ((∑ d : Fin 128, fkn (ix4 0 j h d) * (fqn (ix4 0 s h d) * (1 / (σ * Real.log 2))) : ℝ) : EReal) := by
      rw [Online.coe_sum]
      refine Finset.sum_congr rfl fun d _ => ?_
      rw [hq, hk, hostQ_nope, hostK_nope, e2, Ideal.div_coe (mul_ne_zero hσ hl), hqn, hkn, EReal.coe_mul, EReal.coe_mul]
    have b : (∑ d : Fin 64, (show EReal from k (ix2 ⟨j.val, j.isLt⟩ ⟨128 + d.val, by omega⟩)) * (show EReal from q (ix2 ⟨128 + d.val, by omega⟩ r)))
        = ((∑ d : Fin 64, fkp (ix3 0 j d) * (fqp (ix4 0 s h d) * (1 / (σ * Real.log 2))) : ℝ) : EReal) := by
      rw [Online.coe_sum]
      refine Finset.sum_congr rfl fun d _ => ?_
      rw [hq, hk, hostQ_pe, hostK_pe, e2, Ideal.div_coe (mul_ne_zero hσ hl), hqp, hkp, EReal.coe_mul, EReal.coe_mul]
    rw [z, a, b, add_zero, ← EReal.coe_add]
    refine congrArg _ ?_
    rw [add_mul, add_div, Finset.sum_mul, Finset.sum_mul, Finset.sum_div, Finset.sum_div]
    refine congrArg₂ (· + ·) (Finset.sum_congr rfl fun d _ => ?_) (Finset.sum_congr rfl fun d _ => ?_) <;> field_simp

/-- The block at row `r` and lane `d` of head `h` is the reference's result at that row of the tile and that lane of the head. -/
theorem block_ref (hqn : ∀ i, ∃ r : ℝ, qn i = (r : EReal)) (hqp : ∀ i, ∃ r : ℝ, qp i = (r : EReal))
    (hkn : ∀ i, ∃ r : ℝ, kn i = (r : EReal)) (hkp : ∀ i, ∃ r : ℝ, kp i = (r : EReal)) (i : grid0.Coords) (h : Fin 8)
    (hq : ∀ (d : Fin 256) (r : Fin 2048), q (ix2 d r)
      = hostQ qn qp (ix2 ⟨256 * h.val + d.val, by omega⟩ ⟨2048 * (i 1).val + r.val, by have : (i 1).val < 8 := (i 1).isLt; omega⟩))
    (hk : ∀ (j : Fin 16384) (d : Fin 256), k (ix2 j d) = hostK kn kp (ix2 j ⟨256 * h.val + d.val, by omega⟩))
    (hv : ∀ (d : Fin 128) (j : Fin 16384), v (ix2 d j) = hostV vv (ix2 ⟨128 * h.val + d.val, by omega⟩ j))
    (g : Fin 4) (r : Fin 512) (d : Fin 128) (s : Fin 16384) (hs : s.val = 2048 * (i 1).val + (col g r).val) (c : Fin 1024)
    (hc : c.val = 128 * h.val + d.val) :
    outVal i q k v (ix2 (col g r) d) = ref qn qp kn kp vv (ix2 s c) := by
  have hi : (i 1).val < 8 := (i 1).isLt
  have sr : ∀ (s j : Fin 16384) (r : Fin 2048), s.val = 2048 * (i 1).val + r.val → ∃ x : ℝ, scores qn qp kn kp (ix4 0 h s j) = (x : EReal)
      ∧ sc q k j.val r = ((x / Real.log 2 : ℝ) : EReal) := fun s j r e =>
    score_ref qn qp kn kp q k hqn hqp hkn hkp h s j r (fun d => by
      rw [hq]; exact congrArg (fun z => hostQ qn qp (ix2 _ z)) (Fin.ext e.symm)) fun d => hk j d
  have hm : ∀ j : Fin 16384, masked (scores qn qp kn kp) (ix4 0 h s j) = if j.val ≤ s.val then (show EReal from scores qn qp kn kp (ix4 0 h s j)) else ⊥ :=
    fun j => Cert.ReferenceIdeal.Mla.masked_at _ h s j
  -- the row's largest score is a real
  obtain ⟨M, hM⟩ : ∃ M : ℝ, (show EReal from top (masked (scores qn qp kn kp)) (ix3 0 h s)) = (M : EReal) := by
    have e := Cert.ReferenceIdeal.Mla.top_at (masked (scores qn qp kn kp)) h s
    have nt : (Finset.univ.fold max (⊥ : EReal) fun j : Fin 16384 => (show EReal from masked (scores qn qp kn kp) (ix4 0 h s j))) ≠ ⊤ := by
      refine Online.fold_max_ne_top _ _ bot_ne_top _ fun j => ?_
      rw [hm]
      split
      · obtain ⟨x, ex, _⟩ := sr s j (col g r) hs
        rw [ex]; exact EReal.coe_ne_top x
      · exact bot_ne_top
    have nb : (Finset.univ.fold max (⊥ : EReal) fun j : Fin 16384 => (show EReal from masked (scores qn qp kn kp) (ix4 0 h s j))) ≠ ⊥ := by
      intro hb
      have le := Online.le_fold_max Finset.univ (⊥ : EReal) (fun j : Fin 16384 => (show EReal from masked (scores qn qp kn kp) (ix4 0 h s j))) s (Finset.mem_univ s)
      rw [hb] at le
      obtain ⟨x, ex, _⟩ := sr s s (col g r) hs
      have hms := hm s
      rw [if_pos le_rfl, ex] at hms
      exact EReal.coe_ne_bot x (hms.symm.trans (le_bot_iff.mp le))
    exact ⟨EReal.toReal _, (e.trans (max_eq_right bot_le)).trans (EReal.coe_toReal nt nb).symm⟩
  have hcd : (⟨c.val / 128, by omega⟩ : Fin 8) = h := Fin.ext (by show c.val / 128 = h.val; omega)
  have hcm : (⟨c.val % 128, by omega⟩ : Fin 128) = d := Fin.ext (by show c.val % 128 = d.val; omega)
  rw [Cert.ReferenceIdeal.Mla.ref_at, hcd, hcm]
  have key := outVal_at q k v i g r d
    (fun j => if hj : j < 16384 then (show EReal from masked (scores qn qp kn kp) (ix4 0 h s ⟨j, hj⟩)) else ⊥) M
    (fun j r' => by
      obtain ⟨x, _, e⟩ := sr ⟨2048 * (i 1).val + r'.val, by omega⟩ j r' rfl
      exact ⟨_, e⟩)
    (fun j => ⟨fun hj => by
        have hj' : j < 16384 := by have := (col g r).isLt; omega
        obtain ⟨x, e, e'⟩ := sr s ⟨j, hj'⟩ (col g r) hs
        refine ⟨x, ?_, e'⟩
        rw [dif_pos hj', hm, if_pos (show j ≤ s.val by omega)]
        exact e,
      fun hj => by
        by_cases hj' : j < 16384
        · rw [dif_pos hj', hm, if_neg (show ¬ j ≤ s.val by omega)]
        · rw [dif_neg hj']⟩)
  rw [key, Finset.sum_range, Finset.sum_range]
  refine Finset.sum_congr rfl fun j _ => ?_
  refine congrArg₂ (fun x y : EReal => x * y) ?_ ?_
  · rw [val, dif_pos j.isLt]
    exact (hv d j).trans (hostV_at vv j h d)
  · rw [Cert.ReferenceIdeal.Mla.prob_at]
    refine congrArg₂ Ideal.div ?_ (Finset.sum_congr rfl fun j' _ => ?_)
    · rw [Cert.ReferenceIdeal.Mla.expo_at, hM, dif_pos j.isLt]
    · rw [Cert.ReferenceIdeal.Mla.expo_at, hM, dif_pos j'.isLt]

end

section

variable (m : (ℓ : Loc nD τ sig) → Buf (Elt Ideal) ℓ)

/-- The blocks' places. -/
theorem idx : ∀ t : Fin cfg0.N, win0_0.index t = ![(grid0.coords t 0).val, (grid0.coords t 1).val]
    ∧ win0_1.index t = ![0, (grid0.coords t 0).val] ∧ win0_2.index t = ![(grid0.coords t 0).val, 0]
    ∧ win0_3.index t = ![(grid0.coords t 1).val, (grid0.coords t 0).val] :=
  (by decide +kernel : ∀ t : Fin grid0.N, _)

/-- A tile of the queries. -/
theorem iblk_q (c : Dev nD) (t : Fin cfg0.N) (d : Fin 256) (r : Fin 2048) : iblk m c 0 t (ix2 d r)
    = hostQ (m ((c : Thread nD τ).loc main_arg0)) (m ((c : Thread nD τ).loc main_arg1))
      (ix2 ⟨256 * (grid0.coords t 0).val + d.val, by have : (grid0.coords t 0).val < 8 := (grid0.coords t 0).isLt; omega⟩
        ⟨2048 * (grid0.coords t 1).val + r.val, by have : (grid0.coords t 1).val < 8 := (grid0.coords t 1).isLt; omega⟩) := by
  rw [← entry_q]
  blk_ext [iblk, idx t]

/-- A head's keys. -/
theorem iblk_k (c : Dev nD) (t : Fin cfg0.N) (j : Fin 16384) (d : Fin 256) : iblk m c 1 t (ix2 j d)
    = hostK (m ((c : Thread nD τ).loc main_arg2)) (m ((c : Thread nD τ).loc main_arg3))
      (ix2 j ⟨256 * (grid0.coords t 0).val + d.val, by have : (grid0.coords t 0).val < 8 := (grid0.coords t 0).isLt; omega⟩) := by
  rw [← entry_k]
  blk_ext [iblk, idx t]

/-- A head's values. -/
theorem iblk_v (c : Dev nD) (t : Fin cfg0.N) (d : Fin 128) (j : Fin 16384) : iblk m c 2 t (ix2 d j)
    = hostV (m ((c : Thread nD τ).loc main_arg4))
      (ix2 ⟨128 * (grid0.coords t 0).val + d.val, by have : (grid0.coords t 0).val < 8 := (grid0.coords t 0).isLt; omega⟩ j) := by
  rw [← entry_v]
  blk_ext [iblk, idx t]

/-- A row of a tile is a row of one of its four groups. -/
theorem col_of (x : Fin 2048) : x = col ⟨x.val / 512, by omega⟩ ⟨x.val % 512, by omega⟩ :=
  Fin.ext (show x.val = 512 * (x.val / 512) + x.val % 512 by omega)

/-- The result after the run. -/
theorem final (c : Dev nD) (hqn : ∀ i, ∃ r : ℝ, m ((c : Thread nD τ).loc main_arg0) i = (r : EReal))
    (hqp : ∀ i, ∃ r : ℝ, m ((c : Thread nD τ).loc main_arg1) i = (r : EReal))
    (hkn : ∀ i, ∃ r : ℝ, m ((c : Thread nD τ).loc main_arg2) i = (r : EReal))
    (hkp : ∀ i, ∃ r : ℝ, m ((c : Thread nD τ).loc main_arg3) i = (r : EReal)) :
    (dats m 0 c).arrAt 3 (cfgs 0).N = ref (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 3 _ (by decide +kernel) fun t _ y => ?_
  blk_simp
  rw [after0_3]
  have h0 : (y 0).val < 2048 := (y 0).isLt
  have h1 : (y 1).val < 128 := (y 1).isLt
  have c0 : (grid0.coords t 0).val < 8 := (grid0.coords t 0).isLt
  have c1 : (grid0.coords t 1).val < 8 := (grid0.coords t 1).isLt
  have ee : (win0_3.blk t).view.emb y = (ix2 ⟨2048 * (grid0.coords t 1).val + (y 0).val, by omega⟩
      ⟨128 * (grid0.coords t 0).val + (y 1).val, by omega⟩ : S16384x1024.Idx) := by blk_ext [idx t]
  have ey : y = (ix2 (col ⟨(y 0).val / 512, by omega⟩ ⟨(y 0).val % 512, by omega⟩) ⟨(y 1).val, h1⟩ : S2048x128.Idx) := by
    funext a
    match a with
    | 0 => exact Fin.ext (show (y 0).val = 512 * ((y 0).val / 512) + (y 0).val % 512 by omega)
    | 1 => rfl
  unfold outsAt
  rw [ee]
  refine (congrArg (outVal (grid0.coords t) (iblk m c 0 t) (iblk m c 1 t) (iblk m c 2 t)) ey).trans ?_
  exact block_ref _ _ _ _ _ _ _ _ hqn hqp hkn hkp (grid0.coords t) ⟨(grid0.coords t 0).val, c0⟩ (iblk_q m c t) (iblk_k m c t) (iblk_v m c t)
    _ _ _ _ (show 2048 * (grid0.coords t 1).val + (y 0).val = 2048 * (grid0.coords t 1).val + (512 * ((y 0).val / 512) + (y 0).val % 512) by omega)
    _ rfl

end

end Cert.KernelIdeal.Mla

end
-- ==== Proof.Rest.OutProj.lean ====
/-
  The output projection: the block at row group `t` is the residual rows plus the latent attention's rows times the upper
  half of the weights plus the other attention's rows times the lower half, and the reference multiplies the two
  results side by side by the whole weights.
-/
module

public import proofs.«01_k».proof.Proof.Gen.Kernel4Ideal.Value
public import proofs.«01_k».proof.Proof.Gen.Reference4Ideal.Run
public import Idealize.ShloMosaic.Lib.Claim
public import Idealize.ShloMosaic.Lib.Pointwise
public import Idealize.ShloMosaic.Lib.Pipeline.ValueKit

@[expose] public section

set_option maxRecDepth 16384

noncomputable section

namespace Cert.Kernel4Ideal.OutProj

open Cert.Kernel4Ideal Cert.Kernel4Ideal.Gen
open Idealize.ShloMosaic Idealize.ShloMosaic.TcCoe Idealize.SL.Sem

/-- The reference's result over the arguments. -/
abbrev REF (h : FVec Ideal S1x16384x2048 .f32) (a b : FVec Ideal S1x16384x1024 .f32) (w : FVec Ideal S1x2048x2048 .f32) : FVec Ideal S16384x2048 .f32 :=
  shapeCast _ (addf h (Host.dotGeneral Cert.Reference4Ideal.dot_S1x16384x2048_S2048x2048_S1x16384x2048_2_0_01_1_n_n none
    (concatenate Cert.Reference4Ideal.S1x16384x2048 2 [⟨S1x16384x1024, a⟩, ⟨S1x16384x1024, b⟩] Cert.Reference4Ideal.Gen.concatenates_S1x16384x1024_S1x16384x1024_S1x16384x2048_d2)
    (shapeCast _ w Cert.Reference4Ideal.Gen.shapeCasts_S1x2048x2048_S2048x2048))) Cert.Reference4Ideal.Gen.shapeCasts_S1x16384x2048_S16384x2048

/-- The block each window takes at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ t.val < 32 :=
  (by decide +kernel : ∀ t : Fin grid0.N, _)

variable (m : (ℓ : Loc nD τ sig) → Buf (Elt Ideal) ℓ)

/-- What a point stores is the reference's result at the rows the point holds. -/
theorem point (c : Dev nD) (t : Fin cfg0.N) (y) : k0_pay1 (iblk m c 0 t) (iblk m c 1 t) (iblk m c 3 t) (iblk m c 2 t) (iblk m c 4 t) y
    = REF (m ((c : Thread nD τ).loc main_arg0)) (m ((c : Thread nD τ).loc main_arg1)) (m ((c : Thread nD τ).loc main_arg2)) (m ((c : Thread nD τ).loc main_arg3))
      (((cfg0.win 5).blk t).view.emb y) := by
  pointwise [k0_pay1, REF]
  refine Eq.trans ?_ (add_assoc _ _ _)
  blk_point [iblk, V, idx t]

/-- The array after the launch is the reference's result. -/
theorem final (c : Dev nD) : (dats m 0 c).arrAt 5 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point m c t y

end Cert.Kernel4Ideal.OutProj

end
-- ==== Proof.Rest.FfnStep.lean ====
/-
  One grid point of the feed-forward kernel: over the output block it finds (at a row group's first point, the
  residual rows it has just copied) it adds, 512 columns at a time, the activations of its 512 hidden lanes times their
  rows of the down projection.
-/
module

public import proofs.«01_k».proof.Proof.Gen.Kernel2Ideal.Value
public import Idealize.ShloMosaic.Lib.Claim
public import Idealize.ShloMosaic.Lib.Pointwise
public import Idealize.ShloMosaic.Lib.Pipeline.ValueKit

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem

section Chunks

variable (o : ℕ) (inb : ∀ a, (![0, o] : Fin 2 → ℕ) a + (![1024, 512] : Fin 2 → ℕ) a ≤ S1024x2048.size a)
  (w : S1024x512.Idx → Elt Ideal .f32) (L : List (View.Piece (Elt Ideal) S1024x2048 .f32)) (r : Fin 1024)

/-- A column of the last chunk written is that chunk's. -/
theorem canon_in (j : Fin 512) (hj : o + j.val < 2048) :
    View.canon ((⟨Rect.unit (s := S1024x2048) ![0, o] ![1024, 512] inb, w⟩ : View.Piece (Elt Ideal) S1024x2048 .f32) :: L) (ix2 r (⟨o + j.val, hj⟩ : Fin 2048))
      = w (ix2 r j) := by
  have e : (Rect.unit (s := S1024x2048) ![0, o] ![1024, 512] inb).emb (ix2 r j) = ix2 r (⟨o + j.val, hj⟩ : Fin 2048) := by
    funext a
    apply Fin.ext
    fin_cases a
    · show 0 + 1 * r.val = r.val; omega
    · show o + 1 * j.val = o + j.val; omega
  rw [← e]
  exact View.canon_cons_emb _ _ _ _

/-- Another column is what it was. -/
theorem canon_off (j : Fin 2048) (hj : j.val < o ∨ o + 512 ≤ j.val) :
    View.canon ((⟨Rect.unit (s := S1024x2048) ![0, o] ![1024, 512] inb, w⟩ : View.Piece (Elt Ideal) S1024x2048 .f32) :: L) (ix2 r j)
      = View.canon L (ix2 r j) := by
  refine View.canon_cons_of_not_mem _ _ fun h => ?_
  rw [Rect.mem_set_unit] at h
  have h1 : o ≤ j.val ∧ j.val < o + 512 := h 1
  omega

/-- A load of a chunk after the writes reads what they leave there. -/
theorem read_chunk {sig : RefSig} {κ : Kind} {sp : Space} (v : View sig κ sp S1024x2048 .f32) (j : Fin 512) (hj : o + j.val < 2048) :
    v.readCov (Val := Elt Ideal) L (Rect.unit (s := S1024x2048) ![0, o] ![1024, 512] inb).toLoadRect (ix2 r j) = View.canon L (ix2 r (⟨o + j.val, hj⟩ : Fin 2048)) := by
  rw [View.readCov_eq_canon']
  refine congrArg (View.canon L) ?_
  funext a
  apply Fin.ext
  fin_cases a
  · show 0 + 1 * r.val = r.val; omega
  · show o + 1 * j.val = o + j.val; omega

/-- A load of a chunk of given contents. -/
theorem ld_chunk (X : S1024x2048.Idx → Elt Ideal .f32) (j : Fin 512) (hj : o + j.val < 2048) :
    View.ld (Val := Elt Ideal) (e' := .f32) X (Rect.unit (s := S1024x2048) ![0, o] ![1024, 512] inb) (ix2 r j) = X (ix2 r (⟨o + j.val, hj⟩ : Fin 2048)) := by
  refine congrArg X ?_
  funext a
  apply Fin.ext
  fin_cases a
  · show 0 + 1 * r.val = r.val; omega
  · show o + 1 * j.val = o + j.val; omega

/-- A load of a chunk of the down projection's rows. -/
theorem ld_rows (inw : ∀ a, (![0, o] : Fin 2 → ℕ) a + (![512, 512] : Fin 2 → ℕ) a ≤ S512x2048.size a) (X : S512x2048.Idx → Elt Ideal .bf16)
    (k j : Fin 512) (hj : o + j.val < 2048) :
    View.ld (Val := Elt Ideal) (e' := .bf16) X (Rect.unit (s := S512x2048) ![0, o] ![512, 512] inw) (ix2 k j) = X (ix2 k (⟨o + j.val, hj⟩ : Fin 2048)) := by
  refine congrArg X ?_
  funext a
  apply Fin.ext
  fin_cases a
  · show 0 + 1 * k.val = k.val; omega
  · show o + 1 * j.val = o + j.val; omega

end Chunks

/-- A column is in one of four chunks. -/
theorem chunk_cases (J : Fin 2048) : (∃ j : Fin 512, J = ⟨0 + j.val, by omega⟩) ∨ (∃ j : Fin 512, J = ⟨512 + j.val, by omega⟩)
    ∨ (∃ j : Fin 512, J = ⟨1024 + j.val, by omega⟩) ∨ (∃ j : Fin 512, J = ⟨1536 + j.val, by omega⟩) := by
  have h : J.val < 512 ∨ (512 ≤ J.val ∧ J.val < 1024) ∨ (1024 ≤ J.val ∧ J.val < 1536) ∨ 1536 ≤ J.val := by omega
  rcases h with h | h | h | h
  · exact Or.inl ⟨⟨J.val, h⟩, Fin.ext (by simp)⟩
  · exact Or.inr (Or.inl ⟨⟨J.val - 512, by omega⟩, Fin.ext (by simp; omega)⟩)
  · exact Or.inr (Or.inr (Or.inl ⟨⟨J.val - 1024, by omega⟩, Fin.ext (by simp; omega)⟩))
  · exact Or.inr (Or.inr (Or.inr ⟨⟨J.val - 1536, by omega⟩, Fin.ext (by simp; omega)⟩))

section Payloads

variable (f : FVec Ideal S1024x2048 .bf16) (x2 x3 : FVec Ideal S2048x512 .bf16) (a : FVec Ideal S1024x512 .bf16) (v : FVec Ideal S1024x512 .f32)
  (w : FVec Ideal S512x512 .bf16) (r : Fin 1024) (j : Fin 512)

theorem pay6_at : k0_pay6 (F := Ideal) f x2 x3 v w (ix2 r j) = v (ix2 r j) + ∑ k : Fin 512, k0_pay5 (F := Ideal) f x2 x3 (ix2 r k) * w (ix2 k j) := by
  pointwise [k0_pay6]

theorem pay7_at : k0_pay7 (F := Ideal) f x2 x3 v w (ix2 r j) = v (ix2 r j) + ∑ k : Fin 512, k0_pay5 (F := Ideal) f x2 x3 (ix2 r k) * w (ix2 k j) := by
  pointwise [k0_pay7]

theorem pay1_at : k0_pay1 (F := Ideal) a v w (ix2 r j) = v (ix2 r j) + ∑ k : Fin 512, a (ix2 r k) * w (ix2 k j) := by
  pointwise [k0_pay1]

theorem pay2_at : k0_pay2 (F := Ideal) a v w (ix2 r j) = v (ix2 r j) + ∑ k : Fin 512, a (ix2 r k) * w (ix2 k j) := by
  pointwise [k0_pay2]

theorem pay3_eq (x : FVec Ideal S1024x2048 .f32) : k0_pay3 (F := Ideal) x = x := by
  funext y
  pointwise [k0_pay3]

end Payloads

section Point

variable (m : (ℓ : Loc nD τ sig) → Buf (Elt Ideal) ℓ) (c : Dev nD) (t : Fin cfg0.N)

/-- The blocks a point reads. -/
abbrev b0 : FVec Ideal S1024x2048 .f32 := iblk m c 0 t
abbrev b1 : FVec Ideal S1x2048 .f32 := iblk m c 1 t
abbrev b2 : FVec Ideal S2048x512 .bf16 := iblk m c 2 t
abbrev b3 : FVec Ideal S2048x512 .bf16 := iblk m c 3 t
abbrev b4 : FVec Ideal S512x2048 .bf16 := iblk m c 4 t
/-- The output block and the normalized rows a point leaves. -/
abbrev out : FVec Ideal S1024x2048 .f32 := (outsAt0 m c t.val t.isLt).1
abbrev rows : FVec Ideal S1024x2048 .bf16 := (outsAt0 m c t.val t.isLt).2

/-- A row group's first point normalizes its rows. -/
theorem rows_first (h : t.val % 11 = 0) : rows m c t = k0_pay4 (F := Ideal) (b0 m c t) (b1 m c t) := by
  show (outsAt0 m c t.val t.isLt).2 = _
  rw [outsAt0_A m c t h]
  frame_out

/-- A later point leaves them. -/
theorem rows_next (h : ¬ t.val % 11 = 0) : rows m c t = (outsAt0 m c (t.val - 1) (by omega)).2 := by
  show (outsAt0 m c t.val t.isLt).2 = _
  rw [outsAt0_B m c t h]
  dsimp only [sout0_B_0]

/-- A row group's first point leaves the residual rows with its part added. -/
theorem out_first (h : t.val % 11 = 0) (r : Fin 1024) (J : Fin 2048) : out m c t (ix2 r J) = b0 m c t (ix2 r J)
    + ∑ k : Fin 512, k0_pay5 (F := Ideal) (k0_pay4 (F := Ideal) (b0 m c t) (b1 m c t)) (b2 m c t) (b3 m c t) (ix2 r k) * b4 m c t (ix2 k J) := by
  show (outsAt0 m c t.val t.isLt).1 _ = _
  rw [outsAt0_A m c t h]
  frame_out
  rcases chunk_cases J with ⟨j, rfl⟩ | ⟨j, rfl⟩ | ⟨j, rfl⟩ | ⟨j, rfl⟩
  · rw [canon_off _ _ _ _ _ _ (by dsimp only; omega), canon_off _ _ _ _ _ _ (by dsimp only; omega), canon_off _ _ _ _ _ _ (by dsimp only; omega), canon_in _ _ _ _ _ _ (by omega), pay6_at]
    rw [read_chunk _ _ _ _ _ _ (by omega), View.canon_cons_unit_lit _ _ _ (by decide), pay3_eq]
    exact congrArg _ (Finset.sum_congr rfl fun k _ => congrArg _ (ld_rows _ _ _ k j (by omega)))
  · rw [canon_off _ _ _ _ _ _ (by dsimp only; omega), canon_off _ _ _ _ _ _ (by dsimp only; omega), canon_in _ _ _ _ _ _ (by omega), pay7_at]
    rw [read_chunk _ _ _ _ _ _ (by omega), canon_off _ _ _ _ _ _ (by dsimp only; omega), View.canon_cons_unit_lit _ _ _ (by decide), pay3_eq]
    exact congrArg _ (Finset.sum_congr rfl fun k _ => congrArg _ (ld_rows _ _ _ k j (by omega)))
  · rw [canon_off _ _ _ _ _ _ (by dsimp only; omega), canon_in _ _ _ _ _ _ (by omega), pay1_at]
    rw [read_chunk _ _ _ _ _ _ (by omega), canon_off _ _ _ _ _ _ (by dsimp only; omega), canon_off _ _ _ _ _ _ (by dsimp only; omega), View.canon_cons_unit_lit _ _ _ (by decide), pay3_eq]
    exact congrArg _ (Finset.sum_congr rfl fun k _ => congrArg _ (ld_rows _ _ _ k j (by omega)))
  · rw [canon_in _ _ _ _ _ _ (by omega), pay2_at]
    rw [read_chunk _ _ _ _ _ _ (by omega), canon_off _ _ _ _ _ _ (by dsimp only; omega), canon_off _ _ _ _ _ _ (by dsimp only; omega), canon_off _ _ _ _ _ _ (by dsimp only; omega), View.canon_cons_unit_lit _ _ _ (by decide), pay3_eq]
    exact congrArg _ (Finset.sum_congr rfl fun k _ => congrArg _ (ld_rows _ _ _ k j (by omega)))

/-- A later point adds its part to the block it finds. -/
theorem out_next (h : ¬ t.val % 11 = 0) (r : Fin 1024) (J : Fin 2048) : out m c t (ix2 r J) = (show EReal from (outsAt0 m c (t.val - 1) (by omega)).1 (ix2 r J))
    + ∑ k : Fin 512, k0_pay5 (F := Ideal) (outsAt0 m c (t.val - 1) (by omega)).2 (b2 m c t) (b3 m c t) (ix2 r k) * b4 m c t (ix2 k J) := by
  show (outsAt0 m c t.val t.isLt).1 _ = _
  rw [outsAt0_B m c t h]
  frame_out
  rw [show View.read (Elt Ideal) (View.whole cc0_scratch0) (Memref.IsWhole.unread (Val := Elt Ideal) (Memref.isWhole_whole cc0_scratch0) (outsAt0 m c (t.val - 1) (by omega)).2)
    = (outsAt0 m c (t.val - 1) (by omega)).2 from Memref.IsWhole.read_unread _ _]
  rcases chunk_cases J with ⟨j, rfl⟩ | ⟨j, rfl⟩ | ⟨j, rfl⟩ | ⟨j, rfl⟩
  · rw [canon_off _ _ _ _ _ _ (by dsimp only; omega), canon_off _ _ _ _ _ _ (by dsimp only; omega), canon_off _ _ _ _ _ _ (by dsimp only; omega), canon_in _ _ _ _ _ _ (by omega), pay6_at]
    rw [ld_chunk _ _ _ _ _ (by omega)]
    exact congrArg _ (Finset.sum_congr rfl fun k _ => congrArg _ (ld_rows _ _ _ k j (by omega)))
  · rw [canon_off _ _ _ _ _ _ (by dsimp only; omega), canon_off _ _ _ _ _ _ (by dsimp only; omega), canon_in _ _ _ _ _ _ (by omega), pay7_at]
    rw [ld_chunk _ _ _ _ _ (by omega)]
    exact congrArg _ (Finset.sum_congr rfl fun k _ => congrArg _ (ld_rows _ _ _ k j (by omega)))
  · rw [canon_off _ _ _ _ _ _ (by dsimp only; omega), canon_in _ _ _ _ _ _ (by omega), pay1_at]
    rw [ld_chunk _ _ _ _ _ (by omega)]
    exact congrArg _ (Finset.sum_congr rfl fun k _ => congrArg _ (ld_rows _ _ _ k j (by omega)))
  · rw [canon_in _ _ _ _ _ _ (by omega), pay2_at]
    rw [ld_chunk _ _ _ _ _ (by omega)]
    exact congrArg _ (Finset.sum_congr rfl fun k _ => congrArg _ (ld_rows _ _ _ k j (by omega)))

end Point

end Cert.Kernel2Ideal.Ffn

end
-- ==== Proof.Rest.Rows.lean ====
/-
  What one row of the residual stream comes to in the feed-forward part, and in the per-layer embedding and final norm,
  as functions of the row.
-/
module

public import Idealize.ShloMosaic.Lib.Claim
public import Idealize.ShloMosaic.Lib.Pointwise

@[expose] public section

noncomputable section

namespace Cert.Rows

open Idealize.ShloMosaic

/-- The reciprocal of a row's root mean square. -/
def inv (x : Fin 2048 → EReal) : EReal :=
  Ideal.rsqrt (Ideal.div (∑ k, x k * x k) (Ideal.ofBits .f32 1157627904#32) + Ideal.ofBits .f32 897988541#32)

/-- The row with its gated embedding added. -/
def mix (x g : Fin 2048 → EReal) (wg : Fin 2048 → Fin 2048 → EReal) (p : Fin 256 → EReal) (wp : Fin 256 → Fin 2048 → EReal) (j : Fin 2048) : EReal :=
  x j + Ideal.logistic (∑ k, x k * inv x * g k * wg k j) * ∑ k, p k * wp k j

/-- The row's final norm. -/
def out (x g : Fin 2048 → EReal) (wg : Fin 2048 → Fin 2048 → EReal) (p : Fin 256 → EReal) (wp : Fin 256 → Fin 2048 → EReal) (f : Fin 2048 → EReal)
    (j : Fin 2048) : EReal :=
  mix x g wg p wp j * inv (mix x g wg p wp) * f j

/-- A hidden lane's activation: of normalized lanes `f`, gate weights `a` and up weights `b`. -/
def act (f a b : Fin 2048 → EReal) : EReal :=
  (∑ k, f k * a k) * Ideal.logistic (∑ k, f k * a k) * ∑ k, f k * b k

/-- What hidden lane `l` adds to a column: its activation times its entry `d l` of the down projection. -/
def lane (x g : Fin 2048 → EReal) (wg wu : Fin 2048 → Fin 5632 → EReal) (d : Fin 5632 → EReal) (l : Fin 5632) : EReal :=
  act (fun k => x k * inv x * g k) (fun k => wg k l) (fun k => wu k l) * d l

end Cert.Rows

end
-- ==== Proof.Rest.FfnRef.lean ====
/-
  The reference of the feed-forward part, its result in parts: rows normalized, the hidden activations, and the residual
  stream with their projection added; each part read at a row and a lane.
-/
module

public import proofs.«01_k».proof.Proof.Gen.Reference2Ideal.Run
public import proofs.«01_k».proof.Proof.Rest.Rows
public import Idealize.ShloMosaic.Lib.Claim
public import Idealize.ShloMosaic.Lib.Pointwise

@[expose] public section

set_option maxRecDepth 16384

noncomputable section

namespace Cert.Reference2Ideal.Parts

open Cert.Reference2Ideal Cert.Reference2Ideal.Gen
open Idealize.ShloMosaic Idealize.ShloMosaic.TcCoe Idealize.SL.Sem Idealize.ShloMosaic.StableHlo

/-- Rows divided by their root mean square, times a weight per lane. -/
def normed (x : FVec Ideal S1x16384x2048 .f32) (g : FVec Ideal S2048 .f32) : FVec Ideal S1x16384x2048 .f32 :=
  mulf (mulf x (broadcastInDim S1x16384x2048 ![0, 1, 2] bcast_S1x16384x1_S1x16384x2048_0_1_2 (Host.rsqrt (addf
    (Host.divf (broadcastInDim S1x16384x1 ![0, 1] bcast_S1x16384_S1x16384x1_0_1
      (Host.reduceAdd (mulf x x) (constant S_ .f32 0x00000000#32) reducesTo_S1x16384x2048_S1x16384_d2 h_S_))
      (broadcastInDim S1x16384x1 ![] bcast_S_S1x16384x1 (constant S_ .f32 0x45000000#32)))
    (broadcastInDim S1x16384x1 ![] bcast_S_S1x16384x1 (constant S_ .f32 0x358637BD#32))))))
    (broadcastInDim S1x16384x2048 ![0, 1, 2] bcast_S1x1x2048_S1x16384x2048_0_1_2 (broadcastInDim S1x1x2048 ![2] bcast_S2048_S1x1x2048_2 g))

/-- Rows times one of the two hidden projections. -/
def proj (f : FVec Ideal S1x16384x2048 .f32) (w : FVec Ideal S1x2048x5632 .f32) : FVec Ideal S1x16384x5632 .f32 :=
  Host.dotGeneral dot_S1x16384x2048_S2048x5632_S1x16384x5632_2_0_01_1_n_n none f (shapeCast _ w shapeCasts_S1x2048x5632_S2048x5632)

/-- A gate's lanes times their logistic function. -/
def silu (x : FVec Ideal S1x16384x5632 .f32) : FVec Ideal S1x16384x5632 .f32 :=
  mulf x (Host.divf (broadcastInDim S1x16384x5632 ![] bcast_S_S1x16384x5632 (constant S_ .f32 0x3F800000#32))
    (addf (broadcastInDim S1x16384x5632 ![] bcast_S_S1x16384x5632 (constant S_ .f32 0x3F800000#32)) (Host.exp (Host.negf x))))

/-- The hidden activations. -/
def hidden (f : FVec Ideal S1x16384x2048 .f32) (wg wu : FVec Ideal S1x2048x5632 .f32) : FVec Ideal S1x16384x5632 .f32 :=
  mulf (silu (proj f wg)) (proj f wu)

/-- The reference's result. -/
def res (h : FVec Ideal S1x16384x2048 .f32) (g : FVec Ideal S1x2048 .f32) (wg wu : FVec Ideal S1x2048x5632 .f32) (wd : FVec Ideal S1x5632x2048 .f32) :
    FVec Ideal S16384x2048 .f32 :=
  shapeCast _ (addf h (Host.dotGeneral dot_S1x16384x5632_S5632x2048_S1x16384x2048_2_0_01_1_n_n none
    (hidden (normed h (shapeCast _ g shapeCasts_S1x2048_S2048)) wg wu) (shapeCast _ wd shapeCasts_S1x5632x2048_S5632x2048)))
    shapeCasts_S1x16384x2048_S16384x2048

theorem normed_at (x : FVec Ideal S1x16384x2048 .f32) (g : FVec Ideal S2048 .f32) (r : Fin 16384) (j : Fin 2048) :
    normed x g (ix3 0 r j) = x (ix3 0 r j) * Rows.inv (fun k => x (ix3 0 r k)) * g (ix1 j) := by
  pointwise [normed, Rows.inv]

theorem proj_at (f : FVec Ideal S1x16384x2048 .f32) (w : FVec Ideal S1x2048x5632 .f32) (r : Fin 16384) (l : Fin 5632) :
    proj f w (ix3 0 r l) = ∑ k : Fin 2048, f (ix3 0 r k) * w (ix3 0 k l) := by
  pointwise [proj]

theorem silu_at (x : FVec Ideal S1x16384x5632 .f32) (r : Fin 16384) (l : Fin 5632) :
    silu x (ix3 0 r l) = x (ix3 0 r l) * Ideal.logistic (x (ix3 0 r l)) := by
  pointwise [silu]
  rfl

theorem hidden_at (f : FVec Ideal S1x16384x2048 .f32) (wg wu : FVec Ideal S1x2048x5632 .f32) (r : Fin 16384) (l : Fin 5632) :
    hidden f wg wu (ix3 0 r l) = Rows.act (fun k => f (ix3 0 r k)) (fun k => wg (ix3 0 k l)) (fun k => wu (ix3 0 k l)) := by
  show silu (proj f wg) (ix3 0 r l) * proj f wu (ix3 0 r l) = _
  rw [silu_at, proj_at, proj_at]
  rfl

theorem weight_at (g : FVec Ideal S1x2048 .f32) (k : Fin 2048) : shapeCast S2048 g shapeCasts_S1x2048_S2048 (ix1 k) = g (ix2 0 k) := by
  pointwise

theorem res_at (h : FVec Ideal S1x16384x2048 .f32) (g : FVec Ideal S1x2048 .f32) (wg wu : FVec Ideal S1x2048x5632 .f32) (wd : FVec Ideal S1x5632x2048 .f32)
    (r : Fin 16384) (j : Fin 2048) : res h g wg wu wd (ix2 r j) = h (ix3 0 r j)
      + ∑ l, Rows.lane (fun k => h (ix3 0 r k)) (fun k => g (ix2 0 k)) (fun k l => wg (ix3 0 k l)) (fun k l => wu (ix3 0 k l)) (fun l => wd (ix3 0 l j)) l := by
  have e : res h g wg wu wd (ix2 r j) = h (ix3 0 r j)
      + ∑ l : Fin 5632, hidden (normed h (shapeCast _ g shapeCasts_S1x2048_S2048)) wg wu (ix3 0 r l) * wd (ix3 0 l j) := by
    pointwise [res]
  rw [e]
  simp only [hidden_at, normed_at, weight_at]
  rfl

end Cert.Reference2Ideal.Parts

end
-- ==== Proof.Rest.Ffn.lean ====
/-
  The feed-forward part: after a row group's `s + 1` points the output block holds the residual rows and what the first
  `512 (s + 1)` hidden lanes add, so that after its eleven points it holds the reference's rows.
-/
module

public import proofs.«01_k».proof.Proof.Rest.FfnStep
public import proofs.«01_k».proof.Proof.Rest.FfnRef

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem

theorem norm_at (x0 : FVec Ideal S1024x2048 .f32) (x1 : FVec Ideal S1x2048 .f32) (r : Fin 1024) (k : Fin 2048) :
    k0_pay4 (F := Ideal) x0 x1 (ix2 r k) = x0 (ix2 r k) * Rows.inv (fun k => x0 (ix2 r k)) * x1 (ix2 0 k) := by
  pointwise [k0_pay4, k0_pay3, Rows.inv]

theorem act_at (f : FVec Ideal S1024x2048 .bf16) (x2 x3 : FVec Ideal S2048x512 .bf16) (r : Fin 1024) (l : Fin 512) :
    k0_pay5 (F := Ideal) f x2 x3 (ix2 r l) = Rows.act (fun k => f (ix2 r k)) (fun k => x2 (ix2 k l)) (fun k => x3 (ix2 k l)) := by
  pointwise [k0_pay5, Rows.act]

/-- The block each window takes at a grid point. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![t.val / 11, 0] ∧ t.val < 176 :=
  (by decide +kernel : ∀ t : Fin grid0.N, _)

variable (m : (ℓ : Loc nD τ sig) → Buf (Elt Ideal) ℓ) (c : Dev nD)

section Blocks

variable (t : Fin cfg0.N) (ht : t.val < 176)

theorem b0_at (r : Fin 1024) (k : Fin 2048) :
    b0 m c t (ix2 r k) = m ((c : Thread nD τ).loc main_arg0) (ix3 0 ⟨1024 * (t.val / 11) + r.val, by omega⟩ k) := by
  blk_point [iblk, V, idx t]

theorem b1_at (k : Fin 2048) : b1 m c t (ix2 0 k) = m ((c : Thread nD τ).loc main_arg1) (ix2 0 k) := by
  blk_point [iblk, V, idx t]

theorem b2_at (k : Fin 2048) (l : Fin 512) :
    b2 m c t (ix2 k l) = m ((c : Thread nD τ).loc main_arg2) (ix3 0 k ⟨t.val % 11 * 512 + l.val, by omega⟩) := by
  blk_point [iblk, V, idx t]

theorem b3_at (k : Fin 2048) (l : Fin 512) :
    b3 m c t (ix2 k l) = m ((c : Thread nD τ).loc main_arg3) (ix3 0 k ⟨t.val % 11 * 512 + l.val, by omega⟩) := by
  blk_point [iblk, V, idx t]

theorem b4_at (l : Fin 512) (j : Fin 2048) :
    b4 m c t (ix2 l j) = m ((c : Thread nD τ).loc main_arg4) (ix3 0 ⟨t.val % 11 * 512 + l.val, by omega⟩ j) := by
  blk_point [iblk, V, idx t]

end Blocks

/-- The arguments' entries. -/
abbrev hrow (R : Fin 16384) (k : Fin 2048) : EReal := m ((c : Thread nD τ).loc main_arg0) (ix3 0 R k)
abbrev gain (k : Fin 2048) : EReal := m ((c : Thread nD τ).loc main_arg1) (ix2 0 k)
abbrev wgate (k : Fin 2048) (l : Fin 5632) : EReal := m ((c : Thread nD τ).loc main_arg2) (ix3 0 k l)
abbrev wup (k : Fin 2048) (l : Fin 5632) : EReal := m ((c : Thread nD τ).loc main_arg3) (ix3 0 k l)
abbrev wdown (j : Fin 2048) (l : Fin 5632) : EReal := m ((c : Thread nD τ).loc main_arg4) (ix3 0 l j)

/-- What row `R`'s hidden lanes of block `s` add to column `J`. -/
def part (R : Fin 16384) (J : Fin 2048) (s : ℕ) : EReal :=
  if h : s < 11 then ∑ l : Fin 512, Rows.lane (hrow m c R) (gain m c) (wgate m c) (wup m c) (wdown m c J) ⟨s * 512 + l.val, by omega⟩ else 0

/-- A row by its group and its place in it. -/
theorem row_eq (t : Fin cfg0.N) (ht : t.val < 176) (r : Fin 1024) (R : Fin 16384) (hR : R.val = 1024 * (t.val / 11) + r.val) :
    (⟨1024 * (t.val / 11) + r.val, by omega⟩ : Fin 16384) = R :=
  Fin.ext hR.symm

/-- What a point's normalized rows add, when they are the group's rows normalized. -/
theorem part_at (t : Fin cfg0.N) (f : FVec Ideal S1024x2048 .bf16) (r : Fin 1024) (J : Fin 2048) (R : Fin 16384)
    (hf : ∀ k, f (ix2 r k) = hrow m c R k * Rows.inv (hrow m c R) * gain m c k) :
    (∑ k : Fin 512, k0_pay5 (F := Ideal) f (b2 m c t) (b3 m c t) (ix2 r k) * b4 m c t (ix2 k J)) = part m c R J (t.val % 11) := by
  rw [part, dif_pos (Nat.mod_lt _ (by decide))]
  refine Finset.sum_congr rfl fun l _ => ?_
  rw [act_at, b4_at m c t]
  simp only [hf, b2_at m c t, b3_at m c t]
  rfl

/-- At a group's first point the scratch takes the group's rows normalized. -/
theorem first_rows (t : Fin cfg0.N) (h : t.val % 11 = 0) (r : Fin 1024) (R : Fin 16384) (hR : R.val = 1024 * (t.val / 11) + r.val) (k : Fin 2048) :
    k0_pay4 (F := Ideal) (b0 m c t) (b1 m c t) (ix2 r k) = hrow m c R k * Rows.inv (hrow m c R) * gain m c k := by
  have ht : t.val < 176 := (idx t).2.2.2.2.2.2
  rw [norm_at, b1_at]
  simp only [b0_at m c t ht, row_eq t ht r R hR]

/-- After point `n` the block holds the group's residual rows and the parts of its first `n % 11 + 1` hidden blocks, and the
    scratch the rows normalized. -/
theorem after_point (n : ℕ) : ∀ (hn : n < cfg0.N) (r : Fin 1024) (R : Fin 16384), R.val = 1024 * (n / 11) + r.val →
    (∀ k : Fin 2048, rows m c ⟨n, hn⟩ (ix2 r k) = hrow m c R k * Rows.inv (hrow m c R) * gain m c k)
    ∧ ∀ J : Fin 2048, out m c ⟨n, hn⟩ (ix2 r J) = hrow m c R J + ∑ s ∈ Finset.range (n % 11 + 1), part m c R J s := by
  induction n with
  | zero =>
    intro hn r R hR
    exact first ⟨0, hn⟩ rfl r R hR
  | succ n ih =>
    intro hn r R hR
    by_cases h : (n + 1) % 11 = 0
    · exact first ⟨n + 1, hn⟩ h r R hR
    · obtain ⟨hrows, hout⟩ := ih (by omega) r R (by omega)
      refine ⟨fun k => ?_, fun J => ?_⟩
      · rw [rows_next m c ⟨n + 1, hn⟩ h]
        exact hrows k
      · refine (out_next m c ⟨n + 1, hn⟩ h r J).trans ?_
        rw [show (n + 1) % 11 = n % 11 + 1 by omega, Finset.sum_range_succ _ (n % 11 + 1), ← add_assoc]
        refine congrArg₂ (fun a b : EReal => a + b) (hout J) ?_
        rw [show n % 11 + 1 = (n + 1) % 11 by omega]
        exact part_at m c ⟨n + 1, hn⟩ _ r J R hrows
where
  first (t : Fin cfg0.N) (h : t.val % 11 = 0) (r : Fin 1024) (R : Fin 16384) (hR : R.val = 1024 * (t.val / 11) + r.val) :
      (∀ k : Fin 2048, rows m c t (ix2 r k) = hrow m c R k * Rows.inv (hrow m c R) * gain m c k)
      ∧ ∀ J : Fin 2048, out m c t (ix2 r J) = hrow m c R J + ∑ s ∈ Finset.range (t.val % 11 + 1), part m c R J s := by
    have ht : t.val < 176 := (idx t).2.2.2.2.2.2
    refine ⟨fun k => ?_, fun J => ?_⟩
    · rw [rows_first m c t h]
      exact first_rows m c t h r R hR k
    · rw [out_first m c t h, part_at m c t _ r J R (first_rows m c t h r R hR), h, Finset.sum_range_one]
      rw [b0_at m c t ht r J, row_eq t ht r R hR]

/-- The eleven hidden blocks are all hidden lanes. -/
theorem parts (R : Fin 16384) (J : Fin 2048) : ∑ s ∈ Finset.range 11, part m c R J s
    = ∑ l, Rows.lane (hrow m c R) (gain m c) (wgate m c) (wup m c) (wdown m c J) l := by
  rw [Finset.sum_range]
  refine Eq.trans (Finset.sum_congr rfl fun s _ => dif_pos s.isLt) ?_
  refine Fin.sum_mul_add_congr fun s l hl => ?_
  rfl

/-- The feed-forward part leaves the reference's result in its output argument. -/
theorem final : (dats m 0 c).arrAt 5 (cfgs 0).N = Cert.Reference2Ideal.Parts.res (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 5 _ (by decide +kernel) fun t hf y => ?_
  blk_simp
  rw [after0_5]
  obtain ⟨r, J, rfl⟩ : ∃ (r : Fin 1024) (J : Fin 2048), y = ix2 r J := ⟨y 0, y 1, by funext a; fin_cases a <;> rfl⟩
  have ht : t.val < 176 := (idx t).2.2.2.2.2.2
  have hl : t.val % 11 = 10 := (flush0_5 t).mp hf
  have e : ((cfg0.win 5).blk t).view.emb (ix2 r J) = ix2 (⟨1024 * (t.val / 11) + r.val, by omega⟩ : Fin 16384) J := by
    blk_ext [idx t]
  refine ((after_point m c t.val t.isLt r ⟨1024 * (t.val / 11) + r.val, by omega⟩ rfl).2 J).trans ?_
  rw [hl, parts]
  refine Eq.trans ?_ (congrArg (Cert.Reference2Ideal.Parts.res _ _ _ _ _) e.symm)
  exact (Cert.Reference2Ideal.Parts.res_at _ _ _ _ _ _ J).symm

end Cert.Kernel2Ideal.Ffn

end
-- ==== Proof.Rest.PleRef.lean ====
/-
  The reference of the per-layer embedding and the final norm, its result in parts: rows normalized, the gate, and the
  residual stream with the gated embedding added; each part read at a row and a lane.
-/
module

public import proofs.«01_k».proof.Proof.Gen.Reference3Ideal.Run
public import proofs.«01_k».proof.Proof.Rest.Rows
public import Idealize.ShloMosaic.Lib.Claim
public import Idealize.ShloMosaic.Lib.Pointwise

@[expose] public section

set_option maxRecDepth 16384

noncomputable section

namespace Cert.Reference3Ideal.Parts

open Cert.Reference3Ideal Cert.Reference3Ideal.Gen
open Idealize.ShloMosaic Idealize.ShloMosaic.TcCoe Idealize.SL.Sem Idealize.ShloMosaic.StableHlo

/-- Rows divided by their root mean square, times a weight per lane. -/
def normed (x : FVec Ideal S1x16384x2048 .f32) (g : FVec Ideal S2048 .f32) : FVec Ideal S1x16384x2048 .f32 :=
  mulf (mulf x (broadcastInDim S1x16384x2048 ![0, 1, 2] bcast_S1x16384x1_S1x16384x2048_0_1_2 (Host.rsqrt (addf
    (Host.divf (broadcastInDim S1x16384x1 ![0, 1] bcast_S1x16384_S1x16384x1_0_1
      (Host.reduceAdd (mulf x x) (constant S_ .f32 0x00000000#32) reducesTo_S1x16384x2048_S1x16384_d2 h_S_))
      (broadcastInDim S1x16384x1 ![] bcast_S_S1x16384x1 (constant S_ .f32 0x45000000#32)))
    (broadcastInDim S1x16384x1 ![] bcast_S_S1x16384x1 (constant S_ .f32 0x358637BD#32))))))
    (broadcastInDim S1x16384x2048 ![0, 1, 2] bcast_S1x1x2048_S1x16384x2048_0_1_2 (broadcastInDim S1x1x2048 ![2] bcast_S2048_S1x1x2048_2 g))

/-- The gate: the logistic function of the rows times the weights. -/
def gate (f : FVec Ideal S1x16384x2048 .f32) (w : FVec Ideal S1x2048x2048 .f32) : FVec Ideal S1x16384x2048 .f32 :=
  Host.divf (broadcastInDim S1x16384x2048 ![] bcast_S_S1x16384x2048 (constant S_ .f32 0x3F800000#32))
    (addf (broadcastInDim S1x16384x2048 ![] bcast_S_S1x16384x2048 (constant S_ .f32 0x3F800000#32))
      (Host.exp (Host.negf (Host.dotGeneral dot_S1x16384x2048_S2048x2048_S1x16384x2048_2_0_01_1_n_n none f
        (shapeCast _ w shapeCasts_S1x2048x2048_S2048x2048)))))

/-- The embedding's rows times their weights. -/
def emb (p : FVec Ideal S1x1x16384x256 .f32) (w : FVec Ideal S1x256x2048 .f32) : FVec Ideal S1x16384x2048 .f32 :=
  Host.dotGeneral dot_S1x16384x256_S256x2048_S1x16384x2048_2_0_01_1_n_n none (shapeCast _ p shapeCasts_S1x1x16384x256_S1x16384x256)
    (shapeCast _ w shapeCasts_S1x256x2048_S256x2048)

/-- The residual stream with the gated embedding added. -/
def mixed (h : FVec Ideal S1x16384x2048 .f32) (p : FVec Ideal S1x1x16384x256 .f32) (pn : FVec Ideal S1x2048 .f32) (wg : FVec Ideal S1x2048x2048 .f32)
    (wp : FVec Ideal S1x256x2048 .f32) : FVec Ideal S1x16384x2048 .f32 :=
  addf h (mulf (gate (normed h (shapeCast _ pn shapeCasts_S1x2048_S2048)) wg) (emb p wp))

/-- The reference's result. -/
def res (h : FVec Ideal S1x16384x2048 .f32) (p : FVec Ideal S1x1x16384x256 .f32) (pn : FVec Ideal S1x2048 .f32) (wg : FVec Ideal S1x2048x2048 .f32)
    (wp : FVec Ideal S1x256x2048 .f32) (fn : FVec Ideal S2048 .f32) : FVec Ideal S16384x2048 .f32 :=
  shapeCast _ (normed (mixed h p pn wg wp) fn) shapeCasts_S1x16384x2048_S16384x2048

theorem res_eq (m : (ℓ : Loc nD τ sig) → Buf (Elt Ideal) ℓ) (c : Dev nD) :
    Cert.Reference3Ideal.Value.res_main_v40 m c = res (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

theorem normed_at (x : FVec Ideal S1x16384x2048 .f32) (g : FVec Ideal S2048 .f32) (r : Fin 16384) (j : Fin 2048) :
    normed x g (ix3 0 r j) = x (ix3 0 r j) * Rows.inv (fun k => x (ix3 0 r k)) * g (ix1 j) := by
  pointwise [normed, Rows.inv]

theorem gate_at (f : FVec Ideal S1x16384x2048 .f32) (w : FVec Ideal S1x2048x2048 .f32) (r : Fin 16384) (j : Fin 2048) :
    gate f w (ix3 0 r j) = Ideal.logistic (∑ k : Fin 2048, f (ix3 0 r k) * w (ix3 0 k j)) := by
  pointwise [gate]
  rfl

theorem emb_at (p : FVec Ideal S1x1x16384x256 .f32) (w : FVec Ideal S1x256x2048 .f32) (r : Fin 16384) (j : Fin 2048) :
    emb p w (ix3 0 r j) = ∑ k : Fin 256, p (ix4 0 0 r k) * w (ix3 0 k j) := by
  pointwise [emb]

section

variable (h : FVec Ideal S1x16384x2048 .f32) (p : FVec Ideal S1x1x16384x256 .f32) (pn : FVec Ideal S1x2048 .f32) (wg : FVec Ideal S1x2048x2048 .f32)
  (wp : FVec Ideal S1x256x2048 .f32) (fn : FVec Ideal S2048 .f32) (r : Fin 16384) (j : Fin 2048)

theorem weight_at (k : Fin 2048) : shapeCast S2048 pn shapeCasts_S1x2048_S2048 (ix1 k) = pn (ix2 0 k) := by
  pointwise

theorem mixed_at : mixed h p pn wg wp (ix3 0 r j) = Rows.mix (fun k => h (ix3 0 r k)) (fun k => pn (ix2 0 k)) (fun k j => wg (ix3 0 k j))
    (fun k => p (ix4 0 0 r k)) (fun k j => wp (ix3 0 k j)) j := by
  show h (ix3 0 r j) + gate _ wg (ix3 0 r j) * emb p wp (ix3 0 r j) = _
  rw [gate_at, emb_at]
  simp only [normed_at, weight_at]
  rfl

theorem res_at : res h p pn wg wp fn (ix2 r j) = Rows.out (fun k => h (ix3 0 r k)) (fun k => pn (ix2 0 k)) (fun k j => wg (ix3 0 k j))
    (fun k => p (ix4 0 0 r k)) (fun k j => wp (ix3 0 k j)) (fun k => fn (ix1 k)) j := by
  have e : res h p pn wg wp fn (ix2 r j) = normed (mixed h p pn wg wp) fn (ix3 0 r j) := by pointwise [res]
  rw [e, normed_at]
  simp only [mixed_at]
  rfl

end

end Cert.Reference3Ideal.Parts

end
-- ==== Proof.Rest.Ple.lean ====
/-
  The per-layer embedding and final norm: the block at row group `t` is each row's gated embedding added and the row
  normalized, and the rows of the group are the reference's.
-/
module

public import proofs.«01_k».proof.Proof.Gen.Kernel3Ideal.Value
public import proofs.«01_k».proof.Proof.Rest.PleRef
public import Idealize.ShloMosaic.Lib.Claim
public import Idealize.ShloMosaic.Lib.Pointwise
public import Idealize.ShloMosaic.Lib.Pipeline.ValueKit

@[expose] public section

set_option maxRecDepth 16384

noncomputable section

namespace Cert.Kernel3Ideal.Ple

open Cert.Kernel3Ideal Cert.Kernel3Ideal.Gen
open Idealize.ShloMosaic Idealize.ShloMosaic.TcCoe Idealize.SL.Sem

section

variable (x0 : FVec Ideal S512x2048 .f32) (x2 : FVec Ideal S1x2048 .f32) (x3 : FVec Ideal S2048x2048 .bf16) (x1 : FVec Ideal S512x256 .f32)
  (x4 : FVec Ideal S256x2048 .bf16) (x5 : FVec Ideal S1x2048 .f32) (r : Fin 512) (j : Fin 2048)

theorem mix_at : k0_pay2 (F := Ideal) x0 x2 x3 x1 x4 (ix2 r j) = Rows.mix (fun k => x0 (ix2 r k)) (fun k => x2 (ix2 0 k)) (fun k j => x3 (ix2 k j))
    (fun k => x1 (ix2 r k)) (fun k j => x4 (ix2 k j)) j := by
  pointwise [k0_pay2, Rows.mix, Rows.inv]

theorem inv_at : k0_pay4 (F := Ideal) x0 x2 x3 x1 x4 (ix2 r 0) = Rows.inv (fun k => k0_pay2 (F := Ideal) x0 x2 x3 x1 x4 (ix2 r k)) := by
  pointwise [k0_pay4, Rows.inv]

theorem pay_at : k0_pay1 (F := Ideal) (k0_pay2 x0 x2 x3 x1 x4) (k0_pay3 x5) (k0_pay4 x0 x2 x3 x1 x4) (ix2 r j)
    = Rows.out (fun k => x0 (ix2 r k)) (fun k => x2 (ix2 0 k)) (fun k j => x3 (ix2 k j))
      (fun k => x1 (ix2 r k)) (fun k j => x4 (ix2 k j)) (fun k => x5 (ix2 0 k)) j := by
  have e : k0_pay1 (F := Ideal) (k0_pay2 x0 x2 x3 x1 x4) (k0_pay3 x5) (k0_pay4 x0 x2 x3 x1 x4) (ix2 r j)
      = k0_pay2 (F := Ideal) x0 x2 x3 x1 x4 (ix2 r j) * k0_pay4 (F := Ideal) x0 x2 x3 x1 x4 (ix2 r 0) * x5 (ix2 0 j) := by
    pointwise [k0_pay1, k0_pay3]
  rw [e, inv_at]
  simp only [mix_at]
  rfl

end

/-- The block each window takes at a grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] ∧ t.val < 32 :=
  (by decide +kernel : ∀ t : Fin grid0.N, _)

variable (m : (ℓ : Loc nD τ sig) → Buf (Elt Ideal) ℓ)

/-- The blocks' entries as the arguments'. -/
theorem rows (c : Dev nD) (t : Fin cfg0.N) (r : Fin 512) (k : Fin 2048) (ht : t.val < 32) :
    iblk m c 0 t (ix2 r k) = m ((c : Thread nD τ).loc main_arg0) (ix3 0 ⟨512 * t.val + r.val, by omega⟩ k) := by
  blk_point [iblk, V, idx t]

theorem embs (c : Dev nD) (t : Fin cfg0.N) (r : Fin 512) (k : Fin 256) (ht : t.val < 32) :
    iblk m c 1 t (ix2 r k) = m ((c : Thread nD τ).loc main_arg1) (ix4 0 0 ⟨512 * t.val + r.val, by omega⟩ k) := by
  blk_point [iblk, V, idx t]

theorem gains (c : Dev nD) (t : Fin cfg0.N) (k : Fin 2048) :
    iblk m c 2 t (ix2 0 k) = m ((c : Thread nD τ).loc main_arg2) (ix2 0 k) := by
  blk_point [iblk, V, idx t]

theorem gates (c : Dev nD) (t : Fin cfg0.N) (k j : Fin 2048) :
    iblk m c 3 t (ix2 k j) = m ((c : Thread nD τ).loc main_arg3) (ix3 0 k j) := by
  blk_point [iblk, V, idx t]

theorem projs (c : Dev nD) (t : Fin cfg0.N) (k : Fin 256) (j : Fin 2048) :
    iblk m c 4 t (ix2 k j) = m ((c : Thread nD τ).loc main_arg4) (ix3 0 k j) := by
  blk_point [iblk, V, idx t]

theorem finals (c : Dev nD) (t : Fin cfg0.N) (k : Fin 2048) :
    iblk m c 5 t (ix2 0 k) = m ((c : Thread nD τ).loc main_arg5) (ix1 k) := by
  blk_point [iblk, V, idx t]

/-- What a point stores is the reference's result at the rows the point holds. -/
theorem point (c : Dev nD) (t : Fin cfg0.N) (y : S512x2048.Idx) :
    k0_pay1 (F := Ideal) (k0_pay2 (iblk m c 0 t) (iblk m c 2 t) (iblk m c 3 t) (iblk m c 1 t) (iblk m c 4 t)) (k0_pay3 (iblk m c 5 t))
      (k0_pay4 (iblk m c 0 t) (iblk m c 2 t) (iblk m c 3 t) (iblk m c 1 t) (iblk m c 4 t)) y
    = Cert.Reference3Ideal.Parts.res (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (((cfg0.win 6).blk t).view.emb y) := by
  have ht : t.val < 32 := (idx t).2.2.2.2.2.2.2
  obtain ⟨r, j, rfl⟩ : ∃ r j, y = ix2 r j := ⟨y 0, y 1, by funext a; fin_cases a <;> rfl⟩
  have hy : ((cfg0.win 6).blk t).view.emb (ix2 r j) = ix2 (⟨512 * t.val + r.val, by omega⟩ : Fin 16384) j := by
    blk_ext [idx t]
  rw [hy]
  refine (pay_at _ _ _ _ _ _ r j).trans ?_
  refine Eq.trans ?_ (Cert.Reference3Ideal.Parts.res_at _ _ _ _ _ _ _ j).symm
  simp only [rows m c t r _ ht, embs m c t r _ ht, gains m c t, gates m c t, projs m c t, finals m c t]

/-- The array after the launch is the reference's result. -/
theorem final (c : Dev nD) : (dats m 0 c).arrAt 6 (cfgs 0).N
    = Cert.Reference3Ideal.Parts.res (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y

end Cert.Kernel3Ideal.Ple

end
-- ==== Proof.Rest.Claims.lean ====
/-
  The claims of the output projection, the feed-forward part, and the per-layer embedding with the final norm: the frames,
  the idealizations without a rule, and each kernel's result equal to its reference's.
-/
module

public import proofs.«01_k».proof.Defs
public import proofs.«01_k».proof.Proof.Gen.Kernel2.Frame
public import proofs.«01_k».proof.Proof.Gen.Kernel3.Frame
public import proofs.«01_k».proof.Proof.Gen.Kernel4.Frame
public import proofs.«01_k».proof.Proof.Rest.OutProj
public import proofs.«01_k».proof.Proof.Rest.Ffn
public import proofs.«01_k».proof.Proof.Rest.Ple
public import proofs.«01_k».proof.Proof.Gen.Reference4Ideal.Run
public import Idealize.ShloMosaic.Lib.StableHlo.RunHlo
public import Idealize.ShloMosaic.Lib.Claim
public import Idealize.ShloMosaic.Lib.Tactic
public import Idealize.ShloMosaic.Lib.Quiescent

@[expose] public section

set_option maxRecDepth 16384

noncomputable section

namespace Cert.Proof

open Idealize.ShloMosaic Idealize.ShloMosaic.TcCoe Idealize.ShloMosaic.Tactic
open Idealize.SL.Sem

/-- The frame of the printed feed-forward part. -/
theorem frame_P2 : Cert.quiescent_Kernel2 := fun m g _ => Cert.Kernel2.Gen.frame m g
/-- The frame of the idealized feed-forward part. -/
theorem frame_PI2 : Cert.quiescent_Kernel2Ideal := fun m g _ => Cert.Kernel2Ideal.Gen.frame m g
/-- The frame of its reference. -/
theorem frame_R2 : Cert.quiescent_Reference2Ideal := by
  intro m g _
  hlo_run
  · intro _; exact ⟨trivial, trivial, trivial, trivial, trivial⟩
  · exact sem_eq_zero_of_no_sems (sig := Cert.Reference2Ideal.sig) (by decide) _
/-- Its idealization applies no rule. -/
theorem preserves2 : Cert.preserves_Kernel2_Kernel2Ideal := trivial
/-- The feed-forward part and its reference end with one result. -/
theorem algebraic2 : Cert.algebraic_Kernel2Ideal_Reference2Ideal := by
  pair_intro
  · run_from Cert.Kernel2Ideal.Gen.run_main m g
  · run_from Cert.Reference2Ideal.Value.run m' g'
    exact (Cert.Kernel2Ideal.Ffn.final m c).symm

/-- The frame of the printed per-layer embedding. -/
theorem frame_P3 : Cert.quiescent_Kernel3 := fun m g _ => Cert.Kernel3.Gen.frame m g
/-- The frame of the idealized per-layer embedding. -/
theorem frame_PI3 : Cert.quiescent_Kernel3Ideal := fun m g _ => Cert.Kernel3Ideal.Gen.frame m g
/-- The frame of its reference. -/
theorem frame_R3 : Cert.quiescent_Reference3Ideal := by
  intro m g _
  hlo_run
  · intro _; exact ⟨trivial, trivial, trivial, trivial, trivial, trivial⟩
  · exact sem_eq_zero_of_no_sems (sig := Cert.Reference3Ideal.sig) (by decide) _
/-- Its idealization applies no rule. -/
theorem preserves3 : Cert.preserves_Kernel3_Kernel3Ideal := trivial
/-- The per-layer embedding and its reference end with one result. -/
theorem algebraic3 : Cert.algebraic_Kernel3Ideal_Reference3Ideal := by
  pair_intro
  · run_from Cert.Kernel3Ideal.Gen.run_main m g
  · run_from Cert.Reference3Ideal.Value.run m' g'
    rw [Cert.Reference3Ideal.Parts.res_eq]
    obtain ⟨h0, h1, h2, h3, h4, h5⟩ := hagree c
    rw [h0, h1, h2, h3, h4, h5]
    exact (Cert.Kernel3Ideal.Ple.final m c).symm

/-- The frame of the printed output projection. -/
theorem frame_P4 : Cert.quiescent_Kernel4 := fun m g _ => Cert.Kernel4.Gen.frame m g
/-- The frame of the idealized output projection. -/
theorem frame_PI4 : Cert.quiescent_Kernel4Ideal := fun m g _ => Cert.Kernel4Ideal.Gen.frame m g
/-- The frame of its reference. -/
theorem frame_R4 : Cert.quiescent_Reference4Ideal := by
  intro m g _
  hlo_run
  · intro _; exact ⟨trivial, trivial, trivial, trivial⟩
  · exact sem_eq_zero_of_no_sems (sig := Cert.Reference4Ideal.sig) (by decide) _
/-- Its idealization applies no rule. -/
theorem preserves4 : Cert.preserves_Kernel4_Kernel4Ideal := trivial
/-- The output projection and its reference end with one result. -/
theorem algebraic4 : Cert.algebraic_Kernel4Ideal_Reference4Ideal := by
  pair_intro
  · run_from Cert.Kernel4Ideal.Gen.run_main m g
  · hlo_run
    rw [Cert.Kernel4Ideal.OutProj.final m c]
    obtain ⟨h0, h1, h2, h3⟩ := hagree c
    rw [h1, h2]
    rfl

end Cert.Proof

end
-- ==== Proof.Latent.Step.lean ====
/-
  One grid point of the latent's kernel: the normalized rows, the keys' block in sixteen slices of 128 lanes (each head's plain
  lanes, then the shared rotary lanes), and the values transposed, by the value weights that the first point transposed.
-/
module

public import proofs.«01_k».proof.Proof.Gen.Kernel5Ideal.Value
public import Idealize.ShloMosaic.Lib.Claim
public import Idealize.ShloMosaic.Lib.Pointwise
public import Idealize.ShloMosaic.Lib.Pipeline.ValueKit

@[expose] public section

set_option maxRecDepth 16384

noncomputable section

namespace Cert.Kernel5Ideal.Latent

open Cert.Kernel5Ideal Cert.Kernel5Ideal.Gen
open Idealize.ShloMosaic Idealize.ShloMosaic.TcCoe Idealize.SL.Sem

section Chunks

variable (o : ℕ) (inb : ∀ a, (![0, o] : Fin 2 → ℕ) a + (![512, 128] : Fin 2 → ℕ) a ≤ S512x2048.size a)
  (w : S512x128.Idx → Elt Ideal .bf16) (L : List (View.Piece (Elt Ideal) S512x2048 .bf16)) (r : Fin 512)

/-- A lane of the last slice written is that slice's. -/
theorem canon_in (j : Fin 128) (J : Fin 2048) (hj : J.val = o + j.val) :
    View.canon ((⟨Rect.unit (s := S512x2048) ![0, o] ![512, 128] inb, w⟩ : View.Piece (Elt Ideal) S512x2048 .bf16) :: L) (ix2 r J) = w (ix2 r j) := by
  have e : (Rect.unit (s := S512x2048) ![0, o] ![512, 128] inb).emb (ix2 r j) = ix2 r J := by
    funext a
    apply Fin.ext
    fin_cases a
    · show 0 + 1 * r.val = r.val; omega
    · show o + 1 * j.val = J.val; omega
  rw [← e]
  exact View.canon_cons_emb _ _ _ _

/-- Another lane is what it was. -/
theorem canon_off (j : Fin 2048) (hj : j.val < o ∨ o + 128 ≤ j.val) :
    View.canon ((⟨Rect.unit (s := S512x2048) ![0, o] ![512, 128] inb, w⟩ : View.Piece (Elt Ideal) S512x2048 .bf16) :: L) (ix2 r j)
      = View.canon L (ix2 r j) := by
  refine View.canon_cons_of_not_mem _ _ fun h => ?_
  rw [Rect.mem_set_unit] at h
  have h1 : o ≤ j.val ∧ j.val < o + 128 := h 1
  omega

end Chunks

/-- The keys' block as its sixteen slices were written, the last first. -/
abbrev slices (q : Fin 8 → S512x128.Idx → Elt Ideal .bf16) (p : S512x128.Idx → Elt Ideal .bf16) : List (View.Piece (Elt Ideal) S512x2048 .bf16) :=
  [⟨Rect.unit ![0, 1920] ![512, 128] inb_S512x2048_S512x128_0_1920, p⟩,
    ⟨Rect.unit ![0, 1792] ![512, 128] inb_S512x2048_S512x128_0_1792, q 7⟩,
    ⟨Rect.unit ![0, 1664] ![512, 128] inb_S512x2048_S512x128_0_1664, p⟩,
    ⟨Rect.unit ![0, 1536] ![512, 128] inb_S512x2048_S512x128_0_1536, q 6⟩,
    ⟨Rect.unit ![0, 1408] ![512, 128] inb_S512x2048_S512x128_0_1408, p⟩,
    ⟨Rect.unit ![0, 1280] ![512, 128] inb_S512x2048_S512x128_0_1280, q 5⟩,
    ⟨Rect.unit ![0, 1152] ![512, 128] inb_S512x2048_S512x128_0_1152, p⟩,
    ⟨Rect.unit ![0, 1024] ![512, 128] inb_S512x2048_S512x128_0_1024, q 4⟩,
    ⟨Rect.unit ![0, 896] ![512, 128] inb_S512x2048_S512x128_0_896, p⟩,
    ⟨Rect.unit ![0, 768] ![512, 128] inb_S512x2048_S512x128_0_768, q 3⟩,
    ⟨Rect.unit ![0, 640] ![512, 128] inb_S512x2048_S512x128_0_640, p⟩,
    ⟨Rect.unit ![0, 512] ![512, 128] inb_S512x2048_S512x128_0_512, q 2⟩,
    ⟨Rect.unit ![0, 384] ![512, 128] inb_S512x2048_S512x128_0_384, p⟩,
    ⟨Rect.unit ![0, 256] ![512, 128] inb_S512x2048_S512x128_0_256, q 1⟩,
    ⟨Rect.unit ![0, 128] ![512, 128] inb_S512x2048_S512x128_0_128, p⟩,
    ⟨Rect.unit ![0, 0] ![512, 128] inb_S512x2048_S512x128_0_0, q 0⟩]

/-- A head's plain lanes. -/
theorem slices_plain (q : Fin 8 → S512x128.Idx → Elt Ideal .bf16) (p : S512x128.Idx → Elt Ideal .bf16) (r : Fin 512) (h : Fin 8) (j : Fin 128)
    (J : Fin 2048) (hJ : J.val = 256 * h.val + j.val) : View.canon (slices q p) (ix2 r J) = q h (ix2 r j) := by
  have hj := j.isLt
  fin_cases h <;> dsimp only at hJ
  · rw [canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_in _ _ _ _ _ j _ (by omega)]
    rfl
  · rw [canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_in _ _ _ _ _ j _ (by omega)]
    rfl
  · rw [canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_in _ _ _ _ _ j _ (by omega)]
    rfl
  · rw [canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_in _ _ _ _ _ j _ (by omega)]
    rfl
  · rw [canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_in _ _ _ _ _ j _ (by omega)]
    rfl
  · rw [canon_off _ _ _ _ _ _ (by omega), canon_off _ _ _ _ _ _ (by omega), canon_off _ _ _ _ _ _ (by omega), canon_off _ _ _ _ _ _ (by omega), canon_off _ _ _ _ _ _ (by omega), canon_in _ _ _ _ _ j _ (by omega)]
    rfl
  · rw [canon_off _ _ _ _ _ _ (by omega), canon_off _ _ _ _ _ _ (by omega), canon_off _ _ _ _ _ _ (by omega), canon_in _ _ _ _ _ j _ (by omega)]
    rfl
  · rw [canon_off _ _ _ _ _ _ (by omega), canon_in _ _ _ _ _ j _ (by omega)]
    rfl

/-- A head's rotary lanes. -/
theorem slices_rot (q : Fin 8 → S512x128.Idx → Elt Ideal .bf16) (p : S512x128.Idx → Elt Ideal .bf16) (r : Fin 512) (h : Fin 8) (j : Fin 128)
    (J : Fin 2048) (hJ : J.val = 256 * h.val + 128 + j.val) : View.canon (slices q p) (ix2 r J) = p (ix2 r j) := by
  have hj := j.isLt
  fin_cases h <;> dsimp only at hJ
  · rw [canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_in _ _ _ _ _ j _ (by omega)]
  · rw [canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_in _ _ _ _ _ j _ (by omega)]
  · rw [canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_in _ _ _ _ _ j _ (by omega)]
  · rw [canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_in _ _ _ _ _ j _ (by omega)]
  · rw [canon_off _ _ _ _ _ _ (by omega), canon_off _ _ _ _ _ _ (by omega), canon_off _ _ _ _ _ _ (by omega), canon_off _ _ _ _ _ _ (by omega), canon_off _ _ _ _ _ _ (by omega), canon_off _ _ _ _ _ _ (by omega), canon_in _ _ _ _ _ j _ (by omega)]
  · rw [canon_off _ _ _ _ _ _ (by omega), canon_off _ _ _ _ _ _ (by omega), canon_off _ _ _ _ _ _ (by omega), canon_off _ _ _ _ _ _ (by omega), canon_in _ _ _ _ _ j _ (by omega)]
  · rw [canon_off _ _ _ _ _ _ (by omega), canon_off _ _ _ _ _ _ (by omega), canon_in _ _ _ _ _ j _ (by omega)]
  · rw [canon_in _ _ _ _ _ j _ (by omega)]

section Point

variable (m : (ℓ : Loc nD τ sig) → Buf (Elt Ideal) ℓ) (c : Dev nD) (t : Fin cfg0.N)

/-- The blocks a point reads. -/
abbrev b0 : FVec Ideal S512x2048 .f32 := iblk m c 0 t
abbrev b1 : FVec Ideal S1x2048 .f32 := iblk m c 1 t
abbrev b2 : FVec Ideal S2048x640 .bf16 := iblk m c 2 t
abbrev b3 : FVec Ideal S1x512 .f32 := iblk m c 3 t
abbrev b4 : FVec Ideal S512x1024 .bf16 := iblk m c 4 t
abbrev b5 : FVec Ideal S512x1024 .bf16 := iblk m c 5 t
abbrev b6 : FVec Ideal S1x512x128 .f32 := iblk m c 6 t
abbrev b7 : FVec Ideal S1x512x128 .f32 := iblk m c 7 t
/-- The three output blocks and the transposed weights a point leaves. -/
abbrev outA : FVec Ideal S512x2048 .bf16 := (outsAt0 m c t.val t.isLt).1
abbrev outK : FVec Ideal S512x2048 .bf16 := (outsAt0 m c t.val t.isLt).2.1
abbrev outV : FVec Ideal S1024x512 .bf16 := (outsAt0 m c t.val t.isLt).2.2.1
abbrev wT : FVec Ideal S1024x512 .bf16 := (outsAt0 m c t.val t.isLt).2.2.2

theorem outA_eq : outA m c t = k0_pay2 (F := Ideal) (b0 m c t) (b1 m c t) := by
  show (outsAt0 m c t.val t.isLt).1 = _
  by_cases h : t.val % 32 = 0
  · rw [outsAt0_A m c t h]
    frame_out
  · rw [outsAt0_B m c t h]
    frame_out

theorem wT_first (h : t.val % 32 = 0) : wT m c t = k0_pay1 (F := Ideal) (b5 m c t) := by
  show (outsAt0 m c t.val t.isLt).2.2.2 = _
  rw [outsAt0_A m c t h]
  frame_out

theorem wT_next (h : ¬ t.val % 32 = 0) : wT m c t = (outsAt0 m c (t.val - 1) (by omega)).2.2.2 := by
  show (outsAt0 m c t.val t.isLt).2.2.2 = _
  rw [outsAt0_B m c t h]
  dsimp only [sout0_B_0]

theorem outV_eq : outV m c t = k0_pay18 (F := Ideal) (k0_pay8 (k0_pay4 (b0 m c t) (b1 m c t) (b2 m c t)) (k0_pay5 (b3 m c t)) (wT m c t)) := by
  show (outsAt0 m c t.val t.isLt).2.2.1 = _
  by_cases h : t.val % 32 = 0
  · rw [wT_first m c t h, outsAt0_A m c t h]
    frame_out
  · rw [wT_next m c t h, outsAt0_B m c t h]
    frame_out
    exact congrArg (fun z => k0_pay18 (F := Ideal) (k0_pay8 (k0_pay4 (b0 m c t) (b1 m c t) (b2 m c t)) (k0_pay5 (b3 m c t)) z)) (Memref.IsWhole.read_unread _ _)

/-- The keys' plain lanes and the rotary lanes a point stores. -/
abbrev kn : FVec Ideal S512x1024 .f32 := k0_pay7 (F := Ideal) (k0_pay4 (b0 m c t) (b1 m c t) (b2 m c t)) (k0_pay5 (b3 m c t)) (b4 m c t)
abbrev kpe : FVec Ideal S512x128 .bf16 := k0_pay9 (F := Ideal) (k0_pay3 (b0 m c t) (b1 m c t) (b2 m c t)) (b6 m c t) (b7 m c t)

/-- The head's slice of the plain lanes. -/
def head (y : FVec Ideal S512x1024 .f32) : Fin 8 → S512x128.Idx → Elt Ideal .bf16 :=
  ![truncf .bf16 (extractStridedSlice S512x128 ![0, 0] y slices_S512x1024_o0_0_S512x128) bitsLt_bf16_f32,
    truncf .bf16 (extractStridedSlice S512x128 ![0, 128] y slices_S512x1024_o0_128_S512x128) bitsLt_bf16_f32,
    truncf .bf16 (extractStridedSlice S512x128 ![0, 256] y slices_S512x1024_o0_256_S512x128) bitsLt_bf16_f32,
    k0_pay13 y, k0_pay14 y, k0_pay15 y, k0_pay16 y, k0_pay17 y]

theorem head_at (y : FVec Ideal S512x1024 .f32) (r : Fin 512) (h : Fin 8) (j : Fin 128) :
    head y h (ix2 r j) = y (ix2 r ⟨128 * h.val + j.val, by omega⟩) := by
  fin_cases h
  · show truncf (F := Ideal) .bf16 (extractStridedSlice S512x128 ![0, 0] y slices_S512x1024_o0_0_S512x128) bitsLt_bf16_f32 (ix2 r j) = _
    pointwise
  · show truncf (F := Ideal) .bf16 (extractStridedSlice S512x128 ![0, 128] y slices_S512x1024_o0_128_S512x128) bitsLt_bf16_f32 (ix2 r j) = _
    pointwise
  · show truncf (F := Ideal) .bf16 (extractStridedSlice S512x128 ![0, 256] y slices_S512x1024_o0_256_S512x128) bitsLt_bf16_f32 (ix2 r j) = _
    pointwise
  · show k0_pay13 (F := Ideal) y (ix2 r j) = _
    pointwise [k0_pay13]
  · show k0_pay14 (F := Ideal) y (ix2 r j) = _
    pointwise [k0_pay14]
  · show k0_pay15 (F := Ideal) y (ix2 r j) = _
    pointwise [k0_pay15]
  · show k0_pay16 (F := Ideal) y (ix2 r j) = _
    pointwise [k0_pay16]
  · show k0_pay17 (F := Ideal) y (ix2 r j) = _
    pointwise [k0_pay17]

theorem outK_eq : outK m c t = View.canon (slices (head (kn m c t)) (kpe m c t)) := by
  show (outsAt0 m c t.val t.isLt).2.1 = _
  by_cases h : t.val % 32 = 0
  · rw [outsAt0_A m c t h]
    frame_out
    rfl
  · rw [outsAt0_B m c t h]
    frame_out
    rfl

/-- The keys' block at a head's plain lane, and at a rotary lane. -/
theorem outK_plain (r : Fin 512) (h : Fin 8) (j : Fin 128) (J : Fin 2048) (hJ : J.val = 256 * h.val + j.val) :
    outK m c t (ix2 r J) = kn m c t (ix2 r ⟨128 * h.val + j.val, by omega⟩) := by
  rw [outK_eq, slices_plain _ _ r h j J hJ, head_at]

theorem outK_rot (r : Fin 512) (h : Fin 8) (j : Fin 128) (J : Fin 2048) (hJ : J.val = 256 * h.val + 128 + j.val) :
    outK m c t (ix2 r J) = kpe m c t (ix2 r j) := by
  rw [outK_eq, slices_rot _ _ r h j J hJ]

end Point

end Cert.Kernel5Ideal.Latent

end
-- ==== Proof.Latent.Host.lean ====
/-
  The operands as the host lays them out for the latent's call, and their entries: the latent's columns of the input weights
  with 64 columns of zeros after them, the up-projection's key and value columns apart, and the rotary table's second slab,
  whose lanes are the cosines twice and ones, and the sines negated, the sines and zeros.
-/
module

public import proofs.«01_k».proof.Proof.Latent.Step

@[expose] public section

set_option maxRecDepth 16384

noncomputable section

namespace Cert.Kernel5Ideal.Latent

open Cert.Kernel5Ideal Cert.Kernel5Ideal.Gen
open Idealize.ShloMosaic Idealize.ShloMosaic.TcCoe Idealize.SL.Sem

/-- The latent's columns. -/
def hostIn (w : FVec Ideal S1x2048x5184 .f32) : FVec Ideal S2048x640 .bf16 :=
  pad S2048x640 ![0, 0] ![0, 64] ![0, 0]
    (extractStridedSlice S2048x576 ![0, 1536] (truncf .bf16 (shapeCast S2048x5184 w shapeCasts_S1x2048x5184_S2048x5184) bitsLt_bf16_f32) slices_S2048x5184_S2048x576_0_1536)
    (sitofp .bf16 (constantI S_ 32 0#32)) pads_S2048x576_S2048x640_000_0640 h_S_

/-- The up-projection's columns for the keys. -/
def hostUk (w : FVec Ideal S1x512x2048 .f32) : FVec Ideal S512x1024 .bf16 :=
  truncf .bf16 (shapeCast S512x1024 (extractStridedSlice S512x8x128 ![0, 0, 0]
    (shapeCast S512x8x256 (shapeCast S512x2048 w shapeCasts_S1x512x2048_S512x2048) shapeCasts_S512x2048_S512x8x256) slices_S512x8x256_S512x8x128_0_0_0)
    shapeCasts_S512x8x128_S512x1024) bitsLt_bf16_f32

/-- The up-projection's columns for the values. -/
def hostUv (w : FVec Ideal S1x512x2048 .f32) : FVec Ideal S512x1024 .bf16 :=
  truncf .bf16 (shapeCast S512x1024 (extractStridedSlice S512x8x128 ![0, 0, 128]
    (shapeCast S512x8x256 (shapeCast S512x2048 w shapeCasts_S1x512x2048_S512x2048) shapeCasts_S512x2048_S512x8x256) slices_S512x8x256_S512x8x128_0_0_128)
    shapeCasts_S512x8x128_S512x1024) bitsLt_bf16_f32

/-- The angles of the positions. -/
def hostAng (p : IVec S1x16384 32) : FVec Ideal S16384x32 .f32 :=
  mulf (broadcastInDim S16384x32 ![0, 1] bcast_S16384x1_S16384x32_0_1 (sitofp .f32 (shapeCast S16384x1 p shapeCasts_S1x16384_S16384x1)))
    (broadcastInDim S16384x32 ![0, 1] bcast_S1x32_S16384x32_0_1 (broadcastInDim S1x32 ![1] bcast_S32_S1x32_1
      (Host.powf (broadcastInDim S32 ![] bcast_S_S32 (constant S_ .f32 0x461C4000#32)) (Host.negf (Host.divf
        (mulf (sitofp .f32 (iotaInDim S32 32 0)) (broadcastInDim S32 ![] bcast_S_S32 (constant S_ .f32 0x40000000#32)))
        (broadcastInDim S32 ![] bcast_S_S32 (constant S_ .f32 0x42800000#32)))))))

/-- A slab of three groups of lanes. -/
def three (a b : FVec Ideal S16384x32 .f32) (d : FVec Ideal S16384x64 .f32) : FVec Ideal S16384x128 .f32 :=
  concatenate S16384x128 1 [⟨S16384x32, a⟩, ⟨S16384x32, b⟩, ⟨S16384x64, d⟩] concatenates_S16384x32_S16384x32_S16384x64_S16384x128_d1

/-- A slab as a table of one. -/
def one (a : FVec Ideal S16384x128 .f32) : FVec Ideal S1x16384x128 .f32 :=
  broadcastInDim S1x16384x128 ![1, 2] bcast_S16384x128_S1x16384x128_1_2 a

/-- A table of two slabs. -/
def two (f g : FVec Ideal S1x16384x128 .f32) : FVec Ideal S2x16384x128 .f32 :=
  concatenate S2x16384x128 0 [⟨S1x16384x128, f⟩, ⟨S1x16384x128, g⟩] concatenates_S1x16384x128_S1x16384x128_S2x16384x128_d0

/-- A table of two slabs, the second of three groups of lanes. -/
def slabs (f : FVec Ideal S1x16384x128 .f32) (a b : FVec Ideal S16384x32 .f32) (d : FVec Ideal S16384x64 .f32) : FVec Ideal S2x16384x128 .f32 :=
  two f (one (three a b d))

section

variable (m : (ℓ : Loc nD τ sig) → Buf (Elt Ideal) ℓ) (c : Dev nD)

theorem entry_x : V m c main_v56 = shapeCast S16384x2048 (m ((c : Thread nD τ).loc main_arg0)) shapeCasts_S1x16384x2048_S16384x2048 := by
  simp only [V, hostOps0, hostOps0_1, hostOps0_2, List.flatten_cons, List.flatten_nil, List.append_nil, List.cons_append, List.nil_append]
  entry_read
  rfl

theorem entry_g : V m c main_v58 = shapeCast S1x2048 (shapeCast S2048 (m ((c : Thread nD τ).loc main_arg2)) shapeCasts_S1x2048_S2048) shapeCasts_S2048_S1x2048 := by
  simp only [V, hostOps0, hostOps0_1, hostOps0_2, List.flatten_cons, List.flatten_nil, List.append_nil, List.cons_append, List.nil_append]
  entry_read
  rfl

theorem entry_kg : V m c main_v60 = shapeCast S1x512 (shapeCast S512 (m ((c : Thread nD τ).loc main_arg4)) shapeCasts_S1x512_S512) shapeCasts_S512_S1x512 := by
  simp only [V, hostOps0, hostOps0_1, hostOps0_2, List.flatten_cons, List.flatten_nil, List.append_nil, List.cons_append, List.nil_append]
  entry_read
  rfl

theorem entry_in : V m c main_v47 = hostIn (m ((c : Thread nD τ).loc main_arg3)) := by
  simp only [V, hostOps0, hostOps0_1, hostOps0_2, List.flatten_cons, List.flatten_nil, List.append_nil, List.cons_append, List.nil_append]
  entry_read
  rfl

theorem entry_uk : V m c main_v52 = hostUk (m ((c : Thread nD τ).loc main_arg5)) := by
  simp only [V, hostOps0, hostOps0_1, hostOps0_2, List.flatten_cons, List.flatten_nil, List.append_nil, List.cons_append, List.nil_append]
  entry_read
  rfl

theorem entry_uv : V m c main_v55 = hostUv (m ((c : Thread nD τ).loc main_arg5)) := by
  simp only [V, hostOps0, hostOps0_1, hostOps0_2, List.flatten_cons, List.flatten_nil, List.append_nil, List.cons_append, List.nil_append]
  entry_read
  rfl

end

/-- The integer zero made a float is zero. -/
theorem sitofp_zero : FloatOps.sitofp (F := Ideal) .bf16 0#32 = (0 : EReal) := by
  show (((0#32).toInt : ℝ) : EReal) = 0
  simp

theorem hostIn_at (w : FVec Ideal S1x2048x5184 .f32) (k : Fin 2048) (j : Fin 576) :
    hostIn w (ix2 k (Fin.castLE (by omega) j)) = w (ix3 0 k ⟨1536 + j.val, by omega⟩) := by
  pointwise [hostIn]
  rw [dif_pos (show (Fin.castLE (by omega : 576 ≤ 640) j).val < 576 from j.isLt)]
  rfl

theorem hostIn_pad (w : FVec Ideal S1x2048x5184 .f32) (k : Fin 2048) (j : Fin 640) (hj : 576 ≤ j.val) : hostIn w (ix2 k j) = (0 : EReal) := by
  pointwise [hostIn]
  rw [dif_neg (by omega)]
  exact sitofp_zero

theorem hostUk_at (w : FVec Ideal S1x512x2048 .f32) (l : Fin 512) (h : Fin 8) (j : Fin 128) :
    hostUk w (ix2 l ⟨128 * h.val + j.val, by omega⟩) = w (ix3 0 l ⟨256 * h.val + j.val, by omega⟩) := by
  pointwise [hostUk]
  exact congrArg (fun x => w (ix3 0 l x)) (Fin.ext (show h.val * 256 + j.val = 256 * h.val + j.val by omega))

theorem hostUv_at (w : FVec Ideal S1x512x2048 .f32) (l : Fin 512) (h : Fin 8) (j : Fin 128) :
    hostUv w (ix2 l ⟨128 * h.val + j.val, by omega⟩) = w (ix3 0 l ⟨256 * h.val + 128 + j.val, by omega⟩) := by
  pointwise [hostUv]
  exact congrArg (fun x => w (ix3 0 l x)) (Fin.ext (show h.val * 256 + (128 + j.val) = 256 * h.val + 128 + j.val by omega))

theorem slabs_1 (f : FVec Ideal S1x16384x128 .f32) (a b : FVec Ideal S16384x32 .f32) (d : FVec Ideal S16384x64 .f32) (r : Fin 16384) (j : Fin 128)
    (h : j.val < 32) : slabs f a b d (ix3 1 r j) = a (ix2 r ⟨j.val, h⟩) := by
  pointwise [slabs, two, one, three]
  rw [dif_pos h]

theorem slabs_2 (f : FVec Ideal S1x16384x128 .f32) (a b : FVec Ideal S16384x32 .f32) (d : FVec Ideal S16384x64 .f32) (r : Fin 16384) (j : Fin 128)
    (h : 32 ≤ j.val) (h' : j.val < 64) : slabs f a b d (ix3 1 r j) = b (ix2 r ⟨j.val - 32, by omega⟩) := by
  pointwise [slabs, two, one, three]
  rw [dif_neg (by omega), dif_pos (by omega)]

theorem slabs_3 (f : FVec Ideal S1x16384x128 .f32) (a b : FVec Ideal S16384x32 .f32) (d : FVec Ideal S16384x64 .f32) (r : Fin 16384) (j : Fin 128)
    (h : 64 ≤ j.val) : slabs f a b d (ix3 1 r j) = d (ix2 r ⟨j.val - 64, by omega⟩) := by
  pointwise [slabs, two, one, three]
  rw [dif_neg (by omega), dif_neg (by omega)]
  exact congrArg (fun x => d (ix2 r x)) (Fin.ext (show j.val - 32 - 32 = j.val - 64 by omega))

end Cert.Kernel5Ideal.Latent

end
-- ==== Proof.Latent.Table.lean ====
/-
  The rotary table as the host lays it out for the latent's call: two slabs, the second of the cosines twice and ones, and of the
  sines negated, the sines and zeros.
-/
module

public import proofs.«01_k».proof.Proof.Latent.Host
public import Idealize.ShloMosaic.Lib.StableHlo.RunRead

@[expose] public section

set_option maxRecDepth 16384

noncomputable section

namespace Cert.Kernel5Ideal.Latent

open Cert.Kernel5Ideal Cert.Kernel5Ideal.Gen
open Idealize.ShloMosaic Idealize.ShloMosaic.TcCoe Idealize.SL.Sem

variable (m : (ℓ : Loc nD τ sig) → Buf (Elt Ideal) ℓ) (c : Dev nD)

theorem three_congr {a a' b b' : FVec Ideal S16384x32 .f32} {d d' : FVec Ideal S16384x64 .f32} (ha : a = a') (hb : b = b') (hd : d = d') :
    three a b d = three a' b' d' := by
  rw [ha, hb, hd]

theorem entry_cos : ∃ f, V m c main_v36 = slabs f (Host.cos (hostAng (m ((c : Thread nD τ).loc main_arg1))))
    (Host.cos (hostAng (m ((c : Thread nD τ).loc main_arg1)))) (broadcastInDim S16384x64 ![] bcast_S_S16384x64 (constant S_ .f32 0x3F800000#32)) := by
  simp only [V, hostOps0, hostOps0_1, hostOps0_2, List.flatten_cons, List.flatten_nil, List.append_nil, List.cons_append, List.nil_append]
  after_reads_simp
  refine ⟨_, congrArg (two _) ?_⟩
  after_reads_simp
  refine congrArg one ?_
  refine three_congr ?_ ?_ ?_
  · after_reads_simp; rfl
  · after_reads_simp; rfl
  · after_reads_simp; rfl

theorem entry_sin : ∃ f, V m c main_v43 = slabs f (Host.negf (Host.sin (hostAng (m ((c : Thread nD τ).loc main_arg1)))))
    (Host.sin (hostAng (m ((c : Thread nD τ).loc main_arg1)))) (broadcastInDim S16384x64 ![] bcast_S_S16384x64 (constant S_ .f32 0x00000000#32)) := by
  simp only [V, hostOps0, hostOps0_1, hostOps0_2, List.flatten_cons, List.flatten_nil, List.append_nil, List.cons_append, List.nil_append]
  after_reads_simp
  refine ⟨_, congrArg (two _) ?_⟩
  after_reads_simp
  refine congrArg one ?_
  refine three_congr ?_ ?_ ?_
  · after_reads_simp; rfl
  · after_reads_simp; rfl
  · after_reads_simp; rfl

end Cert.Kernel5Ideal.Latent

end
-- ==== Proof.Latent.Rows.lean ====
/-
  What one row of the residual stream comes to in the latent's kernel, as functions of the row.
-/
module

public import proofs.«01_k».proof.Proof.Rest.Rows

@[expose] public section

noncomputable section

namespace Cert.Rows

open Idealize.ShloMosaic

/-- A lane of the latent: the normalized row times the lane's column. -/
def latent (x g w : Fin 2048 → EReal) : EReal :=
  ∑ k, x k * inv x * g k * w k

/-- The reciprocal of the latent's root mean square. -/
def inv512 (y : Fin 512 → EReal) : EReal :=
  Ideal.rsqrt (Ideal.div (∑ l, y l * y l) (Ideal.ofBits .f32 1140850688#32) + Ideal.ofBits .f32 897988541#32)

/-- A lane of the keys or the values: the normalized latent times the lane's column. -/
def up (y g w : Fin 512 → EReal) : EReal :=
  ∑ l, y l * inv512 y * g l * w l

end Cert.Rows

end
-- ==== Proof.Latent.Ref.lean ====
/-
  The reference of the norm and the latent, its results in parts: rows normalized, the latent, the rotary lanes, the keys and
  values; each part read at a row and a lane.
-/
module

public import proofs.«01_k».proof.Proof.Gen.Reference5Ideal.Run
public import proofs.«01_k».proof.Proof.Latent.Rows
public import Idealize.ShloMosaic.Lib.Claim
public import Idealize.ShloMosaic.Lib.Pointwise

@[expose] public section

set_option maxRecDepth 16384

noncomputable section

namespace Cert.Reference5Ideal.Parts

open Cert.Reference5Ideal Cert.Reference5Ideal.Gen
open Idealize.ShloMosaic Idealize.ShloMosaic.TcCoe Idealize.SL.Sem Idealize.ShloMosaic.StableHlo

/-- Rows divided by their root mean square, times a weight per lane. -/
def normed (x : FVec Ideal S1x16384x2048 .f32) (g : FVec Ideal S2048 .f32) : FVec Ideal S1x16384x2048 .f32 :=
  mulf (mulf x (broadcastInDim S1x16384x2048 ![0, 1, 2] bcast_S1x16384x1_S1x16384x2048_0_1_2 (Host.rsqrt (addf
    (Host.divf (broadcastInDim S1x16384x1 ![0, 1] bcast_S1x16384_S1x16384x1_0_1
      (Host.reduceAdd (mulf x x) (constant S_ .f32 0x00000000#32) reducesTo_S1x16384x2048_S1x16384_d2 h_S_))
      (broadcastInDim S1x16384x1 ![] bcast_S_S1x16384x1 (constant S_ .f32 0x45000000#32)))
    (broadcastInDim S1x16384x1 ![] bcast_S_S1x16384x1 (constant S_ .f32 0x358637BD#32))))))
    (broadcastInDim S1x16384x2048 ![0, 1, 2] bcast_S1x1x2048_S1x16384x2048_0_1_2 (broadcastInDim S1x1x2048 ![2] bcast_S2048_S1x1x2048_2 g))

/-- The latent and the rotary lanes of the rows. -/
def lat (x : FVec Ideal S1x16384x2048 .f32) (g : FVec Ideal S1x2048 .f32) (w : FVec Ideal S1x2048x5184 .f32) : FVec Ideal S1x16384x576 .f32 :=
  Host.dotGeneral dot_S1x16384x2048_S2048x576_S1x16384x576_2_0_01_1_n_n none (normed x (shapeCast _ g shapeCasts_S1x2048_S2048))
    (extractStridedSlice S2048x576 ![0, 1536] (shapeCast _ w shapeCasts_S1x2048x5184_S2048x5184) slices_S2048x5184_S2048x576_0_1536)

/-- The latent alone. -/
def ckv (y : FVec Ideal S1x16384x576 .f32) : FVec Ideal S1x16384x512 .f32 :=
  extractStridedSlice S1x16384x512 ![0, 0, 0] y slices_S1x16384x576_S1x16384x512_0_0_0

/-- The rotary lanes, as one head's. -/
def pe (y : FVec Ideal S1x16384x576 .f32) : FVec Ideal S1x16384x1x64 .f32 :=
  broadcastInDim S1x16384x1x64 ![0, 1, 3] bcast_S1x16384x64_S1x16384x1x64_0_1_3
    (extractStridedSlice S1x16384x64 ![0, 0, 512] y slices_S1x16384x576_S1x16384x64_0_0_512)

/-- The latent's rows divided by their root mean square, times a weight per lane. -/
def cnorm (x : FVec Ideal S1x16384x512 .f32) (g : FVec Ideal S512 .f32) : FVec Ideal S1x16384x512 .f32 :=
  mulf (mulf x (broadcastInDim S1x16384x512 ![0, 1, 2] bcast_S1x16384x1_S1x16384x512_0_1_2 (Host.rsqrt (addf
    (Host.divf (broadcastInDim S1x16384x1 ![0, 1] bcast_S1x16384_S1x16384x1_0_1
      (Host.reduceAdd (mulf x x) (constant S_ .f32 0x00000000#32) reducesTo_S1x16384x512_S1x16384_d2 h_S_))
      (broadcastInDim S1x16384x1 ![] bcast_S_S1x16384x1 (constant S_ .f32 0x44000000#32)))
    (broadcastInDim S1x16384x1 ![] bcast_S_S1x16384x1 (constant S_ .f32 0x358637BD#32))))))
    (broadcastInDim S1x16384x512 ![0, 1, 2] bcast_S1x1x512_S1x16384x512_0_1_2 (broadcastInDim S1x1x512 ![2] bcast_S512_S1x1x512_2 g))

/-- The keys' plain lanes and the values, side by side. -/
def kv (x : FVec Ideal S1x16384x512 .f32) (g : FVec Ideal S1x512 .f32) (w : FVec Ideal S1x512x2048 .f32) : FVec Ideal S1x16384x2048 .f32 :=
  Host.dotGeneral dot_S1x16384x512_S512x2048_S1x16384x2048_2_0_01_1_n_n none (cnorm x (shapeCast _ g shapeCasts_S1x512_S512))
    (shapeCast _ w shapeCasts_S1x512x2048_S512x2048)

/-- The angles of the positions. -/
def ang (p : IVec S1x16384 32) : FVec Ideal S1x16384x1x32 .f32 :=
  mulf (broadcastInDim S1x16384x1x32 ![0, 1, 2, 3] bcast_S1x16384x1x1_S1x16384x1x32_0_1_2_3
      (broadcastInDim S1x16384x1x1 ![0, 1] bcast_S1x16384_S1x16384x1x1_0_1 (sitofp .f32 p)))
    (broadcastInDim S1x16384x1x32 ![0, 1, 2, 3] bcast_S1x1x1x32_S1x16384x1x32_0_1_2_3 (broadcastInDim S1x1x1x32 ![3] bcast_S32_S1x1x1x32_3
      (Host.powf (broadcastInDim S32 ![] bcast_S_S32 (constant S_ .f32 0x461C4000#32)) (Host.negf (Host.divf
        (mulf (sitofp .f32 (iotaInDim S32 32 0)) (broadcastInDim S32 ![] bcast_S_S32 (constant S_ .f32 0x40000000#32)))
        (broadcastInDim S32 ![] bcast_S_S32 (constant S_ .f32 0x42800000#32)))))))

/-- The rotary lanes rotated. -/
def rot (y : FVec Ideal S1x16384x1x64 .f32) (a : FVec Ideal S1x16384x1x32 .f32) : FVec Ideal S1x16384x1x64 .f32 :=
  concatenate S1x16384x1x64 3
    [⟨S1x16384x1x32, subf (mulf (extractStridedSlice S1x16384x1x32 ![0, 0, 0, 0] y slices_S1x16384x1x64_S1x16384x1x32_0_0_0_0) (Host.cos a))
        (mulf (extractStridedSlice S1x16384x1x32 ![0, 0, 0, 32] y slices_S1x16384x1x64_S1x16384x1x32_0_0_0_32) (Host.sin a))⟩,
      ⟨S1x16384x1x32, addf (mulf (extractStridedSlice S1x16384x1x32 ![0, 0, 0, 32] y slices_S1x16384x1x64_S1x16384x1x32_0_0_0_32) (Host.cos a))
        (mulf (extractStridedSlice S1x16384x1x32 ![0, 0, 0, 0] y slices_S1x16384x1x64_S1x16384x1x32_0_0_0_0) (Host.sin a))⟩]
    concatenates_S1x16384x1x32_S1x16384x1x32_S1x16384x1x64_d3

/-- The keys of all heads: each head's plain lanes, the rotary lanes and zeros. -/
def keys (y : FVec Ideal S1x16384x2048 .f32) (z : FVec Ideal S1x16384x1x64 .f32) : FVec Ideal S16384x2048 .bf16 :=
  truncf .bf16 (shapeCast _ (concatenate S1x16384x8x256 3
    [⟨S1x16384x8x128, extractStridedSlice S1x16384x8x128 ![0, 0, 0, 0] (shapeCast _ y shapeCasts_S1x16384x2048_S1x16384x8x256) slices_S1x16384x8x256_S1x16384x8x128_0_0_0_0⟩,
      ⟨S1x16384x8x64, broadcastInDim S1x16384x8x64 ![0, 1, 2, 3] bcast_S1x16384x1x64_S1x16384x8x64_0_1_2_3 z⟩,
      ⟨S1x16384x8x64, broadcastInDim S1x16384x8x64 ![] bcast_S_S1x16384x8x64 (constant (F := Ideal) S_ .f32 0x00000000#32)⟩]
    concatenates_S1x16384x8x128_S1x16384x8x64_S1x16384x8x64_S1x16384x8x256_d3) shapeCasts_S1x16384x8x256_S16384x2048) bitsLt_bf16_f32

/-- The values of all heads, transposed. -/
def values (y : FVec Ideal S1x16384x2048 .f32) : FVec Ideal S1024x16384 .bf16 :=
  truncf .bf16 (transpose S1024x16384 [1, 0] (shapeCast _ (extractStridedSlice S1x16384x8x128 ![0, 0, 0, 128]
    (shapeCast _ y shapeCasts_S1x16384x2048_S1x16384x8x256) slices_S1x16384x8x256_S1x16384x8x128_0_0_0_128)
    shapeCasts_S1x16384x8x128_S16384x1024) transposes_S16384x1024_S1024x16384_1_0) bitsLt_bf16_f32

/-- The rows normalized, as the first result. -/
def resA (x : FVec Ideal S1x16384x2048 .f32) (g : FVec Ideal S1x2048 .f32) : FVec Ideal S16384x2048 .bf16 :=
  truncf .bf16 (shapeCast _ (normed x (shapeCast _ g shapeCasts_S1x2048_S2048)) shapeCasts_S1x16384x2048_S16384x2048) bitsLt_bf16_f32

/-- The keys, as the second result. -/
def resK (x : FVec Ideal S1x16384x2048 .f32) (p : IVec S1x16384 32) (g : FVec Ideal S1x2048 .f32) (w : FVec Ideal S1x2048x5184 .f32)
    (kg : FVec Ideal S1x512 .f32) (wk : FVec Ideal S1x512x2048 .f32) : FVec Ideal S16384x2048 .bf16 :=
  keys (kv (ckv (lat x g w)) kg wk) (rot (pe (lat x g w)) (ang p))

/-- The values, as the third result. -/
def resV (x : FVec Ideal S1x16384x2048 .f32) (g : FVec Ideal S1x2048 .f32) (w : FVec Ideal S1x2048x5184 .f32)
    (kg : FVec Ideal S1x512 .f32) (wk : FVec Ideal S1x512x2048 .f32) : FVec Ideal S1024x16384 .bf16 :=
  values (kv (ckv (lat x g w)) kg wk)

section

variable (m : (ℓ : Loc nD τ sig) → Buf (Elt Ideal) ℓ) (c : Dev nD)

theorem resK_eq : Cert.Reference5Ideal.Value.res_main_v70 m c = resK (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

theorem resV_eq : Cert.Reference5Ideal.Value.res_main_v73 m c = resV (m ((c.tc : Thread nD τ).loc main_arg0))
      (m ((c.tc : Thread nD τ).loc main_arg2)) (m ((c.tc : Thread nD τ).loc main_arg3)) (m ((c.tc : Thread nD τ).loc main_arg4))
      (m ((c.tc : Thread nD τ).loc main_arg5)) := rfl

end

theorem normed_at (x : FVec Ideal S1x16384x2048 .f32) (g : FVec Ideal S1x2048 .f32) (r : Fin 16384) (j : Fin 2048) :
    normed x (shapeCast _ g shapeCasts_S1x2048_S2048) (ix3 0 r j) = x (ix3 0 r j) * Rows.inv (fun k => x (ix3 0 r k)) * g (ix2 0 j) := by
  pointwise [normed, Rows.inv]

theorem resA_at (x : FVec Ideal S1x16384x2048 .f32) (g : FVec Ideal S1x2048 .f32) (r : Fin 16384) (j : Fin 2048) :
    resA x g (ix2 r j) = x (ix3 0 r j) * Rows.inv (fun k => x (ix3 0 r k)) * g (ix2 0 j) := by
  rw [← normed_at]
  pointwise [resA]

theorem lat_at (x : FVec Ideal S1x16384x2048 .f32) (g : FVec Ideal S1x2048 .f32) (w : FVec Ideal S1x2048x5184 .f32) (r : Fin 16384) (j : Fin 576) :
    lat x g w (ix3 0 r j) = Rows.latent (fun k => x (ix3 0 r k)) (fun k => g (ix2 0 k)) (fun k => w (ix3 0 k ⟨1536 + j.val, by omega⟩)) := by
  pointwise [lat, Rows.latent]
  simp only [normed_at]

theorem cnorm_at (x : FVec Ideal S1x16384x512 .f32) (g : FVec Ideal S1x512 .f32) (r : Fin 16384) (l : Fin 512) :
    cnorm x (shapeCast _ g shapeCasts_S1x512_S512) (ix3 0 r l) = x (ix3 0 r l) * Rows.inv512 (fun k => x (ix3 0 r k)) * g (ix2 0 l) := by
  pointwise [cnorm, Rows.inv512]

theorem ckv_at (y : FVec Ideal S1x16384x576 .f32) (r : Fin 16384) (l : Fin 512) : ckv y (ix3 0 r l) = y (ix3 0 r ⟨l.val, by omega⟩) := by
  pointwise [ckv]

theorem kv_at (y : FVec Ideal S1x16384x576 .f32) (g : FVec Ideal S1x512 .f32) (w : FVec Ideal S1x512x2048 .f32) (r : Fin 16384) (j : Fin 2048) :
    kv (ckv y) g w (ix3 0 r j) = Rows.up (fun l => y (ix3 0 r ⟨l.val, by omega⟩)) (fun l => g (ix2 0 l)) (fun l => w (ix3 0 l j)) := by
  pointwise [kv, Rows.up]
  simp only [cnorm_at, ckv_at]

theorem values_at (y : FVec Ideal S1x16384x2048 .f32) (r : Fin 16384) (h : Fin 8) (j : Fin 128) :
    values y (ix2 ⟨128 * h.val + j.val, by omega⟩ r) = y (ix3 0 r ⟨256 * h.val + 128 + j.val, by omega⟩) := by
  pointwise [values]
  exact congrArg (fun x => y (ix3 0 r x)) (Fin.ext (show h.val * 256 + (128 + j.val) = 256 * h.val + 128 + j.val by omega))

theorem keys_plain (y : FVec Ideal S1x16384x2048 .f32) (z : FVec Ideal S1x16384x1x64 .f32) (r : Fin 16384) (h : Fin 8) (j : Fin 128) :
    keys y z (ix2 r ⟨256 * h.val + j.val, by omega⟩) = y (ix3 0 r ⟨256 * h.val + j.val, by omega⟩) := by
  pointwise [keys]
  rw [dif_pos (by omega)]
  exact congrArg (fun x => y (ix3 0 r x)) (Fin.ext (show h.val * 256 + (256 * h.val + j.val) % 256 = 256 * h.val + j.val by omega))

theorem keys_rot (y : FVec Ideal S1x16384x2048 .f32) (z : FVec Ideal S1x16384x1x64 .f32) (r : Fin 16384) (h : Fin 8) (j : Fin 128) (hj : j.val < 64) :
    keys y z (ix2 r ⟨256 * h.val + 128 + j.val, by omega⟩) = z (ix4 0 r 0 ⟨j.val, hj⟩) := by
  pointwise [keys]
  rw [dif_neg (by omega), dif_pos (by omega)]
  exact congrArg (fun x => z (ix4 0 r 0 x)) (Fin.ext (show (256 * h.val + 128 + j.val) % 256 - 128 = j.val by omega))

theorem keys_pad (y : FVec Ideal S1x16384x2048 .f32) (z : FVec Ideal S1x16384x1x64 .f32) (r : Fin 16384) (h : Fin 8) (j : Fin 128) (hj : 64 ≤ j.val) :
    keys y z (ix2 r ⟨256 * h.val + 128 + j.val, by omega⟩) = 0 := by
  pointwise [keys]
  rw [dif_neg (by omega), dif_neg (by omega)]

/-- A lane by either of two spellings of its number. -/
theorem lane_eq (y : FVec Ideal S1x16384x576 .f32) (r : Fin 16384) (a b : ℕ) (h : a = b) (ha : a < 576) :
    y (ix3 0 r ⟨a, ha⟩) = y (ix3 0 r ⟨b, h ▸ ha⟩) := by
  subst h
  rfl

theorem rot_lo (y : FVec Ideal S1x16384x576 .f32) (a : FVec Ideal S1x16384x1x32 .f32) (r : Fin 16384) (j : Fin 64) (h : j.val < 32) :
    rot (pe y) a (ix4 0 r 0 j) = y (ix3 0 r ⟨512 + j.val, by omega⟩) * Ideal.cos (a (ix4 0 r 0 ⟨j.val, h⟩))
      - y (ix3 0 r ⟨544 + j.val, by omega⟩) * Ideal.sin (a (ix4 0 r 0 ⟨j.val, h⟩)) := by
  pointwise [rot, pe]
  rw [dif_pos h, lane_eq y r (512 + (32 + j.val)) (544 + j.val) (by omega) (by omega)]

theorem rot_hi (y : FVec Ideal S1x16384x576 .f32) (a : FVec Ideal S1x16384x1x32 .f32) (r : Fin 16384) (j : Fin 64) (h : 32 ≤ j.val) :
    rot (pe y) a (ix4 0 r 0 j) = y (ix3 0 r ⟨512 + j.val, by omega⟩) * Ideal.cos (a (ix4 0 r 0 ⟨j.val - 32, by omega⟩))
      + y (ix3 0 r ⟨480 + j.val, by omega⟩) * Ideal.sin (a (ix4 0 r 0 ⟨j.val - 32, by omega⟩)) := by
  pointwise [rot, pe]
  rw [dif_neg (by omega), lane_eq y r (512 + (32 + (j.val - 32))) (512 + j.val) (by omega) (by omega),
    lane_eq y r (512 + (j.val - 32)) (480 + j.val) (by omega) (by omega)]

end Cert.Reference5Ideal.Parts

end
-- ==== Proof.Latent.Blocks.lean ====
/-
  The blocks the latent's kernel reads at a grid point, as entries of the arguments.
-/
module

public import proofs.«01_k».proof.Proof.Latent.Table
public import proofs.«01_k».proof.Proof.Latent.Ref

@[expose] public section

set_option maxRecDepth 16384

noncomputable section

namespace Cert.Kernel5Ideal.Latent

open Cert.Kernel5Ideal Cert.Kernel5Ideal.Gen
open Idealize.ShloMosaic Idealize.ShloMosaic.TcCoe Idealize.SL.Sem

/-- The block each window takes at a grid point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![1, t.val, 0] ∧ win0_7.index t = ![1, t.val, 0]
    ∧ win0_8.index t = ![t.val, 0] ∧ win0_9.index t = ![t.val, 0] ∧ win0_10.index t = ![0, t.val] ∧ t.val < 32 :=
  (by decide +kernel : ∀ t : Fin grid0.N, _)

/-- The kernel's angles are the reference's. -/
theorem ang_eq (p : IVec S1x16384 32) (r : Fin 16384) (i : Fin 32) : hostAng p (ix2 r i) = Cert.Reference5Ideal.Parts.ang p (ix4 0 r 0 i) := by
  pointwise [hostAng, Cert.Reference5Ideal.Parts.ang]

variable (m : (ℓ : Loc nD τ sig) → Buf (Elt Ideal) ℓ) (c : Dev nD) (t : Fin cfg0.N) (ht : t.val < 32)

/-- The row's lane of the residual stream. -/
theorem x_at (x : FVec Ideal S1x16384x2048 .f32) (r : Fin 16384) (k : Fin 2048) :
    shapeCast S16384x2048 x shapeCasts_S1x16384x2048_S16384x2048 (ix2 r k) = x (ix3 0 r k) := by
  pointwise

theorem b0_at (r : Fin 512) (k : Fin 2048) :
    b0 m c t (ix2 r k) = m ((c : Thread nD τ).loc main_arg0) (ix3 0 ⟨512 * t.val + r.val, by omega⟩ k) := by
  have e : ((cfg0.win 0).blk t).view.emb (ix2 r k) = ix2 (⟨512 * t.val + r.val, by omega⟩ : Fin 16384) k := by blk_ext [idx t]
  show V m c main_v56 (((cfg0.win 0).blk t).view.emb (ix2 r k)) = _
  rw [e, entry_x]
  exact x_at _ _ _

theorem b1_at (k : Fin 2048) : b1 m c t (ix2 0 k) = m ((c : Thread nD τ).loc main_arg2) (ix2 0 k) := by
  have e : ((cfg0.win 1).blk t).view.emb (ix2 0 k) = ix2 (0 : Fin 1) k := by blk_ext [idx t]
  show V m c main_v58 (((cfg0.win 1).blk t).view.emb (ix2 0 k)) = _
  rw [e, entry_g]
  pointwise

theorem b3_at (l : Fin 512) : b3 m c t (ix2 0 l) = m ((c : Thread nD τ).loc main_arg4) (ix2 0 l) := by
  have e : ((cfg0.win 3).blk t).view.emb (ix2 0 l) = ix2 (0 : Fin 1) l := by blk_ext [idx t]
  show V m c main_v60 (((cfg0.win 3).blk t).view.emb (ix2 0 l)) = _
  rw [e, entry_kg]
  pointwise

theorem b2_eq (k : Fin 2048) (j : Fin 640) : b2 m c t (ix2 k j) = hostIn (m ((c : Thread nD τ).loc main_arg3)) (ix2 k j) := by
  have e : ((cfg0.win 2).blk t).view.emb (ix2 k j) = ix2 k j := by blk_ext [idx t]
  show V m c main_v47 (((cfg0.win 2).blk t).view.emb (ix2 k j)) = _
  rw [e, entry_in]

theorem b4_eq (l : Fin 512) (j : Fin 1024) : b4 m c t (ix2 l j) = hostUk (m ((c : Thread nD τ).loc main_arg5)) (ix2 l j) := by
  have e : ((cfg0.win 4).blk t).view.emb (ix2 l j) = ix2 l j := by blk_ext [idx t]
  show V m c main_v52 (((cfg0.win 4).blk t).view.emb (ix2 l j)) = _
  rw [e, entry_uk]

theorem b5_eq (l : Fin 512) (j : Fin 1024) : b5 m c t (ix2 l j) = hostUv (m ((c : Thread nD τ).loc main_arg5)) (ix2 l j) := by
  have e : ((cfg0.win 5).blk t).view.emb (ix2 l j) = ix2 l j := by blk_ext [idx t]
  show V m c main_v55 (((cfg0.win 5).blk t).view.emb (ix2 l j)) = _
  rw [e, entry_uv]

/-- The angle of a row of the block. -/
abbrev rang (r : Fin 512) (i : Fin 32) : EReal :=
  Cert.Reference5Ideal.Parts.ang (m ((c : Thread nD τ).loc main_arg1)) (ix4 0 ⟨512 * t.val + r.val, by omega⟩ 0 i)

theorem b6_emb (r : Fin 512) (j : Fin 128) :
    ((cfg0.win 6).blk t).view.emb (ix3 0 r j) = ix3 (1 : Fin 2) (⟨512 * t.val + r.val, by omega⟩ : Fin 16384) j := by blk_ext [idx t]

theorem b7_emb (r : Fin 512) (j : Fin 128) :
    ((cfg0.win 7).blk t).view.emb (ix3 0 r j) = ix3 (1 : Fin 2) (⟨512 * t.val + r.val, by omega⟩ : Fin 16384) j := by blk_ext [idx t]

theorem b6_lo (r : Fin 512) (j : Fin 128) (h : j.val < 32) : b6 m c t (ix3 0 r j) = Ideal.cos (rang m c t ht r ⟨j.val, h⟩) := by
  obtain ⟨f, hf⟩ := entry_cos m c
  show V m c main_v36 (((cfg0.win 6).blk t).view.emb (ix3 0 r j)) = _
  rw [b6_emb t ht, hf, slabs_1 _ _ _ _ _ _ h, rang, ← ang_eq]
  rfl

theorem b6_mid (r : Fin 512) (j : Fin 128) (h : 32 ≤ j.val) (h' : j.val < 64) :
    b6 m c t (ix3 0 r j) = Ideal.cos (rang m c t ht r ⟨j.val - 32, by omega⟩) := by
  obtain ⟨f, hf⟩ := entry_cos m c
  show V m c main_v36 (((cfg0.win 6).blk t).view.emb (ix3 0 r j)) = _
  rw [b6_emb t ht, hf, slabs_2 _ _ _ _ _ _ h h', rang, ← ang_eq]
  rfl

theorem b7_lo (r : Fin 512) (j : Fin 128) (h : j.val < 32) : b7 m c t (ix3 0 r j) = - Ideal.sin (rang m c t ht r ⟨j.val, h⟩) := by
  obtain ⟨f, hf⟩ := entry_sin m c
  show V m c main_v43 (((cfg0.win 7).blk t).view.emb (ix3 0 r j)) = _
  rw [b7_emb t ht, hf, slabs_1 _ _ _ _ _ _ h, rang, ← ang_eq]
  rfl

theorem b7_mid (r : Fin 512) (j : Fin 128) (h : 32 ≤ j.val) (h' : j.val < 64) :
    b7 m c t (ix3 0 r j) = Ideal.sin (rang m c t ht r ⟨j.val - 32, by omega⟩) := by
  obtain ⟨f, hf⟩ := entry_sin m c
  show V m c main_v43 (((cfg0.win 7).blk t).view.emb (ix3 0 r j)) = _
  rw [b7_emb t ht, hf, slabs_2 _ _ _ _ _ _ h h', rang, ← ang_eq]
  rfl

include ht in
theorem b7_hi (r : Fin 512) (j : Fin 128) (h : 64 ≤ j.val) : b7 m c t (ix3 0 r j) = (0 : EReal) := by
  obtain ⟨f, hf⟩ := entry_sin m c
  show V m c main_v43 (((cfg0.win 7).blk t).view.emb (ix3 0 r j)) = _
  rw [b7_emb t ht, hf, slabs_3 _ _ _ _ _ _ h]
  pointwise

end Cert.Kernel5Ideal.Latent

end
-- ==== Proof.Latent.Point.lean ====
/-
  The latent's kernel at one row of a block: each stored entry as a function of the row and of the weights' columns.
-/
module

public import proofs.«01_k».proof.Proof.Latent.Step
public import proofs.«01_k».proof.Proof.Latent.Rows

@[expose] public section

set_option maxRecDepth 16384

noncomputable section

namespace Cert.Kernel5Ideal.Latent

open Cert.Kernel5Ideal Cert.Kernel5Ideal.Gen
open Idealize.ShloMosaic Idealize.ShloMosaic.TcCoe Idealize.SL.Sem

variable (x : FVec Ideal S512x2048 .f32) (g : FVec Ideal S1x2048 .f32) (w : FVec Ideal S2048x640 .bf16) (kg : FVec Ideal S1x512 .f32)
  (r : Fin 512)

/-- A lane of the latent at a row of a block. -/
def lat (j : Fin 640) : EReal :=
  Rows.latent (fun k => x (ix2 r k)) (fun k => g (ix2 0 k)) (fun k => w (ix2 k j))

theorem pay2_at (k : Fin 2048) : k0_pay2 (F := Ideal) x g (ix2 r k) = x (ix2 r k) * Rows.inv (fun k => x (ix2 r k)) * g (ix2 0 k) := by
  pointwise [k0_pay2, Rows.inv]

theorem pay3_at (j : Fin 640) : k0_pay3 (F := Ideal) x g w (ix2 r j) = lat x g w r j := by
  pointwise [k0_pay3, lat, Rows.latent]
  simp only [pay2_at]

theorem pay4_at (l : Fin 512) : k0_pay4 (F := Ideal) x g w (ix2 r l)
    = lat x g w r (Fin.castLE (by omega) l) * Rows.inv512 (fun l => lat x g w r (Fin.castLE (by omega) l)) := by
  pointwise [k0_pay4, Rows.inv512]
  simp only [pay3_at]
  rfl

theorem pay5_at (l : Fin 512) : k0_pay5 (F := Ideal) kg (ix2 r l) = kg (ix2 0 l) := by
  pointwise [k0_pay5]

theorem pay6_at (a b : FVec Ideal S512x512 .f32) (l : Fin 512) : k0_pay6 (F := Ideal) a b (ix2 r l) = a (ix2 r l) * b (ix2 r l) := by
  pointwise [k0_pay6]

theorem pay7_at (wk : FVec Ideal S512x1024 .bf16) (j : Fin 1024) :
    k0_pay7 (F := Ideal) (k0_pay4 x g w) (k0_pay5 kg) wk (ix2 r j)
      = Rows.up (fun l => lat x g w r (Fin.castLE (by omega) l)) (fun l => kg (ix2 0 l)) (fun l => wk (ix2 l j)) := by
  pointwise [k0_pay7, Rows.up]
  simp only [pay6_at, pay5_at, pay4_at]

theorem pay8_at (wv : FVec Ideal S1024x512 .bf16) (j : Fin 1024) :
    k0_pay18 (F := Ideal) (k0_pay8 (F := Ideal) (k0_pay4 x g w) (k0_pay5 kg) wv) (ix2 j r)
      = Rows.up (fun l => lat x g w r (Fin.castLE (by omega) l)) (fun l => kg (ix2 0 l)) (fun l => wv (ix2 j l)) := by
  pointwise [k0_pay18, k0_pay8, Rows.up]
  simp only [pay6_at, pay5_at, pay4_at, mul_comm]

theorem pay1_at (wv : FVec Ideal S512x1024 .bf16) (l : Fin 512) (j : Fin 1024) : k0_pay1 (F := Ideal) wv (ix2 j l) = wv (ix2 l j) := by
  pointwise [k0_pay1]

/-- The lanes whose partner lies above. -/
theorem lt32 : ∀ j : Fin 128, IntOp.cmpi .slt (BitVec.ofNat 32 j.val) 32#32 = if j.val < 32 then 1#1 else 0#1 := by decide +kernel

/-- A rotary lane of the first half: with the lane 32 above. -/
theorem pay9_lo (y : FVec Ideal S512x640 .f32) (cs sn : FVec Ideal S1x512x128 .f32) (j : Fin 128) (h : j.val < 32) :
    k0_pay9 (F := Ideal) y cs sn (ix2 r j)
      = y (ix2 r ⟨512 + j.val, by omega⟩) * cs (ix3 0 r j) + y (ix2 r ⟨544 + j.val, by omega⟩) * sn (ix3 0 r j) := by
  pointwise [k0_pay9]
  rw [lt32, if_pos h]
  have e : (⟨512 + (j.val + 128 - 96) % 128, by omega⟩ : Fin 640) = ⟨544 + j.val, by omega⟩ := Fin.ext (by dsimp only; omega)
  rw [← e]
  rfl

/-- Another rotary lane: with the lane 32 below. -/
theorem pay9_hi (y : FVec Ideal S512x640 .f32) (cs sn : FVec Ideal S1x512x128 .f32) (j : Fin 128) (h : 32 ≤ j.val) :
    k0_pay9 (F := Ideal) y cs sn (ix2 r j)
      = y (ix2 r ⟨512 + j.val, by omega⟩) * cs (ix3 0 r j) + y (ix2 r ⟨480 + j.val, by omega⟩) * sn (ix3 0 r j) := by
  pointwise [k0_pay9]
  rw [lt32, if_neg (by omega)]
  have e : (⟨512 + (j.val + 128 - 32) % 128, by omega⟩ : Fin 640) = ⟨480 + j.val, by omega⟩ := Fin.ext (by dsimp only; omega)
  rw [← e]
  rfl

end Cert.Kernel5Ideal.Latent

end
-- ==== Proof.Latent.Final.lean ====
/-
  The norm and the latent: the arrays after the launch are the reference's normalized rows, keys and values.
-/
module

public import proofs.«01_k».proof.Proof.Latent.Blocks
public import proofs.«01_k».proof.Proof.Latent.Point

@[expose] public section

set_option maxRecDepth 16384

noncomputable section

namespace Cert.Kernel5Ideal.Latent

open Cert.Kernel5Ideal Cert.Kernel5Ideal.Gen
open Idealize.ShloMosaic Idealize.ShloMosaic.TcCoe Idealize.SL.Sem

variable (m : (ℓ : Loc nD τ sig) → Buf (Elt Ideal) ℓ) (c : Dev nD)

/-- The reference's latent and rotary lanes, and its keys and values, over the arguments. -/
abbrev rlat : FVec Ideal Cert.Reference5Ideal.S1x16384x576 .f32 :=
  Cert.Reference5Ideal.Parts.lat (m ((c : Thread nD τ).loc main_arg0)) (m ((c : Thread nD τ).loc main_arg2)) (m ((c : Thread nD τ).loc main_arg3))
abbrev rkv : FVec Ideal Cert.Reference5Ideal.S1x16384x2048 .f32 :=
  Cert.Reference5Ideal.Parts.kv (Cert.Reference5Ideal.Parts.ckv (rlat m c)) (m ((c : Thread nD τ).loc main_arg4)) (m ((c : Thread nD τ).loc main_arg5))

/-- The reference's results over the arguments. -/
abbrev refA : FVec Ideal S16384x2048 .bf16 :=
  Cert.Reference5Ideal.Parts.resA (m ((c : Thread nD τ).loc main_arg0)) (m ((c : Thread nD τ).loc main_arg2))
abbrev refK : FVec Ideal S16384x2048 .bf16 :=
  Cert.Reference5Ideal.Parts.resK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
abbrev refV : FVec Ideal S1024x16384 .bf16 :=
  Cert.Reference5Ideal.Parts.resV (m ((c : Thread nD τ).loc main_arg0)) (m ((c : Thread nD τ).loc main_arg2))
    (m ((c : Thread nD τ).loc main_arg3)) (m ((c : Thread nD τ).loc main_arg4)) (m ((c : Thread nD τ).loc main_arg5))

section Point

variable (t : Fin cfg0.N) (ht : t.val < 32) (r : Fin 512)

/-- A lane of the latent, or a rotary lane, is the reference's. -/
theorem lat_at (j : Fin 640) (hj : j.val < 576) :
    lat (b0 m c t) (b1 m c t) (b2 m c t) r j = rlat m c (ix3 0 ⟨512 * t.val + r.val, by omega⟩ ⟨j.val, hj⟩) := by
  rw [rlat, Cert.Reference5Ideal.Parts.lat_at, lat]
  simp only [b0_at m c t ht, b1_at, b2_eq]
  have e : ∀ k, hostIn (m ((c : Thread nD τ).loc main_arg3)) (ix2 k j) = m ((c : Thread nD τ).loc main_arg3) (ix3 0 k ⟨1536 + j.val, by omega⟩) :=
    fun k => hostIn_at _ k ⟨j.val, hj⟩
  simp only [e]

/-- The lanes of the padding are zeros. -/
theorem lat_pad (j : Fin 640) (hj : 576 ≤ j.val) : lat (b0 m c t) (b1 m c t) (b2 m c t) r j = 0 := by
  rw [lat, Rows.latent]
  refine Finset.sum_eq_zero fun k _ => ?_
  rw [b2_eq, hostIn_pad _ _ _ hj, mul_zero]

/-- A lane of the keys or values is the reference's, by either's columns. -/
theorem up_at (w : Fin 512 → EReal) (J : Fin 2048) (hw : ∀ l, w l = m ((c : Thread nD τ).loc main_arg5) (ix3 0 l J)) :
    Rows.up (fun l => lat (b0 m c t) (b1 m c t) (b2 m c t) r (Fin.castLE (by omega) l)) (fun l => b3 m c t (ix2 0 l)) w
      = rkv m c (ix3 0 ⟨512 * t.val + r.val, by omega⟩ J) := by
  obtain rfl : w = fun l => m ((c : Thread nD τ).loc main_arg5) (ix3 0 l J) := funext hw
  rw [rkv, Cert.Reference5Ideal.Parts.kv_at]
  have e : ∀ l : Fin 512, lat (b0 m c t) (b1 m c t) (b2 m c t) r (Fin.castLE (by omega) l)
      = rlat m c (ix3 0 ⟨512 * t.val + r.val, by omega⟩ ⟨l.val, by omega⟩) := fun l => lat_at m c t ht r _ (show l.val < 576 by omega)
  simp only [e, b3_at]

theorem pointA (k : Fin 2048) : outA m c t (ix2 r k) = refA m c (ix2 ⟨512 * t.val + r.val, by omega⟩ k) := by
  rw [refA, outA_eq, pay2_at, Cert.Reference5Ideal.Parts.resA_at, b1_at]
  simp only [b0_at m c t ht]

theorem kn_at (h : Fin 8) (j : Fin 128) : kn m c t (ix2 r ⟨128 * h.val + j.val, by omega⟩)
    = rkv m c (ix3 0 ⟨512 * t.val + r.val, by omega⟩ ⟨256 * h.val + j.val, by omega⟩) := by
  rw [kn, pay7_at]
  refine up_at m c t ht r _ _ fun l => ?_
  rw [b4_eq, hostUk_at]

theorem kpe_at (j : Fin 128) (hj : j.val < 64) : kpe m c t (ix2 r j)
    = Cert.Reference5Ideal.Parts.rot (Cert.Reference5Ideal.Parts.pe (rlat m c)) (Cert.Reference5Ideal.Parts.ang (m ((c : Thread nD τ).loc main_arg1)))
      (ix4 0 ⟨512 * t.val + r.val, by omega⟩ 0 ⟨j.val, hj⟩) := by
  by_cases h : j.val < 32
  · rw [kpe, pay9_lo _ _ _ _ _ h, Cert.Reference5Ideal.Parts.rot_lo _ _ _ ⟨j.val, hj⟩ h, pay3_at, pay3_at, b6_lo m c t ht r j h, b7_lo m c t ht r j h,
      lat_at m c t ht r _ (by dsimp only; omega), lat_at m c t ht r _ (by dsimp only; omega), mul_neg, ← sub_eq_add_neg]
  · rw [kpe, pay9_hi _ _ _ _ _ (by omega), Cert.Reference5Ideal.Parts.rot_hi _ _ _ ⟨j.val, hj⟩ (by dsimp only; omega), pay3_at, pay3_at,
      b6_mid m c t ht r j (by omega) hj, b7_mid m c t ht r j (by omega) hj,
      lat_at m c t ht r _ (by dsimp only; omega), lat_at m c t ht r _ (by dsimp only; omega)]

include ht in
theorem kpe_pad (j : Fin 128) (hj : 64 ≤ j.val) : kpe m c t (ix2 r j) = (0 : EReal) := by
  rw [kpe, pay9_hi _ _ _ _ _ (by omega), pay3_at, lat_pad m c t r _ (by dsimp only; omega), b7_hi m c t ht r j hj, zero_mul, mul_zero, add_zero]

theorem pointK_plain (h : Fin 8) (j : Fin 128) : outK m c t (ix2 r ⟨256 * h.val + j.val, by omega⟩)
    = refK m c (ix2 ⟨512 * t.val + r.val, by omega⟩ ⟨256 * h.val + j.val, by omega⟩) := by
  rw [outK_plain m c t r h j _ rfl, kn_at m c t ht]
  exact (Cert.Reference5Ideal.Parts.keys_plain _ _ _ h j).symm

theorem pointK_rot (h : Fin 8) (j : Fin 128) : outK m c t (ix2 r ⟨256 * h.val + 128 + j.val, by omega⟩)
    = refK m c (ix2 ⟨512 * t.val + r.val, by omega⟩ ⟨256 * h.val + 128 + j.val, by omega⟩) := by
  rw [outK_rot m c t r h j _ rfl]
  by_cases hj : j.val < 64
  · rw [kpe_at m c t ht r j hj]
    exact (Cert.Reference5Ideal.Parts.keys_rot _ _ _ h j hj).symm
  · rw [kpe_pad m c t ht r j (by omega)]
    exact (Cert.Reference5Ideal.Parts.keys_pad _ _ _ h j (by omega)).symm

theorem pointK (J : Fin 2048) : outK m c t (ix2 r J) = refK m c (ix2 ⟨512 * t.val + r.val, by omega⟩ J) := by
  by_cases h : J.val % 256 < 128
  · have e : J = ⟨256 * (J.val / 256) + J.val % 256, by omega⟩ := Fin.ext (by dsimp only; omega)
    rw [e]
    exact pointK_plain m c t ht r ⟨J.val / 256, by omega⟩ ⟨J.val % 256, h⟩
  · have e : J = ⟨256 * (J.val / 256) + 128 + (J.val % 256 - 128), by omega⟩ := Fin.ext (by dsimp only; omega)
    rw [e]
    exact pointK_rot m c t ht r ⟨J.val / 256, by omega⟩ ⟨J.val % 256 - 128, by omega⟩

end Point

/-- The scratch holds the value columns transposed after every point. -/
theorem wT_at (n : ℕ) : ∀ (hn : n < cfg0.N) (j : Fin 1024) (l : Fin 512),
    wT m c ⟨n, hn⟩ (ix2 j l) = hostUv (m ((c : Thread nD τ).loc main_arg5)) (ix2 l j) := by
  induction n with
  | zero =>
    intro hn j l
    rw [wT_first m c ⟨0, hn⟩ rfl, pay1_at, b5_eq]
  | succ n ih =>
    intro hn j l
    have ht : n + 1 < 32 := (idx ⟨n + 1, hn⟩).2.2.2.2.2.2.2.2.2.2.2
    rw [wT_next m c ⟨n + 1, hn⟩ (by dsimp only; omega)]
    exact ih (by omega) j l

theorem pointV (t : Fin cfg0.N) (ht : t.val < 32) (r : Fin 512) (J : Fin 1024) :
    outV m c t (ix2 J r) = refV m c (ix2 J ⟨512 * t.val + r.val, by omega⟩) := by
  have e : J = ⟨128 * (J.val / 128) + J.val % 128, by omega⟩ := Fin.ext (by dsimp only; omega)
  rw [e, outV_eq, pay8_at]
  refine (up_at m c t ht r _ ⟨256 * (J.val / 128) + 128 + J.val % 128, by omega⟩ fun l => ?_).trans
    (Cert.Reference5Ideal.Parts.values_at _ _ ⟨J.val / 128, by omega⟩ ⟨J.val % 128, by omega⟩).symm
  exact (wT_at m c t.val t.isLt _ l).trans (hostUv_at _ l ⟨J.val / 128, by omega⟩ ⟨J.val % 128, by omega⟩)

/-- The arrays after the launch are the reference's results. -/
theorem finalA : (dats m 0 c).arrAt 8 (cfgs 0).N = refA m c := by
  refine (dats m 0 c).arrAt_eq_of_covers 8 _ (by decide +kernel) fun t _ y => ?_
  blk_simp
  rw [after0_8]
  have ht : t.val < 32 := (idx t).2.2.2.2.2.2.2.2.2.2.2
  obtain ⟨r, J, rfl⟩ : ∃ (r : Fin 512) (J : Fin 2048), y = ix2 r J := ⟨y 0, y 1, by funext a; fin_cases a <;> rfl⟩
  have e : ((cfg0.win 8).blk t).view.emb (ix2 r J) = ix2 (⟨512 * t.val + r.val, by omega⟩ : Fin 16384) J := by blk_ext [idx t]
  exact (pointA m c t ht r J).trans (congrArg (refA m c) e.symm)

theorem finalK : (dats m 0 c).arrAt 9 (cfgs 0).N = refK m c := by
  refine (dats m 0 c).arrAt_eq_of_covers 9 _ (by decide +kernel) fun t _ y => ?_
  blk_simp
  rw [after0_9]
  have ht : t.val < 32 := (idx t).2.2.2.2.2.2.2.2.2.2.2
  obtain ⟨r, J, rfl⟩ : ∃ (r : Fin 512) (J : Fin 2048), y = ix2 r J := ⟨y 0, y 1, by funext a; fin_cases a <;> rfl⟩
  have e : ((cfg0.win 9).blk t).view.emb (ix2 r J) = ix2 (⟨512 * t.val + r.val, by omega⟩ : Fin 16384) J := by blk_ext [idx t]
  exact (pointK m c t ht r J).trans (congrArg (refK m c) e.symm)

theorem finalV : (dats m 0 c).arrAt 10 (cfgs 0).N = refV m c := by
  refine (dats m 0 c).arrAt_eq_of_covers 10 _ (by decide +kernel) fun t _ y => ?_
  blk_simp
  rw [after0_10]
  have ht : t.val < 32 := (idx t).2.2.2.2.2.2.2.2.2.2.2
  obtain ⟨J, r, rfl⟩ : ∃ (J : Fin 1024) (r : Fin 512), y = ix2 J r := ⟨y 0, y 1, by funext a; fin_cases a <;> rfl⟩
  have e : ((cfg0.win 10).blk t).view.emb (ix2 J r) = ix2 J (⟨512 * t.val + r.val, by omega⟩ : Fin 16384) := by blk_ext [idx t]
  exact (pointV m c t ht r J).trans (congrArg (refV m c) e.symm)

end Cert.Kernel5Ideal.Latent

end
-- ==== Proof.Latent.Claims.lean ====
/-
  The claims of the norm and the latent: the frames, and the equality of its three results with its reference's.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Latent.Final

@[expose] public section

noncomputable section

namespace Cert.Proof

open Idealize.ShloMosaic Idealize.SL.Sem

/-- The frame of the printed norm and latent. -/
theorem frame_P5 : Cert.quiescent_Kernel5 := fun m g _ => Cert.Kernel5.Gen.frame m g
/-- The frame of the idealized norm and latent. -/
theorem frame_PI5 : Cert.quiescent_Kernel5Ideal := fun m g _ => Cert.Kernel5Ideal.Gen.frame m g
/-- The frame of its reference. -/
theorem frame_R5 : Cert.quiescent_Reference5Ideal := by
  intro m g _
  hlo_run
  · intro _; exact ⟨trivial, trivial, trivial, trivial, trivial, trivial⟩
  · exact sem_eq_zero_of_no_sems (sig := Cert.Reference5Ideal.sig) (by decide) _
/-- Its idealization applies no rule. -/
theorem preserves5 : Cert.preserves_Kernel5_Kernel5Ideal := trivial
/-- The norm and the latent and their reference end with the same three results. -/
theorem algebraic5 : Cert.algebraic_Kernel5Ideal_Reference5Ideal := by
  intro m g m' g' _ hagree
  refine ⟨fun c => Cert.Kernel5Ideal.Latent.refA m c, fun c => Cert.Kernel5Ideal.Latent.refK m c, fun c => Cert.Kernel5Ideal.Latent.refV m c, ?_, ?_⟩
  · refine θ_run_mono (Cert.Kernel5Ideal.Value.run_blocks m g) fun r hr c => ?_
    obtain ⟨hA, hK, hV, hargs⟩ := hr c
    exact ⟨hA.trans (Cert.Kernel5Ideal.Latent.finalA m c), hK.trans (Cert.Kernel5Ideal.Latent.finalK m c),
      hV.trans (Cert.Kernel5Ideal.Latent.finalV m c), hargs⟩
  · refine θ_run_mono (Cert.Reference5Ideal.Value.run m' g') fun r hr c => ?_
    obtain ⟨hA, hK, hV, hargs⟩ := hr c
    obtain ⟨h0, h1, h2, h3, h4, h5⟩ := hagree c
    refine ⟨hA.trans ?_, (hK.trans (Cert.Reference5Ideal.Parts.resK_eq m' c)).trans ?_, (hV.trans (Cert.Reference5Ideal.Parts.resV_eq m' c)).trans ?_, hargs⟩
    · refine (show _ = Cert.Reference5Ideal.Parts.resA (m' ((c.tc : Thread Cert.Reference5Ideal.nD Cert.Reference5Ideal.τ).loc Cert.Reference5Ideal.main_arg0))
        (m' ((c.tc : Thread Cert.Reference5Ideal.nD Cert.Reference5Ideal.τ).loc Cert.Reference5Ideal.main_arg2)) from rfl).trans ?_
      rw [h0, h2]
    · rw [h0, h1, h2, h3, h4, h5]
    · rw [h0, h2, h3, h4, h5]

end Cert.Proof

end
-- ==== Proof.Rope.Step.lean ====
/-
  What a grid point of the rotary tables leaves: the tables by lanes, and the two slabs by rows, whose lanes are the lanes of the
  transposed tables rotated by a half and by a quarter.
-/
module

public import proofs.«01_k».proof.Proof.Gen.Kernel6Ideal.Frame
public import Idealize.ShloMosaic.Lib.Claim
public import Idealize.ShloMosaic.Lib.Pointwise
public import Idealize.ShloMosaic.Lib.Pipeline.ValueKit

@[expose] public section

set_option maxRecDepth 16384

noncomputable section

namespace Cert.Kernel6Ideal.Rope

open Cert.Kernel6Ideal Cert.Kernel6Ideal.Gen
open Idealize.ShloMosaic Idealize.ShloMosaic.TcCoe Idealize.SL.Sem

section Slabs

variable (w0 w1 : S1x1024x128.Idx → Elt Ideal .f32) (r : Fin 1024) (j : Fin 128)

/-- The two slabs of a block, the second stored last. -/
abbrev slabs : FVec Ideal S2x1024x128 .f32 :=
  View.canon [(⟨r0_4, w1⟩ : View.Piece (Elt Ideal) S2x1024x128 .f32), ⟨r0_3, w0⟩]

theorem slabs_1 : slabs w0 w1 (ix3 1 r j) = w1 (ix3 0 r j) := by
  have e : r0_4.emb (ix3 0 r j) = ix3 1 r j := by
    funext a
    apply Fin.ext
    fin_cases a
    · rfl
    · show 0 + 1 * r.val = r.val; omega
    · show 0 + 1 * j.val = j.val; omega
  rw [slabs, ← e]
  exact View.canon_cons_emb _ _ _ _

theorem slabs_0 : slabs w0 w1 (ix3 0 r j) = w0 (ix3 0 r j) := by
  have e : r0_3.emb (ix3 0 r j) = ix3 0 r j := by
    funext a
    apply Fin.ext
    fin_cases a
    · rfl
    · show 0 + 1 * r.val = r.val; omega
    · show 0 + 1 * j.val = j.val; omega
  have n : View.canon [(⟨r0_4, w1⟩ : View.Piece (Elt Ideal) S2x1024x128 .f32), ⟨r0_3, w0⟩] (ix3 0 r j)
      = View.canon [(⟨r0_3, w0⟩ : View.Piece (Elt Ideal) S2x1024x128 .f32)] (ix3 0 r j) := by
    refine View.canon_cons_of_not_mem _ _ fun h => ?_
    rw [Rect.mem_set_unit] at h
    have h0 : 1 ≤ 0 ∧ 0 < 2 := h 0
    omega
  rw [slabs, n, ← e]
  exact View.canon_cons_emb _ _ _ _

end Slabs

section Lanes

variable (v : Vec Ideal S128x1 .f32) (p : Vec Ideal S1x1024 .i32) (r : Fin 1024) (l : Fin 128)

/-- The angle of a lane at a position. -/
def angle : EReal := (v (ix2 l 0) : EReal) * FloatOps.sitofp (F := Ideal) .f32 (p (ix2 0 r))

theorem pay4_at : k0_pay4 (F := Ideal) v p (ix2 l r) = Ideal.cos (angle v p r l) := by
  pointwise [k0_pay4, k0_pay3, angle]

theorem pay5_at : k0_pay5 (F := Ideal) v p (ix2 l r) = Ideal.sin (angle v p r l) := by
  pointwise [k0_pay5, k0_pay3, angle]

theorem pay6_at : k0_pay6 (F := Ideal) v p (ix2 r l) = Ideal.cos (angle v p r l) := by
  rw [← pay4_at]
  pointwise [k0_pay6]

theorem pay7_at : k0_pay7 (F := Ideal) v p (ix2 r l) = Ideal.sin (angle v p r l) := by
  rw [← pay5_at]
  pointwise [k0_pay7]

/-- The lane half of the lanes further, and the lane three quarters further. -/
def half (l : Fin 128) : Fin 128 := ⟨(l.val + 64) % 128, by omega⟩
def quart (l : Fin 128) : Fin 128 := ⟨(l.val + 96) % 128, by omega⟩

theorem roll_half (x : FVec Ideal S1024x128 .f32) : dynamicRotate 1 64#32 none x rotates_S1024x128_d1 (ix2 r l) = x (ix2 r (half l)) := by
  pointwise
  exact congrArg (fun k => x (ix2 r k)) (Fin.ext (show (l.val + 128 - 64) % 128 = (l.val + 64) % 128 by omega))

theorem roll_quart (x : FVec Ideal S1024x128 .f32) : dynamicRotate 1 32#32 none x rotates_S1024x128_d1 (ix2 r l) = x (ix2 r (quart l)) := by
  pointwise
  exact congrArg (fun k => x (ix2 r k)) (Fin.ext (show (l.val + 128 - 32) % 128 = (l.val + 96) % 128 by omega))

theorem pay9_at : k0_pay9 (F := Ideal) v p (ix2 r l) = Ideal.cos (angle v p r (half l)) := by
  rw [k0_pay9, roll_half, pay6_at]

theorem pay10_at : k0_pay10 (F := Ideal) v p (ix2 r l) = Ideal.sin (angle v p r (half l)) := by
  rw [k0_pay10, roll_half, pay7_at]

/-- The lanes below a bound, as the kernel's masks say. -/
theorem low_at : k0_pay8 (ix2 r l) = if l.val < 64 then 1 else 0 := by
  pointwise [k0_pay8]
  revert l
  decide +kernel

theorem first_at : k0_pay14 (ix2 r l) = if l.val < 32 then 1 else 0 := by
  pointwise [k0_pay14]
  revert l
  decide +kernel

theorem cast_at (x : FVec Ideal S1024x128 .f32) : shapeCast S1x1024x128 x shapeCasts_S1024x128_S1x1024x128 (ix3 0 r l) = x (ix2 r l) := by
  pointwise

theorem zero_bits : Ideal.ofBits .f32 0x00000000#32 = (0 : EReal) := by
  have h : (broadcast S1x1024 (Scalar.ofBits (F := Ideal) .f32 0x00000000#32) : FVec Ideal S1x1024 .f32) (ix2 0 0) = (0 : EReal) := by
    pointwise
  exact h

/-- The first slab of the cosines. -/
theorem pay11_at : k0_pay11 (F := Ideal) v p (ix3 0 r l) = Ideal.cos (angle v p r (if l.val < 64 then l else half l)) := by
  rw [k0_pay11, cast_at]
  show (if k0_pay8 (ix2 r l) = 1 then k0_pay6 (F := Ideal) v p (ix2 r l) else k0_pay9 (F := Ideal) v p (ix2 r l)) = _
  rw [low_at, pay6_at, pay9_at]
  split_ifs <;> first | rfl | contradiction

/-- The first slab of the sines. -/
theorem pay12_at : k0_pay12 (F := Ideal) v p (ix3 0 r l) = if l.val < 64 then - Ideal.sin (angle v p r l) else Ideal.sin (angle v p r (half l)) := by
  rw [k0_pay12, cast_at]
  show (if k0_pay8 (ix2 r l) = 1 then Ideal.ofBits .f32 0x00000000#32 - k0_pay7 (F := Ideal) v p (ix2 r l) else k0_pay10 (F := Ideal) v p (ix2 r l)) = _
  rw [low_at, pay7_at, pay10_at, zero_bits, sub_eq_add_neg, zero_add]
  split_ifs <;> first | rfl | contradiction

/-- The second slab of the cosines. -/
theorem pay15_at : k0_pay1 (F := Ideal) (k0_pay15 v p) (ix3 0 r l) = Ideal.cos (angle v p r (half (if l.val < 32 then l else quart l))) := by
  rw [k0_pay1, cast_at]
  show (if k0_pay14 (ix2 r l) = 1 then k0_pay9 (F := Ideal) v p (ix2 r l)
    else dynamicRotate 1 32#32 none (k0_pay9 (F := Ideal) v p) rotates_S1024x128_d1 (ix2 r l)) = _
  rw [first_at, roll_quart, pay9_at, pay9_at]
  split_ifs <;> first | rfl | contradiction

/-- The second slab of the sines. -/
theorem pay2_at : k0_pay2 (F := Ideal) (k0_pay10 v p) (k0_pay13 v p) k0_pay14 (ix3 0 r l)
    = if l.val < 32 then - Ideal.sin (angle v p r (half l)) else Ideal.sin (angle v p r (half (quart l))) := by
  rw [k0_pay2, cast_at]
  show (if k0_pay14 (ix2 r l) = 1 then Ideal.ofBits .f32 0x00000000#32 - k0_pay10 (F := Ideal) v p (ix2 r l)
    else dynamicRotate 1 32#32 none (k0_pay10 (F := Ideal) v p) rotates_S1024x128_d1 (ix2 r l)) = _
  rw [first_at, roll_quart, pay10_at, pay10_at, zero_bits, sub_eq_add_neg, zero_add]
  split_ifs <;> first | rfl | contradiction

/-- What a point leaves in the four output blocks. -/
theorem out2_eq : out0_2 (F := Ideal) p v = k0_pay4 v p := by
  frame_out

theorem out3_eq : out0_3 (F := Ideal) p v = k0_pay5 v p := by
  frame_out

theorem ld_v : View.ld v r0_0 = v := by
  frame_out

theorem ld_p : View.ld p r0_1 = p := by
  frame_out

theorem out4_eq : out0_4 (F := Ideal) p v = slabs (k0_pay11 v p) (k0_pay1 (k0_pay15 v p)) := by
  rw [out0_4, ld_v, ld_p]

theorem out5_eq : out0_5 (F := Ideal) p v = slabs (k0_pay12 v p) (k0_pay2 (k0_pay10 v p) (k0_pay13 v p) k0_pay14) := by
  rw [out0_5, ld_v, ld_p]

end Lanes

end Cert.Kernel6Ideal.Rope

end
-- ==== Proof.Rope.Host.lean ====
/-
  The frequencies of the lanes as the host lays them out for the rotary tables, and the blocks a grid point reads.
-/
module

public import proofs.«01_k».proof.Proof.Rope.Step
public import Idealize.ShloMosaic.Lib.StableHlo.RunRead

@[expose] public section

set_option maxRecDepth 16384

noncomputable section

namespace Cert.Kernel6Ideal.Rope

open Cert.Kernel6Ideal Cert.Kernel6Ideal.Gen
open Idealize.ShloMosaic Idealize.ShloMosaic.TcCoe Idealize.SL.Sem

/-- The frequencies of a head of 128 lanes. -/
def inv64 : FVec Ideal S64 .f32 :=
  Host.powf (broadcastInDim S64 ![] bcast_S_S64 (constant S_ .f32 0x461C4000#32)) (Host.negf (Host.divf
    (mulf (sitofp .f32 (iotaInDim S64 32 0)) (broadcastInDim S64 ![] bcast_S_S64 (constant S_ .f32 0x40000000#32)))
    (broadcastInDim S64 ![] bcast_S_S64 (constant S_ .f32 0x43000000#32))))

/-- The frequencies of a head of 64 lanes. -/
def inv32 : FVec Ideal S32 .f32 :=
  Host.powf (broadcastInDim S32 ![] bcast_S_S32 (constant S_ .f32 0x461C4000#32)) (Host.negf (Host.divf
    (mulf (sitofp .f32 (iotaInDim S32 32 0)) (broadcastInDim S32 ![] bcast_S_S32 (constant S_ .f32 0x40000000#32)))
    (broadcastInDim S32 ![] bcast_S_S32 (constant S_ .f32 0x42800000#32))))

/-- The three groups of lanes. -/
def three (a : FVec Ideal S64 .f32) (b d : FVec Ideal S32 .f32) : FVec Ideal S128 .f32 :=
  concatenate S128 0 [⟨S64, a⟩, ⟨S32, b⟩, ⟨S32, d⟩] concatenates_S64_S32_S32_S128_d0

/-- The frequencies of the lanes. -/
def freq : FVec Ideal S128x1 .f32 :=
  shapeCast S128x1 (three inv64 inv32 (broadcastInDim S32 ![] bcast_S_S32 (constant S_ .f32 0x00000000#32))) shapeCasts_S128_S128x1

theorem three_congr {a a' : FVec Ideal S64 .f32} {b b' d d' : FVec Ideal S32 .f32} (ha : a = a') (hb : b = b') (hd : d = d') :
    three a b d = three a' b' d' := by
  rw [ha, hb, hd]

theorem freq_mb (l : Fin 128) (h : l.val < 64) : freq (ix2 l 0) = inv64 (ix1 ⟨l.val, h⟩) := by
  pointwise [freq, three]
  rw [dif_pos h]

theorem freq_ml (l : Fin 128) (h : 64 ≤ l.val) (h' : l.val < 96) : freq (ix2 l 0) = inv32 (ix1 ⟨l.val - 64, by omega⟩) := by
  pointwise [freq, three]
  rw [dif_neg (by omega), dif_pos (by omega)]

theorem freq_pad (l : Fin 128) (h : 96 ≤ l.val) : freq (ix2 l 0) = (0 : EReal) := by
  pointwise [freq, three]
  rw [dif_neg (by omega), dif_neg (by omega)]

variable (m : (ℓ : Loc nD τ sig) → Buf (Elt Ideal) ℓ) (c : Dev nD)

theorem entry_freq : V m c main_v18 = freq := by
  simp only [V, hostOps0, List.flatten_cons, List.flatten_nil, List.append_nil, List.cons_append, List.nil_append]
  after_reads_simp
  refine congrArg (fun z : FVec Ideal S128 .f32 => shapeCast S128x1 z shapeCasts_S128_S128x1) ?_
  refine three_congr ?_ ?_ ?_
  · after_reads_simp; rfl
  · after_reads_simp; rfl
  · after_reads_simp; rfl

/-- The block each window takes at a grid point. -/
theorem idx : ∀ t : Fin cfg0.N, win0_0.index t = ![0, t.val] ∧ win0_1.index t = ![0, 0] ∧ win0_2.index t = ![0, t.val]
    ∧ win0_3.index t = ![0, t.val] ∧ win0_4.index t = ![0, t.val, 0] ∧ win0_5.index t = ![0, t.val, 0] ∧ t.val < 16 :=
  (by decide +kernel : ∀ t : Fin grid0.N, _)

variable (t : Fin cfg0.N) (ht : t.val < 16)

/-- The blocks a point reads. -/
abbrev b0 : Vec Ideal S1x1024 .i32 := iblk m c 0 t
abbrev b1 : Vec Ideal S128x1 .f32 := iblk m c 1 t

theorem b0_at (r : Fin 1024) : b0 m c t (ix2 0 r) = m ((c : Thread nD τ).loc main_arg0) (ix2 0 ⟨1024 * t.val + r.val, by omega⟩) := by
  have e : ((cfg0.win 0).blk t).view.emb (ix2 0 r) = ix2 (0 : Fin 1) (⟨1024 * t.val + r.val, by omega⟩ : Fin 16384) := by blk_ext [idx t]
  show V m c main_arg0 (((cfg0.win 0).blk t).view.emb (ix2 0 r)) = _
  rw [e, V_main_arg0]

theorem b1_at (l : Fin 128) : b1 m c t (ix2 l 0) = freq (ix2 l 0) := by
  have e : ((cfg0.win 1).blk t).view.emb (ix2 l 0) = ix2 l 0 := by blk_ext [idx t]
  show V m c main_v18 (((cfg0.win 1).blk t).view.emb (ix2 l 0)) = _
  rw [e, entry_freq]

end Cert.Kernel6Ideal.Rope

end
-- ==== Proof.Rope.Ref.lean ====
/-
  The reference of the rotary tables, its four results in parts, each read at an index.
-/
module

public import proofs.«01_k».proof.Proof.Gen.Reference6Ideal.Run
public import Idealize.ShloMosaic.Lib.Claim
public import Idealize.ShloMosaic.Lib.Pointwise

@[expose] public section

set_option maxRecDepth 16384

noncomputable section

namespace Cert.Reference6Ideal.Parts

open Cert.Reference6Ideal Cert.Reference6Ideal.Gen
open Idealize.ShloMosaic Idealize.ShloMosaic.TcCoe Idealize.SL.Sem Idealize.ShloMosaic.StableHlo

/-- The positions as a column. -/
def pos (p : IVec S1x16384 32) : FVec Ideal S16384x1 .f32 :=
  broadcastInDim S16384x1 ![0] bcast_S16384_S16384x1_0 (sitofp .f32 (shapeCast _ p shapeCasts_S1x16384_S16384))

/-- The frequencies of a head of 128 lanes, and of 64. -/
def inv64 : FVec Ideal S64 .f32 :=
  Host.powf (broadcastInDim S64 ![] bcast_S_S64 (constant S_ .f32 0x461C4000#32)) (Host.negf (Host.divf
    (mulf (sitofp .f32 (iotaInDim S64 32 0)) (broadcastInDim S64 ![] bcast_S_S64 (constant S_ .f32 0x40000000#32)))
    (broadcastInDim S64 ![] bcast_S_S64 (constant S_ .f32 0x43000000#32))))
def inv32 : FVec Ideal S32 .f32 :=
  Host.powf (broadcastInDim S32 ![] bcast_S_S32 (constant S_ .f32 0x461C4000#32)) (Host.negf (Host.divf
    (mulf (sitofp .f32 (iotaInDim S32 32 0)) (broadcastInDim S32 ![] bcast_S_S32 (constant S_ .f32 0x40000000#32)))
    (broadcastInDim S32 ![] bcast_S_S32 (constant S_ .f32 0x42800000#32))))

/-- The angles of the positions, for a head of 128 lanes, and of 64. -/
def ang64 (p : IVec S1x16384 32) : FVec Ideal S16384x64 .f32 :=
  mulf (broadcastInDim S16384x64 ![0, 1] bcast_S16384x1_S16384x64_0_1 (pos p))
    (broadcastInDim S16384x64 ![0, 1] bcast_S1x64_S16384x64_0_1 (broadcastInDim S1x64 ![1] bcast_S64_S1x64_1 inv64))
def ang32 (p : IVec S1x16384 32) : FVec Ideal S16384x32 .f32 :=
  mulf (broadcastInDim S16384x32 ![0, 1] bcast_S16384x1_S16384x32_0_1 (pos p))
    (broadcastInDim S16384x32 ![0, 1] bcast_S1x32_S16384x32_0_1 (broadcastInDim S1x32 ![1] bcast_S32_S1x32_1 inv32))

/-- Ones, or zeros, over 32 lanes. -/
def one : FVec Ideal S16384x32 .f32 := broadcastInDim S16384x32 ![] bcast_S_S16384x32 (constant S_ .f32 0x3F800000#32)
def zero : FVec Ideal S16384x32 .f32 := broadcastInDim S16384x32 ![] bcast_S_S16384x32 (constant S_ .f32 0x00000000#32)

/-- A table by lanes: three groups of lanes, transposed. -/
def lanes (a : FVec Ideal S16384x64 .f32) (b d : FVec Ideal S16384x32 .f32) : FVec Ideal S128x16384 .f32 :=
  transpose S128x16384 [1, 0] (concatenate S16384x128 1 [⟨S16384x64, a⟩, ⟨S16384x32, b⟩, ⟨S16384x32, d⟩]
    concatenates_S16384x64_S16384x32_S16384x32_S16384x128_d1) transposes_S16384x128_S128x16384_1_0

/-- A table by rows: a slab of two groups of lanes, and a slab of four, the last the first lanes of another group. -/
def rows (a a' : FVec Ideal S16384x64 .f32) (b b' d : FVec Ideal S16384x32 .f32) (e : FVec Ideal S16384x64 .f32) : FVec Ideal S2x16384x128 .f32 :=
  concatenate S2x16384x128 0
    [⟨S1x16384x128, broadcastInDim S1x16384x128 ![1, 2] bcast_S16384x128_S1x16384x128_1_2
      (concatenate S16384x128 1 [⟨S16384x64, a⟩, ⟨S16384x64, a'⟩] concatenates_S16384x64_S16384x64_S16384x128_d1)⟩,
     ⟨S1x16384x128, broadcastInDim S1x16384x128 ![1, 2] bcast_S16384x128_S1x16384x128_1_2
      (concatenate S16384x128 1 [⟨S16384x32, b⟩, ⟨S16384x32, b'⟩, ⟨S16384x32, d⟩,
        ⟨S16384x32, extractStridedSlice S16384x32 ![0, 0] e slices_S16384x64_S16384x32_0_0⟩]
        concatenates_S16384x32_S16384x32_S16384x32_S16384x32_S16384x128_d1)⟩]
    concatenates_S1x16384x128_S1x16384x128_S2x16384x128_d0

/-- The four results. -/
def resCt (p : IVec S1x16384 32) : FVec Ideal S128x16384 .f32 := lanes (Host.cos (ang64 p)) (Host.cos (ang32 p)) one
def resSt (p : IVec S1x16384 32) : FVec Ideal S128x16384 .f32 := lanes (Host.sin (ang64 p)) (Host.sin (ang32 p)) zero
def resCos (p : IVec S1x16384 32) : FVec Ideal S2x16384x128 .f32 :=
  rows (Host.cos (ang64 p)) (Host.cos (ang64 p)) (Host.cos (ang32 p)) (Host.cos (ang32 p)) one (Host.cos (ang64 p))
def resSin (p : IVec S1x16384 32) : FVec Ideal S2x16384x128 .f32 :=
  rows (Host.negf (Host.sin (ang64 p))) (Host.sin (ang64 p)) (Host.negf (Host.sin (ang32 p))) (Host.sin (ang32 p)) zero (Host.sin (ang64 p))

section

variable (m : (ℓ : Loc nD τ sig) → Buf (Elt Ideal) ℓ) (c : Dev nD)

theorem resCos_eq : Cert.Reference6Ideal.Value.res_out2 m c = resCos (m ((c.tc : Thread nD τ).loc main_arg0)) := rfl

theorem resSin_eq : Cert.Reference6Ideal.Value.res_out3 m c = resSin (m ((c.tc : Thread nD τ).loc main_arg0)) := rfl

end

theorem ang64_at (p : IVec S1x16384 32) (r : Fin 16384) (i : Fin 64) :
    ang64 p (ix2 r i) = FloatOps.sitofp (F := Ideal) .f32 (p (ix2 0 r)) * inv64 (ix1 i) := by
  pointwise [ang64, pos]

theorem ang32_at (p : IVec S1x16384 32) (r : Fin 16384) (i : Fin 32) :
    ang32 p (ix2 r i) = FloatOps.sitofp (F := Ideal) .f32 (p (ix2 0 r)) * inv32 (ix1 i) := by
  pointwise [ang32, pos]

theorem one_at (r : Fin 16384) (i : Fin 32) : one (ix2 r i) = (1 : EReal) := by
  pointwise [one]

theorem zero_at (r : Fin 16384) (i : Fin 32) : zero (ix2 r i) = (0 : EReal) := by
  pointwise [zero]

section

variable (a a' e : FVec Ideal S16384x64 .f32) (b b' d : FVec Ideal S16384x32 .f32) (r : Fin 16384) (l : Fin 128)

theorem lanes_1 (h : l.val < 64) : lanes a b d (ix2 l r) = a (ix2 r ⟨l.val, h⟩) := by
  pointwise [lanes]
  rw [dif_pos h]

theorem lanes_2 (h : 64 ≤ l.val) (h' : l.val < 96) : lanes a b d (ix2 l r) = b (ix2 r ⟨l.val - 64, by omega⟩) := by
  pointwise [lanes]
  rw [dif_neg (by omega), dif_pos (by omega)]

theorem lanes_3 (h : 96 ≤ l.val) : lanes a b d (ix2 l r) = d (ix2 r ⟨l.val - 96, by omega⟩) := by
  pointwise [lanes]
  rw [dif_neg (by omega), dif_neg (by omega)]
  exact congrArg (fun k => d (ix2 r k)) (Fin.ext (show l.val - 64 - 32 = l.val - 96 by omega))

theorem rows_01 (h : l.val < 64) : rows a a' b b' d e (ix3 0 r l) = a (ix2 r ⟨l.val, h⟩) := by
  pointwise [rows]
  rw [dif_pos h]

theorem rows_02 (h : 64 ≤ l.val) : rows a a' b b' d e (ix3 0 r l) = a' (ix2 r ⟨l.val - 64, by omega⟩) := by
  pointwise [rows]
  rw [dif_neg (by omega)]

theorem rows_11 (h : l.val < 32) : rows a a' b b' d e (ix3 1 r l) = b (ix2 r ⟨l.val, h⟩) := by
  pointwise [rows]
  rw [dif_pos h]

theorem rows_12 (h : 32 ≤ l.val) (h' : l.val < 64) : rows a a' b b' d e (ix3 1 r l) = b' (ix2 r ⟨l.val - 32, by omega⟩) := by
  pointwise [rows]
  rw [dif_neg (by omega), dif_pos (by omega)]

theorem rows_13 (h : 64 ≤ l.val) (h' : l.val < 96) : rows a a' b b' d e (ix3 1 r l) = d (ix2 r ⟨l.val - 64, by omega⟩) := by
  pointwise [rows]
  rw [dif_neg (by omega), dif_neg (by omega), dif_pos (by omega)]
  exact congrArg (fun k => d (ix2 r k)) (Fin.ext (show l.val - 32 - 32 = l.val - 64 by omega))

theorem rows_14 (h : 96 ≤ l.val) : rows a a' b b' d e (ix3 1 r l) = e (ix2 r ⟨l.val - 96, by omega⟩) := by
  pointwise [rows]
  rw [dif_neg (by omega), dif_neg (by omega), dif_neg (by omega)]
  exact congrArg (fun k => e (ix2 r k)) (Fin.ext (show l.val - 32 - 32 - 32 = l.val - 96 by omega))

end

end Cert.Reference6Ideal.Parts

end
-- ==== Proof.Rope.Final.lean ====
/-
  The rotary tables: the four arrays after the launch are the reference's results.
-/
module

public import proofs.«01_k».proof.Proof.Rope.Host
public import proofs.«01_k».proof.Proof.Rope.Ref

@[expose] public section

set_option maxRecDepth 16384

noncomputable section

namespace Cert.Kernel6Ideal.Rope

open Cert.Kernel6Ideal Cert.Kernel6Ideal.Gen
open Idealize.ShloMosaic Idealize.ShloMosaic.TcCoe Idealize.SL.Sem
open Cert.Reference6Ideal.Parts (ang64 ang32 ang64_at ang32_at one_at zero_at lanes_1 lanes_2 lanes_3 rows_01 rows_02 rows_11 rows_12 rows_13 rows_14
  resCt resSt resCos resSin)

theorem cos_zero : Ideal.cos 0 = 1 := by
  show ((Real.cos 0 : ℝ) : EReal) = 1
  rw [Real.cos_zero]
  rfl

theorem sin_zero : Ideal.sin 0 = 0 := by
  show ((Real.sin 0 : ℝ) : EReal) = 0
  rw [Real.sin_zero]
  rfl

variable (m : (ℓ : Loc nD τ sig) → Buf (Elt Ideal) ℓ) (c : Dev nD)

/-- The positions. -/
abbrev P : IVec S1x16384 32 := m ((c : Thread nD τ).loc main_arg0)

section Point

variable (t : Fin cfg0.N) (ht : t.val < 16) (r : Fin 1024) (l : Fin 128)

/-- The angle of a lane at a position of the block. -/
abbrev A (l : Fin 128) : EReal := angle (b1 m c t) (b0 m c t) r l

/-- The position's place in the sequence. -/
abbrev at' : Fin 16384 := ⟨1024 * t.val + r.val, by omega⟩

theorem angle_mb (i : Fin 64) (h : l.val = i.val) : A m c t r l = ang64 (P m c) (ix2 (at' t ht r) i) := by
  have e : (⟨l.val, by omega⟩ : Fin 64) = i := Fin.ext h
  rw [A, angle, b1_at, b0_at m c t ht, freq_mb l (by omega), e, ang64_at, mul_comm]
  rfl

theorem angle_ml (i : Fin 32) (h : l.val = 64 + i.val) : A m c t r l = ang32 (P m c) (ix2 (at' t ht r) i) := by
  have e : (⟨l.val - 64, by omega⟩ : Fin 32) = i := Fin.ext (by dsimp only; omega)
  rw [A, angle, b1_at, b0_at m c t ht, freq_ml l (by omega) (by omega), e, ang32_at, mul_comm]
  rfl

theorem angle_pad (h : 96 ≤ l.val) : A m c t r l = 0 := by
  rw [A, angle, b1_at, freq_pad l h, zero_mul]

theorem pointCt : k0_pay4 (F := Ideal) (b1 m c t) (b0 m c t) (ix2 l r) = resCt (P m c) (ix2 l (at' t ht r)) := by
  rw [pay4_at, resCt]
  by_cases h : l.val < 64
  · rw [lanes_1 _ _ _ _ _ h]
    exact congrArg Ideal.cos (angle_mb m c t ht r l _ rfl)
  by_cases h' : l.val < 96
  · rw [lanes_2 _ _ _ _ _ (by omega) h']
    exact congrArg Ideal.cos (angle_ml m c t ht r l _ (by dsimp only; omega))
  · rw [lanes_3 _ _ _ _ _ (by omega), one_at]
    exact (congrArg Ideal.cos (angle_pad m c t r l (by omega))).trans cos_zero

theorem pointSt : k0_pay5 (F := Ideal) (b1 m c t) (b0 m c t) (ix2 l r) = resSt (P m c) (ix2 l (at' t ht r)) := by
  rw [pay5_at, resSt]
  by_cases h : l.val < 64
  · rw [lanes_1 _ _ _ _ _ h]
    exact congrArg Ideal.sin (angle_mb m c t ht r l _ rfl)
  by_cases h' : l.val < 96
  · rw [lanes_2 _ _ _ _ _ (by omega) h']
    exact congrArg Ideal.sin (angle_ml m c t ht r l _ (by dsimp only; omega))
  · rw [lanes_3 _ _ _ _ _ (by omega), zero_at]
    exact (congrArg Ideal.sin (angle_pad m c t r l (by omega))).trans sin_zero

theorem half_val : (half l).val = (l.val + 64) % 128 := rfl
theorem quart_val : (quart l).val = (l.val + 96) % 128 := rfl

/-- The first slabs. -/
theorem pointCos_0 : k0_pay11 (F := Ideal) (b1 m c t) (b0 m c t) (ix3 0 r l) = resCos (P m c) (ix3 0 (at' t ht r) l) := by
  have e := half_val l
  rw [pay11_at, resCos]
  by_cases h : l.val < 64
  · rw [if_pos h, rows_01 _ _ _ _ _ _ _ _ h]
    exact congrArg Ideal.cos (angle_mb m c t ht r l _ rfl)
  · rw [if_neg h, rows_02 _ _ _ _ _ _ _ _ (by omega)]
    exact congrArg Ideal.cos (angle_mb m c t ht r _ _ (by dsimp only; omega))

theorem pointSin_0 : k0_pay12 (F := Ideal) (b1 m c t) (b0 m c t) (ix3 0 r l) = resSin (P m c) (ix3 0 (at' t ht r) l) := by
  have e := half_val l
  rw [pay12_at, resSin]
  by_cases h : l.val < 64
  · rw [if_pos h, rows_01 _ _ _ _ _ _ _ _ h]
    exact congrArg (fun x => - Ideal.sin x) (angle_mb m c t ht r l _ rfl)
  · rw [if_neg h, rows_02 _ _ _ _ _ _ _ _ (by omega)]
    exact congrArg Ideal.sin (angle_mb m c t ht r _ _ (by dsimp only; omega))

/-- The second slabs. -/
theorem pointCos_1 : k0_pay1 (F := Ideal) (k0_pay15 (b1 m c t) (b0 m c t)) (ix3 0 r l) = resCos (P m c) (ix3 1 (at' t ht r) l) := by
  have e := half_val l
  have e' := half_val (quart l)
  have q := quart_val l
  rw [pay15_at, resCos]
  by_cases h : l.val < 32
  · rw [if_pos h, rows_11 _ _ _ _ _ _ _ _ h]
    exact congrArg Ideal.cos (angle_ml m c t ht r _ _ (by dsimp only; omega))
  rw [if_neg h]
  by_cases h2 : l.val < 64
  · rw [rows_12 _ _ _ _ _ _ _ _ (by omega) h2]
    exact congrArg Ideal.cos (angle_ml m c t ht r _ _ (by dsimp only; omega))
  by_cases h3 : l.val < 96
  · rw [rows_13 _ _ _ _ _ _ _ _ (by omega) h3, one_at]
    exact (congrArg Ideal.cos (angle_pad m c t r _ (by omega))).trans cos_zero
  · rw [rows_14 _ _ _ _ _ _ _ _ (by omega)]
    exact congrArg Ideal.cos (angle_mb m c t ht r _ _ (by dsimp only; omega))

theorem pointSin_1 : k0_pay2 (F := Ideal) (k0_pay10 (b1 m c t) (b0 m c t)) (k0_pay13 (b1 m c t) (b0 m c t)) k0_pay14 (ix3 0 r l)
    = resSin (P m c) (ix3 1 (at' t ht r) l) := by
  have e := half_val l
  have e' := half_val (quart l)
  have q := quart_val l
  rw [pay2_at, resSin]
  by_cases h : l.val < 32
  · rw [if_pos h, rows_11 _ _ _ _ _ _ _ _ h]
    exact congrArg (fun x => - Ideal.sin x) (angle_ml m c t ht r _ _ (by dsimp only; omega))
  rw [if_neg h]
  by_cases h2 : l.val < 64
  · rw [rows_12 _ _ _ _ _ _ _ _ (by omega) h2]
    exact congrArg Ideal.sin (angle_ml m c t ht r _ _ (by dsimp only; omega))
  by_cases h3 : l.val < 96
  · rw [rows_13 _ _ _ _ _ _ _ _ (by omega) h3, zero_at]
    exact (congrArg Ideal.sin (angle_pad m c t r _ (by omega))).trans sin_zero
  · rw [rows_14 _ _ _ _ _ _ _ _ (by omega)]
    exact congrArg Ideal.sin (angle_mb m c t ht r _ _ (by dsimp only; omega))

end Point

/-- The positions are kept. -/
theorem kept : (dats m 0 c).arrAt 0 (cfgs 0).N = P m c :=
  ((dats m 0 c).arrAt_in 0 rfl _).trans ((A_eq m c 0).trans (V_main_arg0 m c))

/-- The arrays after the launch are the reference's results. -/
theorem finalCt : (dats m 0 c).arrAt 2 (cfgs 0).N = resCt (P m c) := by
  refine (dats m 0 c).arrAt_eq_of_covers 2 _ (by decide +kernel) fun t _ y => ?_
  blk_simp
  rw [after0_2]
  have ht : t.val < 16 := (idx t).2.2.2.2.2.2
  obtain ⟨l, r, rfl⟩ : ∃ (l : Fin 128) (r : Fin 1024), y = ix2 l r := ⟨y 0, y 1, by funext a; fin_cases a <;> rfl⟩
  have e : ((cfg0.win 2).blk t).view.emb (ix2 l r) = ix2 l (at' t ht r) := by blk_ext [idx t]
  exact (congrFun (out2_eq (b1 m c t) (b0 m c t)) _).trans ((pointCt m c t ht r l).trans (congrArg (resCt (P m c)) e.symm))

theorem finalSt : (dats m 0 c).arrAt 3 (cfgs 0).N = resSt (P m c) := by
  refine (dats m 0 c).arrAt_eq_of_covers 3 _ (by decide +kernel) fun t _ y => ?_
  blk_simp
  rw [after0_3]
  have ht : t.val < 16 := (idx t).2.2.2.2.2.2
  obtain ⟨l, r, rfl⟩ : ∃ (l : Fin 128) (r : Fin 1024), y = ix2 l r := ⟨y 0, y 1, by funext a; fin_cases a <;> rfl⟩
  have e : ((cfg0.win 3).blk t).view.emb (ix2 l r) = ix2 l (at' t ht r) := by blk_ext [idx t]
  exact (congrFun (out3_eq (b1 m c t) (b0 m c t)) _).trans ((pointSt m c t ht r l).trans (congrArg (resSt (P m c)) e.symm))

theorem finalCos : (dats m 0 c).arrAt 4 (cfgs 0).N = resCos (P m c) := by
  refine (dats m 0 c).arrAt_eq_of_covers 4 _ (by decide +kernel) fun t _ y => ?_
  blk_simp
  rw [after0_4]
  have ht : t.val < 16 := (idx t).2.2.2.2.2.2
  obtain ⟨s, r, l, rfl⟩ : ∃ (s : Fin 2) (r : Fin 1024) (l : Fin 128), y = ix3 s r l := ⟨y 0, y 1, y 2, by funext a; fin_cases a <;> rfl⟩
  have e : ((cfg0.win 4).blk t).view.emb (ix3 s r l) = ix3 s (at' t ht r) l := by blk_ext [idx t]
  refine (congrFun (out4_eq (b1 m c t) (b0 m c t)) _).trans (Eq.trans ?_ (congrArg (resCos (P m c)) e.symm))
  fin_cases s
  · exact (slabs_0 _ _ _ _).trans (pointCos_0 m c t ht r l)
  · exact (slabs_1 _ _ _ _).trans (pointCos_1 m c t ht r l)

theorem finalSin : (dats m 0 c).arrAt 5 (cfgs 0).N = resSin (P m c) := by
  refine (dats m 0 c).arrAt_eq_of_covers 5 _ (by decide +kernel) fun t _ y => ?_
  blk_simp
  rw [after0_5]
  have ht : t.val < 16 := (idx t).2.2.2.2.2.2
  obtain ⟨s, r, l, rfl⟩ : ∃ (s : Fin 2) (r : Fin 1024) (l : Fin 128), y = ix3 s r l := ⟨y 0, y 1, y 2, by funext a; fin_cases a <;> rfl⟩
  have e : ((cfg0.win 5).blk t).view.emb (ix3 s r l) = ix3 s (at' t ht r) l := by blk_ext [idx t]
  refine (congrFun (out5_eq (b1 m c t) (b0 m c t)) _).trans (Eq.trans ?_ (congrArg (resSin (P m c)) e.symm))
  fin_cases s
  · exact (slabs_0 _ _ _ _).trans (pointSin_0 m c t ht r l)
  · exact (slabs_1 _ _ _ _).trans (pointSin_1 m c t ht r l)

end Cert.Kernel6Ideal.Rope

end
-- ==== Proof.Rope.Claims.lean ====
/-
  The claims of the rotary tables: the frames, and the equality of its four results with its reference's.
-/
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import proofs.«01_k».proof.Proof.Rope.Final

@[expose] public section

noncomputable section

namespace Cert.Proof

open Idealize.ShloMosaic Idealize.SL.Sem

/-- The frame of the printed rotary tables. -/
theorem frame_P6 : Cert.quiescent_Kernel6 := fun m g _ => Cert.Kernel6.Gen.frame m g
/-- The frame of the idealized rotary tables. -/
theorem frame_PI6 : Cert.quiescent_Kernel6Ideal := fun m g _ => Cert.Kernel6Ideal.Gen.frame m g
/-- The frame of its reference. -/
theorem frame_R6 : Cert.quiescent_Reference6Ideal := by
  intro m g _
  hlo_run
  · intro _; exact trivial
  · exact sem_eq_zero_of_no_sems (sig := Cert.Reference6Ideal.sig) (by decide) _
/-- Its idealization applies no rule. -/
theorem preserves6 : Cert.preserves_Kernel6_Kernel6Ideal := trivial
/-- The rotary tables and their reference end with the same four results. -/
theorem algebraic6 : Cert.algebraic_Kernel6Ideal_Reference6Ideal := by
  intro m g m' g' _ hagree
  refine ⟨fun c => Cert.Reference6Ideal.Parts.resCt (Cert.Kernel6Ideal.Rope.P m c), fun c => Cert.Reference6Ideal.Parts.resSt (Cert.Kernel6Ideal.Rope.P m c),
    fun c => Cert.Reference6Ideal.Parts.resCos (Cert.Kernel6Ideal.Rope.P m c), fun c => Cert.Reference6Ideal.Parts.resSin (Cert.Kernel6Ideal.Rope.P m c), ?_, ?_⟩
  · refine θ_run_mono (Cert.Kernel6Ideal.Gen.run_main m g) fun r hr c => ?_
    exact ⟨((hr c).1 2).trans (Cert.Kernel6Ideal.Rope.finalCt m c), ((hr c).1 3).trans (Cert.Kernel6Ideal.Rope.finalSt m c),
      ((hr c).1 4).trans (Cert.Kernel6Ideal.Rope.finalCos m c), ((hr c).1 5).trans (Cert.Kernel6Ideal.Rope.finalSin m c),
      ((hr c).1 0).trans (Cert.Kernel6Ideal.Rope.kept m c)⟩
  · refine θ_run_mono (Cert.Reference6Ideal.Value.run m' g') fun r hr c => ?_
    obtain ⟨h2, h3, h4, h5, hargs⟩ := hr c
    refine ⟨h2.trans ?_, h3.trans ?_, (h4.trans (Cert.Reference6Ideal.Parts.resCos_eq m' c)).trans ?_,
      (h5.trans (Cert.Reference6Ideal.Parts.resSin_eq m' c)).trans ?_, hargs⟩
    · refine (show _ = Cert.Reference6Ideal.Parts.resCt (m' ((c.tc : Thread Cert.Reference6Ideal.nD Cert.Reference6Ideal.τ).loc Cert.Reference6Ideal.main_arg0)) from rfl).trans ?_
      rw [hagree c]
    · refine (show _ = Cert.Reference6Ideal.Parts.resSt (m' ((c.tc : Thread Cert.Reference6Ideal.nD Cert.Reference6Ideal.τ).loc Cert.Reference6Ideal.main_arg0)) from rfl).trans ?_
      rw [hagree c]
    · rw [hagree c]
    · rw [hagree c]

end Cert.Proof

end
-- ==== Proof.lean ====
/-
  The claims, each from its own module. Of the attention: the frames of the printed and the idealized kernel (one run each,
  `MlaPrinted/Launch.lean` and `Mla/Launch.lean`), the reference's, the naming of the mask's constant, and the equality of
  the kernel's result with the reference's (`Mla/Value.lean`). Of the other calls: `Rest/Claims.lean`
  and, for the norm and the latent, `Latent/Claims.lean`, and for the rotary tables `Rope/Claims.lean`.
-/
module

public import proofs.«01_k».proof.Defs
public import proofs.«01_k».proof.Proof.MlaPrinted.Launch
public import proofs.«01_k».proof.Proof.Mla.Launch
public import proofs.«01_k».proof.Proof.Mla.RefFrame
public import proofs.«01_k».proof.Proof.Mla.PreFacts
public import proofs.«01_k».proof.Proof.Mla.Value
public import proofs.«01_k».proof.Proof.Rest.Claims
public import proofs.«01_k».proof.Proof.Latent.Claims
public import proofs.«01_k».proof.Proof.Rope.Claims

@[expose] public section

noncomputable section

namespace Cert.Proof

open Idealize.ShloMosaic Idealize.SL.Sem

/-- The printed kernel's frame. -/
theorem frame_P : Cert.quiescent_Kernel := fun m g _ => Cert.Kernel.Mla.frame_main (F := Bits) m g
/-- The idealized kernel's frame. -/
theorem frame_PI : Cert.quiescent_KernelIdeal := fun m g _ => Cert.KernelIdeal.Mla.frame_main (F := Ideal) m g
/-- The mask's constant is named minus infinity. -/
theorem preserves : Cert.preserves_Kernel_KernelIdeal := IdealRules.named_const.statement _ _ _ _ _ (by rfl)

/-- The idealized kernel's frame under the precondition. -/
theorem frame_PI_pre [hp : Cert.Pre_finite.Facts] : Cert.quiescent_KernelIdeal_pre_finite := fun m g _ => Cert.KernelIdeal.Mla.frame_main (F := Ideal) m g

/-- Under the precondition the idealized kernel and the reference end with one result. -/
theorem algebraic [hp : Cert.Pre_finite.Facts] : Cert.algebraic_KernelIdeal_ReferenceIdeal_pre_finite := by
  pair_intro
  · run_from Cert.KernelIdeal.Mla.run_arrays m g
    · exact Cert.KernelIdeal.Gen.V_main_arg0 m c
    · exact Cert.KernelIdeal.Gen.V_main_arg1 m c
    · exact Cert.KernelIdeal.Gen.V_main_arg2 m c
    · exact Cert.KernelIdeal.Gen.V_main_arg3 m c
    · exact Cert.KernelIdeal.Gen.V_main_arg4 m c
  · hlo_run
    obtain ⟨h0, h1, h2, h3⟩ := hpre c
    exact (Cert.KernelIdeal.Mla.final m c (real_of_test _ _ h0) (real_of_test _ _ h1) (real_of_test _ _ h2) (real_of_test _ _ h3)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, pre_facts,
  frame_P, frame_PI, frame_PI_pre (hp := pre_facts), frame_R, frame_R_pre (hp := pre_facts),
  frame_P2, frame_PI2, frame_R2, frame_P3, frame_PI3, frame_R3, frame_P4, frame_PI4, frame_R4, frame_P5, frame_PI5, frame_R5,
  frame_P6, frame_PI6, frame_R6,
  preserves, algebraic (hp := pre_facts), preserves2, algebraic2, preserves3, algebraic3, preserves4, algebraic4, preserves5, algebraic5,
  preserves6, algebraic6⟩

end Cert.Proof

end
